-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale_log2e" .f32 0x3DE995B3#32 (((Real.sqrt 160)⁻¹ * (Real.log 2)⁻¹ : ℝ) : EReal)

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S2048x1x48x160 : Shape := ⟨4, ![2048, 1, 48, 160]⟩
abbrev S2048x1x4x160 : Shape := ⟨4, ![2048, 1, 4, 160]⟩
abbrev S1280x4x160 : Shape := ⟨3, ![1280, 4, 160]⟩
abbrev S1280x4x5 : Shape := ⟨3, ![1280, 4, 5]⟩
abbrev S2048x224x4x160 : Shape := ⟨4, ![2048, 224, 4, 160]⟩
abbrev S2048x224x4 : Shape := ⟨3, ![2048, 224, 4]⟩
abbrev S2048 : Shape := ⟨1, ![2048]⟩
abbrev S_ : Shape := ⟨0, ![]⟩

class Facts : Prop where
  bcast_S_S1280x4x5 : S_.BroadcastsInDim S1280x4x5 (![] : Fin 0 → Fin S1280x4x5.rank)
  bcast_S_S2048 : S_.BroadcastsInDim S2048 (![] : Fin 0 → Fin S2048.rank)

variable [Facts]

def fn {F : FTy → Type} [FloatOps F] (main_arg0 : FVec F S2048x1x48x160 .bf16) (main_arg1 : FVec F S2048x1x4x160 .bf16) (main_arg2 : FVec F S2048x1x4x160 .bf16) (main_arg3 : FVec F S1280x4x160 .fp8e4m3) (main_arg4 : FVec F S1280x4x160 .fp8e4m3) (main_arg5 : IVec S1280x4x5 8) (main_arg6 : IVec S1280x4x5 8) (main_arg7 : FVec F S2048x224x4x160 .fp8e4m3) (main_arg8 : FVec F S2048x224x4x160 .fp8e4m3) (main_arg9 : FVec F S2048x224x4 .f32) (main_arg10 : FVec F S2048x224x4 .f32) (main_arg11 : IVec S2048 32) : IVec S1280x4x5 1 × IVec S1280x4x5 1 × IVec S1280x4x5 1 × IVec S1280x4x5 1 × IVec S2048 1 :=
  let main_c : IVec S_ 8 := constantI S_ 8 1#8
  let main_v0 : IVec S1280x4x5 8 := broadcastInDim S1280x4x5 ![] bcast_S_S1280x4x5 main_c
  let main_v1 : IVec S1280x4x5 1 := cmpi .uge main_arg5 main_v0
  let main_c_0 : IVec S_ 8 := constantI S_ 8 254#8
  let main_v2 : IVec S1280x4x5 8 := broadcastInDim S1280x4x5 ![] bcast_S_S1280x4x5 main_c_0
  let main_v3 : IVec S1280x4x5 1 := cmpi .ule main_arg5 main_v2
  let main_c_1 : IVec S_ 8 := constantI S_ 8 1#8
  let main_v4 : IVec S1280x4x5 8 := broadcastInDim S1280x4x5 ![] bcast_S_S1280x4x5 main_c_1
  let main_v5 : IVec S1280x4x5 1 := cmpi .uge main_arg6 main_v4
  let main_c_2 : IVec S_ 8 := constantI S_ 8 254#8
  let main_v6 : IVec S1280x4x5 8 := broadcastInDim S1280x4x5 ![] bcast_S_S1280x4x5 main_c_2
  let main_v7 : IVec S1280x4x5 1 := cmpi .ule main_arg6 main_v6
  let main_c_3 : IVec S_ 32 := constantI S_ 32 224#32
  let main_v8 : IVec S2048 32 := broadcastInDim S2048 ![] bcast_S_S2048 main_c_3
  let main_v9 : IVec S2048 1 := cmpi .sle main_arg11 main_v8
  (main_v1, main_v3, main_v5, main_v7, main_v9)
-- ==== Kernel.lean ====
abbrev S2048x1x48x160 : Shape := ⟨4, ![2048, 1, 48, 160]⟩
abbrev S2048x1x4x160 : Shape := ⟨4, ![2048, 1, 4, 160]⟩
abbrev S1280x4x160 : Shape := ⟨3, ![1280, 4, 160]⟩
abbrev S1280x4x5 : Shape := ⟨3, ![1280, 4, 5]⟩
abbrev S2048x224x4x160 : Shape := ⟨4, ![2048, 224, 4, 160]⟩
abbrev S2048x224x4 : Shape := ⟨3, ![2048, 224, 4]⟩
abbrev S2048 : Shape := ⟨1, ![2048]⟩
abbrev S1x48x160x2048 : Shape := ⟨4, ![1, 48, 160, 2048]⟩
abbrev S48x160x2048 : Shape := ⟨3, ![48, 160, 2048]⟩
abbrev S1x4x160x2048 : Shape := ⟨4, ![1, 4, 160, 2048]⟩
abbrev S4x160x2048 : Shape := ⟨3, ![4, 160, 2048]⟩
abbrev S4x160x1280 : Shape := ⟨3, ![4, 160, 1280]⟩
abbrev S5x4x1280 : Shape := ⟨3, ![5, 4, 1280]⟩
abbrev S224x4x160x2048 : Shape := ⟨4, ![224, 4, 160, 2048]⟩
abbrev S224x4x2048 : Shape := ⟨3, ![224, 4, 2048]⟩
abbrev S2048x7680 : Shape := ⟨2, ![2048, 7680]⟩
abbrev S12x160x128 : Shape := ⟨3, ![12, 160, 128]⟩
abbrev S1x160x128 : Shape := ⟨3, ![1, 160, 128]⟩
abbrev S224x1x160x128 : Shape := ⟨4, ![224, 1, 160, 128]⟩
abbrev S224x4x128 : Shape := ⟨3, ![224, 4, 128]⟩
abbrev S128x1920 : Shape := ⟨2, ![128, 1920]⟩
abbrev S2x2176x128 : Shape := ⟨3, ![2, 2176, 128]⟩
abbrev S2176x128 : Shape := ⟨2, ![2176, 128]⟩
abbrev S2x128x160x128 : Shape := ⟨4, ![2, 128, 160, 128]⟩
abbrev S128x256 : Shape := ⟨2, ![128, 256]⟩
abbrev S1x1x1280 : Shape := ⟨3, ![1, 1, 1280]⟩
abbrev S1x1280 : Shape := ⟨2, ![1, 1280]⟩
abbrev S1x32x1280 : Shape := ⟨3, ![1, 32, 1280]⟩
abbrev S32x1280 : Shape := ⟨2, ![32, 1280]⟩
abbrev S128x128 : Shape := ⟨2, ![128, 128]⟩
abbrev S160x128 : Shape := ⟨2, ![160, 128]⟩
abbrev S128x160 : Shape := ⟨2, ![128, 160]⟩
abbrev S1x128x128 : Shape := ⟨3, ![1, 128, 128]⟩
abbrev S128x32 : Shape := ⟨2, ![128, 32]⟩
abbrev S1x128x32 : Shape := ⟨3, ![1, 128, 32]⟩
abbrev S1x160x1280 : Shape := ⟨3, ![1, 160, 1280]⟩
abbrev S160x1280 : Shape := ⟨2, ![160, 1280]⟩
abbrev S128x1280 : Shape := ⟨2, ![128, 1280]⟩
abbrev S128 : Shape := ⟨1, ![128]⟩
abbrev S128x1 : Shape := ⟨2, ![128, 1]⟩
abbrev S128x1x32x128 : Shape := ⟨4, ![128, 1, 32, 128]⟩
abbrev S128x32x128 : Shape := ⟨3, ![128, 32, 128]⟩
abbrev S96x1x32x128 : Shape := ⟨4, ![96, 1, 32, 128]⟩
abbrev S96x32x128 : Shape := ⟨3, ![96, 32, 128]⟩
abbrev S128x32x32 : Shape := ⟨3, ![128, 32, 32]⟩
abbrev S1x128x32x128 : Shape := ⟨4, ![1, 128, 32, 128]⟩
abbrev S128x32x96 : Shape := ⟨3, ![128, 32, 96]⟩
abbrev S224x1x128 : Shape := ⟨3, ![224, 1, 128]⟩
abbrev S224x128 : Shape := ⟨2, ![224, 128]⟩
abbrev S128x224 : Shape := ⟨2, ![128, 224]⟩
abbrev S1x256 : Shape := ⟨2, ![1, 256]⟩
abbrev S1 : Shape := ⟨1, ![1]⟩
abbrev S1x16x128 : Shape := ⟨3, ![1, 16, 128]⟩
abbrev S16x128 : Shape := ⟨2, ![16, 128]⟩
abbrev S1x16x32 : Shape := ⟨3, ![1, 16, 32]⟩
abbrev S16x32 : Shape := ⟨2, ![16, 32]⟩
abbrev S16x160 : Shape := ⟨2, ![16, 160]⟩
abbrev S1x1x160x128 : Shape := ⟨4, ![1, 1, 160, 128]⟩
abbrev S160x256 : Shape := ⟨2, ![160, 256]⟩
abbrev S16x256 : Shape := ⟨2, ![16, 256]⟩
abbrev S16x1 : Shape := ⟨2, ![16, 1]⟩
abbrev S16 : Shape := ⟨1, ![16]⟩
abbrev S16x96 : Shape := ⟨2, ![16, 96]⟩

abbrev nBuf : Space → Nat
  | .hbm => 26
  | .vmem => 30
  | .smem => 1
  | _ => 0

abbrev bufTy : (tb : Table) → Fin (tcTables nBuf tb) → BufTy
  | .hbm, ⟨0, _⟩ => ⟨S2048x1x48x160, .bf16⟩
  | .hbm, ⟨1, _⟩ => ⟨S2048x1x4x160, .bf16⟩
  | .hbm, ⟨2, _⟩ => ⟨S2048x1x4x160, .bf16⟩
  | .hbm, ⟨3, _⟩ => ⟨S1280x4x160, .fp8e4m3⟩
  | .hbm, ⟨4, _⟩ => ⟨S1280x4x160, .fp8e4m3⟩
  | .hbm, ⟨5, _⟩ => ⟨S1280x4x5, .i8⟩
  | .hbm, ⟨6, _⟩ => ⟨S1280x4x5, .i8⟩
  | .hbm, ⟨7, _⟩ => ⟨S2048x224x4x160, .fp8e4m3⟩
  | .hbm, ⟨8, _⟩ => ⟨S2048x224x4x160, .fp8e4m3⟩
  | .hbm, ⟨9, _⟩ => ⟨S2048x224x4, .f32⟩
  | .hbm, ⟨10, _⟩ => ⟨S2048x224x4, .f32⟩
  | .hbm, ⟨11, _⟩ => ⟨S1x48x160x2048, .bf16⟩
  | .hbm, ⟨12, _⟩ => ⟨S48x160x2048, .bf16⟩
  | .hbm, ⟨13, _⟩ => ⟨S1x4x160x2048, .bf16⟩
  | .hbm, ⟨14, _⟩ => ⟨S4x160x2048, .bf16⟩
  | .hbm, ⟨15, _⟩ => ⟨S1x4x160x2048, .bf16⟩
  | .hbm, ⟨16, _⟩ => ⟨S4x160x2048, .bf16⟩
  | .hbm, ⟨17, _⟩ => ⟨S4x160x1280, .fp8e4m3⟩
  | .hbm, ⟨18, _⟩ => ⟨S4x160x1280, .fp8e4m3⟩
  | .hbm, ⟨19, _⟩ => ⟨S5x4x1280, .i8⟩
  | .hbm, ⟨20, _⟩ => ⟨S5x4x1280, .i8⟩
  | .hbm, ⟨21, _⟩ => ⟨S224x4x160x2048, .fp8e4m3⟩
  | .hbm, ⟨22, _⟩ => ⟨S224x4x160x2048, .fp8e4m3⟩
  | .hbm, ⟨23, _⟩ => ⟨S224x4x2048, .f32⟩
  | .hbm, ⟨24, _⟩ => ⟨S224x4x2048, .f32⟩
  | .hbm, ⟨25, _⟩ => ⟨S2048x7680, .bf16⟩
  | .local _ .vmem, ⟨0, _⟩ => ⟨S12x160x128, .bf16⟩
  | .local _ .vmem, ⟨1, _⟩ => ⟨S12x160x128, .bf16⟩
  | .local _ .vmem, ⟨2, _⟩ => ⟨S1x160x128, .bf16⟩
  | .local _ .vmem, ⟨3, _⟩ => ⟨S1x160x128, .bf16⟩
  | .local _ .vmem, ⟨4, _⟩ => ⟨S1x160x128, .bf16⟩
  | .local _ .vmem, ⟨5, _⟩ => ⟨S1x160x128, .bf16⟩
  | .local _ .vmem, ⟨6, _⟩ => ⟨S4x160x1280, .fp8e4m3⟩
  | .local _ .vmem, ⟨7, _⟩ => ⟨S4x160x1280, .fp8e4m3⟩
  | .local _ .vmem, ⟨8, _⟩ => ⟨S5x4x1280, .i8⟩
  | .local _ .vmem, ⟨9, _⟩ => ⟨S5x4x1280, .i8⟩
  | .local _ .vmem, ⟨10, _⟩ => ⟨S224x1x160x128, .fp8e4m3⟩
  | .local _ .vmem, ⟨11, _⟩ => ⟨S224x1x160x128, .fp8e4m3⟩
  | .local _ .vmem, ⟨12, _⟩ => ⟨S224x1x160x128, .fp8e4m3⟩
  | .local _ .vmem, ⟨13, _⟩ => ⟨S224x1x160x128, .fp8e4m3⟩
  | .local _ .vmem, ⟨14, _⟩ => ⟨S224x4x128, .f32⟩
  | .local _ .vmem, ⟨15, _⟩ => ⟨S224x4x128, .f32⟩
  | .local _ .vmem, ⟨16, _⟩ => ⟨S224x4x128, .f32⟩
  | .local _ .vmem, ⟨17, _⟩ => ⟨S224x4x128, .f32⟩
  | .local _ .vmem, ⟨18, _⟩ => ⟨S128x1920, .bf16⟩
  | .local _ .vmem, ⟨19, _⟩ => ⟨S128x1920, .bf16⟩
  | .local _ .vmem, ⟨20, _⟩ => ⟨S4x160x1280, .bf16⟩
  | .local _ .vmem, ⟨21, _⟩ => ⟨S4x160x1280, .bf16⟩
  | .local _ .vmem, ⟨22, _⟩ => ⟨S2x2176x128, .f32⟩
  | .local _ .vmem, ⟨23, _⟩ => ⟨S2x2176x128, .f32⟩
  | .local _ .vmem, ⟨24, _⟩ => ⟨S2176x128, .f32⟩
  | .local _ .vmem, ⟨25, _⟩ => ⟨S2176x128, .f32⟩
  | .local _ .vmem, ⟨26, _⟩ => ⟨S2x128x160x128, .fp8e4m3⟩
  | .local _ .vmem, ⟨27, _⟩ => ⟨S2x128x160x128, .fp8e4m3⟩
  | .local _ .vmem, ⟨28, _⟩ => ⟨S128x256, .f32⟩
  | .local _ .vmem, ⟨29, _⟩ => ⟨S128x256, .f32⟩
  | .local _ .smem, ⟨0, _⟩ => ⟨S2048, .i32⟩
  | _, _ => ⟨S2048x1x48x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_arg11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_2 : BitVec 32 := 0#32
  let c12_i32 : BitVec 32 := 12#32
  let v8 : BitVec 32 := Scalar.addi c0_i32_2 c12_i32
  let c1_i32 : BitVec 32 := 1#32
  ⟨c0_i32_2, v8, c1_i32⟩
def k0_off1 (k0_t1 : Fin k0_t1_loop.trips) : Fin 3 → Nat :=
  let c0_i32_2 : BitVec 32 := 0#32
  let c1_i32 : BitVec 32 := 1#32
  let arg25 : BitVec 32 := Scf.iv c0_i32_2 c1_i32 k0_t1
  let v103 : Index := Scalar.indexCast arg25
  let c0_83 : Index := 0#32
  let c0_84 : Index := 0#32
  ![v103.toNat, 0, 0]
def k0_mult1 (k0_t1 : Fin k0_t1_loop.trips) : BitVec 32 :=
  let c0_i32_2 : BitVec 32 := 0#32
  let c1_i32 : BitVec 32 := 1#32
  let arg25 : BitVec 32 := Scf.iv c0_i32_2 c1_i32 k0_t1
  let c136_i32 : BitVec 32 := 136#32
  let v109 : BitVec 32 := Scalar.muli arg25 c136_i32
  v109
def k0_off2 (k0_t1 : Fin k0_t1_loop.trips) : Fin 3 → Nat :=
  let c0_85 : Index := 0#32
  let c0_i32_2 : BitVec 32 := 0#32
  let c1_i32 : BitVec 32 := 1#32
  let arg25 : BitVec 32 := Scf.iv c0_i32_2 c1_i32 k0_t1
  let c136_i32 : BitVec 32 := 136#32
  let v109 : BitVec 32 := Scalar.muli arg25 c136_i32
  let v110 : BitVec 32 := v109
  let v112 : Index := Scalar.indexCast v110
  let c0_86 : Index := 0#32
  ![0, v112.toNat, 0]
def k0_off3 (k0_t1 : Fin k0_t1_loop.trips) : Fin 3 → Nat :=
  let c1_87 : Index := 1#32
  let c0_i32_2 : BitVec 32 := 0#32
  let c1_i32 : BitVec 32 := 1#32
  let arg25 : BitVec 32 := Scf.iv c0_i32_2 c1_i32 k0_t1
  let c136_i32 : BitVec 32 := 136#32
  let v109 : BitVec 32 := Scalar.muli arg25 c136_i32
  let v110 : BitVec 32 := v109
  let v117 : Index := Scalar.indexCast v110
  let c0_88 : Index := 0#32
  ![1, v117.toNat, 0]
def k0_off4 (i : grid0.Coords) : Fin 3 → Nat :=
  let arg1 : BitVec 32 := BitVec.ofNat 32 (i 1).val
  let v121 : Index := Scalar.indexCast arg1
  let c0_89 : Index := 0#32
  let c0_90 : Index := 0#32
  ![v121.toNat, 0, 0]
def k0_off5 (k0_t1 : Fin k0_t1_loop.trips) : Fin 2 → Nat :=
  let c0_i32_2 : BitVec 32 := 0#32
  let c1_i32 : BitVec 32 := 1#32
  let arg25 : BitVec 32 := Scf.iv c0_i32_2 c1_i32 k0_t1
  let c136_i32 : BitVec 32 := 136#32
  let v109 : BitVec 32 := Scalar.muli arg25 c136_i32
  let v110 : BitVec 32 := v109
  let v162 : Index := Scalar.indexCast v110
  let c0_110 : Index := 0#32
  ![v162.toNat, 0]
@[reducible] def k0_t2_loop : Scf.Loop 32 :=
  let c0_i32_4 : BitVec 32 := 0#32
  let c5_i32 : BitVec 32 := 5#32
  let v9 : BitVec 32 := Scalar.addi c0_i32_4 c5_i32
  let c1_i32_5 : BitVec 32 := 1#32
  ⟨c0_i32_4, v9, c1_i32_5⟩
def k0_mult2 (k0_t2 : Fin k0_t2_loop.trips) : BitVec 32 :=
  let c0_i32_4 : BitVec 32 := 0#32
  let c1_i32_5 : BitVec 32 := 1#32
  let arg25 : BitVec 32 := Scf.iv c0_i32_4 c1_i32_5 k0_t2
  let c32_i32 : BitVec 32 := 32#32
  let v103 : BitVec 32 := Scalar.muli arg25 c32_i32
  v103
def k0_off6 (k0_t2 : Fin k0_t2_loop.trips) : Fin 4 → Nat :=
  let c0_83 : Index := 0#32
  let c0_84 : Index := 0#32
  let c0_i32_4 : BitVec 32 := 0#32
  let c1_i32_5 : BitVec 32 := 1#32
  let arg25 : BitVec 32 := Scf.iv c0_i32_4 c1_i32_5 k0_t2
  let c32_i32 : BitVec 32 := 32#32
  let v103 : BitVec 32 := Scalar.muli arg25 c32_i32
  let v104 : BitVec 32 := v103
  let v105 : Index := Scalar.indexCast v104
  let c0_85 : Index := 0#32
  ![0, 0, v105.toNat, 0]
def k0_off7 (k0_t2 : Fin k0_t2_loop.trips) : Fin 4 → Nat :=
  let c128 : Index := 128#32
  let c0_86 : Index := 0#32
  let c0_i32_4 : BitVec 32 := 0#32
  let c1_i32_5 : BitVec 32 := 1#32
  let arg25 : BitVec 32 := Scf.iv c0_i32_4 c1_i32_5 k0_t2
  let c32_i32 : BitVec 32 := 32#32
  let v103 : BitVec 32 := Scalar.muli arg25 c32_i32
  let v104 : BitVec 32 := v103
  let v108 : Index := Scalar.indexCast v104
  let c0_87 : Index := 0#32
  ![128, 0, v108.toNat, 0]
def k0_off8 (k0_t2 : Fin k0_t2_loop.trips) : Fin 4 → Nat :=
  let c0_89 : Index := 0#32
  let c0_90 : Index := 0#32
  let c0_i32_4 : BitVec 32 := 0#32
  let c1_i32_5 : BitVec 32 := 1#32
  let arg25 : BitVec 32 := Scf.iv c0_i32_4 c1_i32_5 k0_t2
  let c32_i32 : BitVec 32 := 32#32
  let v103 : BitVec 32 := Scalar.muli arg25 c32_i32
  let v104 : BitVec 32 := v103
  let v114 : Index := Scalar.indexCast v104
  let c0_91 : Index := 0#32
  ![0, 0, v114.toNat, 0]
def k0_off9 (k0_t2 : Fin k0_t2_loop.trips) : Fin 4 → Nat :=
  let c1_92 : Index := 1#32
  let c0_93 : Index := 0#32
  let c0_i32_4 : BitVec 32 := 0#32
  let c1_i32_5 : BitVec 32 := 1#32
  let arg25 : BitVec 32 := Scf.iv c0_i32_4 c1_i32_5 k0_t2
  let c32_i32 : BitVec 32 := 32#32
  let v103 : BitVec 32 := Scalar.muli arg25 c32_i32
  let v104 : BitVec 32 := v103
  let v120 : Index := Scalar.indexCast v104
  let c0_94 : Index := 0#32
  ![1, 0, v120.toNat, 0]
@[reducible] def k0_t3_loop : Scf.Loop 32 :=
  let c0_i32_7 : BitVec 32 := 0#32
  let c5_i32_8 : BitVec 32 := 5#32
  let v10 : BitVec 32 := Scalar.addi c0_i32_7 c5_i32_8
  let c1_i32_9 : BitVec 32 := 1#32
  ⟨c0_i32_7, v10, c1_i32_9⟩
def k0_mult3 (k0_t3 : Fin k0_t3_loop.trips) : BitVec 32 :=
  let c0_i32_7 : BitVec 32 := 0#32
  let c1_i32_9 : BitVec 32 := 1#32
  let arg25 : BitVec 32 := Scf.iv c0_i32_7 c1_i32_9 k0_t3
  let c32_i32 : BitVec 32 := 32#32
  let v103 : BitVec 32 := Scalar.muli arg25 c32_i32
  v103
def k0_off10 (k0_t3 : Fin k0_t3_loop.trips) : Fin 4 → Nat :=
  let c0_83 : Index := 0#32
  let c0_84 : Index := 0#32
  let c0_i32_7 : BitVec 32 := 0#32
  let c1_i32_9 : BitVec 32 := 1#32
  let arg25 : BitVec 32 := Scf.iv c0_i32_7 c1_i32_9 k0_t3
  let c32_i32 : BitVec 32 := 32#32
  let v103 : BitVec 32 := Scalar.muli arg25 c32_i32
  let v104 : BitVec 32 := v103
  let v105 : Index := Scalar.indexCast v104
  let c0_85 : Index := 0#32
  ![0, 0, v105.toNat, 0]
def k0_off11 (k0_t3 : Fin k0_t3_loop.trips) : Fin 4 → Nat :=
  let c128 : Index := 128#32
  let c0_86 : Index := 0#32
  let c0_i32_7 : BitVec 32 := 0#32
  let c1_i32_9 : BitVec 32 := 1#32
  let arg25 : BitVec 32 := Scf.iv c0_i32_7 c1_i32_9 k0_t3
  let c32_i32 : BitVec 32 := 32#32
  let v103 : BitVec 32 := Scalar.muli arg25 c32_i32
  let v104 : BitVec 32 := v103
  let v108 : Index := Scalar.indexCast v104
  let c0_87 : Index := 0#32
  ![128, 0, v108.toNat, 0]
def k0_off12 (k0_t3 : Fin k0_t3_loop.trips) : Fin 4 → Nat :=
  let c0_89 : Index := 0#32
  let c0_90 : Index := 0#32
  let c0_i32_7 : BitVec 32 := 0#32
  let c1_i32_9 : BitVec 32 := 1#32
  let arg25 : BitVec 32 := Scf.iv c0_i32_7 c1_i32_9 k0_t3
  let c32_i32 : BitVec 32 := 32#32
  let v103 : BitVec 32 := Scalar.muli arg25 c32_i32
  let v104 : BitVec 32 := v103
  let v114 : Index := Scalar.indexCast v104
  let c0_91 : Index := 0#32
  ![0, 0, v114.toNat, 0]
def k0_off13 (k0_t3 : Fin k0_t3_loop.trips) : Fin 4 → Nat :=
  let c1_92 : Index := 1#32
  let c0_93 : Index := 0#32
  let c0_i32_7 : BitVec 32 := 0#32
  let c1_i32_9 : BitVec 32 := 1#32
  let arg25 : BitVec 32 := Scf.iv c0_i32_7 c1_i32_9 k0_t3
  let c32_i32 : BitVec 32 := 32#32
  let v103 : BitVec 32 := Scalar.muli arg25 c32_i32
  let v104 : BitVec 32 := v103
  let v120 : Index := Scalar.indexCast v104
  let c0_94 : Index := 0#32
  ![1, 0, v120.toNat, 0]
def k0_off14 (i : grid0.Coords) : Fin 3 → Nat :=
  let c0 : Index := 0#32
  let arg1 : BitVec 32 := BitVec.ofNat 32 (i 1).val
  let v11 : Index := Scalar.indexCast arg1
  let c0_11 : Index := 0#32
  ![0, v11.toNat, 0]
@[reducible] def k0_t4_loop : Scf.Loop 32 :=
  let c0_i32_18 : BitVec 32 := 0#32
  let c128_i32 : BitVec 32 := 128#32
  let v28 : BitVec 32 := Scalar.addi c0_i32_18 c128_i32
  let c1_i32_19 : BitVec 32 := 1#32
  ⟨c0_i32_18, v28, c1_i32_19⟩
def k0_off15 (i : grid0.Coords) (k0_t4 : Fin k0_t4_loop.trips) : Fin 1 → Nat :=
  let arg0 : BitVec 32 := BitVec.ofNat 32 (i 0).val
  let c128_i32_83 : BitVec 32 := 128#32
  let v103 : BitVec 32 := Scalar.muli arg0 c128_i32_83
  let c0_i32_18 : BitVec 32 := 0#32
  let c1_i32_19 : BitVec 32 := 1#32
  let arg25 : BitVec 32 := Scf.iv c0_i32_18 c1_i32_19 k0_t4
  let v104 : BitVec 32 := Scalar.addi v103 arg25
  let v105 : Index := Scalar.indexCast v104
  ![v105.toNat]
def k0_off16 (k0_t4 : Fin k0_t4_loop.trips) : Fin 3 → Nat :=
  let c0_84 : Index := 0#32
  let c0_i32_18 : BitVec 32 := 0#32
  let c1_i32_19 : BitVec 32 := 1#32
  let arg25 : BitVec 32 := Scf.iv c0_i32_18 c1_i32_19 k0_t4
  let v107 : Index := Scalar.indexCast arg25
  let c0_85 : Index := 0#32
  ![0, v107.toNat, 0]
def k0_off17 (k0_t4 : Fin k0_t4_loop.trips) : Fin 3 → Nat :=
  let c1_86 : Index := 1#32
  let c0_i32_18 : BitVec 32 := 0#32
  let c1_i32_19 : BitVec 32 := 1#32
  let arg25 : BitVec 32 := Scf.iv c0_i32_18 c1_i32_19 k0_t4
  let v110 : Index := Scalar.indexCast arg25
  let c0_87 : Index := 0#32
  ![1, v110.toNat, 0]
def k0_off18 (k0_t4 : Fin k0_t4_loop.trips) : Fin 4 → Nat :=
  let c0_88 : Index := 0#32
  let c0_i32_18 : BitVec 32 := 0#32
  let c1_i32_19 : BitVec 32 := 1#32
  let arg25 : BitVec 32 := Scf.iv c0_i32_18 c1_i32_19 k0_t4
  let v115 : Index := Scalar.indexCast arg25
  let c0_89 : Index := 0#32
  let c0_90 : Index := 0#32
  ![0, v115.toNat, 0, 0]
def k0_off19 (k0_t4 : Fin k0_t4_loop.trips) : Fin 4 → Nat :=
  let c1_91 : Index := 1#32
  let c0_i32_18 : BitVec 32 := 0#32
  let c1_i32_19 : BitVec 32 := 1#32
  let arg25 : BitVec 32 := Scf.iv c0_i32_18 c1_i32_19 k0_t4
  let v118 : Index := Scalar.indexCast arg25
  let c0_92 : Index := 0#32
  let c0_93 : Index := 0#32
  ![1, v118.toNat, 0, 0]
def k0_off20 (k0_t4 : Fin k0_t4_loop.trips) : Fin 2 → Nat :=
  let c0_i32_18 : BitVec 32 := 0#32
  let c1_i32_19 : BitVec 32 := 1#32
  let arg25 : BitVec 32 := Scf.iv c0_i32_18 c1_i32_19 k0_t4
  let v132 : Index := Scalar.indexCast arg25
  let c0_101 : Index := 0#32
  ![v132.toNat, 0]
def k0_off21 (k0_t4 : Fin k0_t4_loop.trips) : Fin 2 → Nat :=
  let c0_i32_18 : BitVec 32 := 0#32
  let c1_i32_19 : BitVec 32 := 1#32
  let arg25 : BitVec 32 := Scf.iv c0_i32_18 c1_i32_19 k0_t4
  let v140 : Index := Scalar.indexCast arg25
  let c0_103 : Index := 0#32
  ![v140.toNat, 0]
def k0_off22 (k0_t4 : Fin k0_t4_loop.trips) : Fin 3 → Nat :=
  let c1_115 : Index := 1#32
  let c0_i32_18 : BitVec 32 := 0#32
  let c1_i32_19 : BitVec 32 := 1#32
  let arg25 : BitVec 32 := Scf.iv c0_i32_18 c1_i32_19 k0_t4
  let v183 : Index := Scalar.indexCast arg25
  let c0_116 : Index := 0#32
  ![1, v183.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S12x160x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x160x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x160x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5x4x1280 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5x4x1280 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S224x1x160x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S224x1x160x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S224x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S224x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x1920 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "scale_log2e" => some (((Real.sqrt 160)⁻¹ * (Real.log 2)⁻¹ : ℝ) : EReal)
  | _ => none
-- ==== ReferenceIdeal.lean ====
abbrev S2048x1x48x160 : Shape := ⟨4, ![2048, 1, 48, 160]⟩
abbrev S2048x1x4x160 : Shape := ⟨4, ![2048, 1, 4, 160]⟩
abbrev S1280x4x160 : Shape := ⟨3, ![1280, 4, 160]⟩
abbrev S1280x4x5 : Shape := ⟨3, ![1280, 4, 5]⟩
abbrev S2048x224x4x160 : Shape := ⟨4, ![2048, 224, 4, 160]⟩
abbrev S2048x224x4 : Shape := ⟨3, ![2048, 224, 4]⟩
abbrev S2048 : Shape := ⟨1, ![2048]⟩
abbrev S_ : Shape := ⟨0, ![]⟩
abbrev S2048x1x4x12x160 : Shape := ⟨5, ![2048, 1, 4, 12, 160]⟩
abbrev S1280x4x5x32 : Shape := ⟨4, ![1280, 4, 5, 32]⟩
abbrev S1280x4x5x1 : Shape := ⟨4, ![1280, 4, 5, 1]⟩
abbrev S4x1280x2048x1x12 : Shape := ⟨5, ![4, 1280, 2048, 1, 12]⟩
abbrev S2048x1x4x12x1280 : Shape := ⟨5, ![2048, 1, 4, 12, 1280]⟩
abbrev S2048x4x224 : Shape := ⟨3, ![2048, 4, 224]⟩
abbrev S2048x1x4x1x224 : Shape := ⟨5, ![2048, 1, 4, 1, 224]⟩
abbrev S2048x4x224x1x12 : Shape := ⟨5, ![2048, 4, 224, 1, 12]⟩
abbrev S2048x1x4x12x224 : Shape := ⟨5, ![2048, 1, 4, 12, 224]⟩
abbrev S2048x4x1x1x12 : Shape := ⟨5, ![2048, 4, 1, 1, 12]⟩
abbrev S2048x1x4x12x1 : Shape := ⟨5, ![2048, 1, 4, 12, 1]⟩
abbrev S224 : Shape := ⟨1, ![224]⟩
abbrev S1x224 : Shape := ⟨2, ![1, 224]⟩
abbrev S2048x1 : Shape := ⟨2, ![2048, 1]⟩
abbrev S2048x224 : Shape := ⟨2, ![2048, 224]⟩
abbrev S2048x1x1x1x224 : Shape := ⟨5, ![2048, 1, 1, 1, 224]⟩
abbrev S1 : Shape := ⟨1, ![1]⟩
abbrev S1x1 : Shape := ⟨2, ![1, 1]⟩
abbrev S1x1x1x1x1 : Shape := ⟨5, ![1, 1, 1, 1, 1]⟩
abbrev S2048x1x4x12 : Shape := ⟨4, ![2048, 1, 4, 12]⟩
abbrev S4x160x2048x1x12 : Shape := ⟨5, ![4, 160, 2048, 1, 12]⟩
abbrev S2048x4x160x1x12 : Shape := ⟨5, ![2048, 4, 160, 1, 12]⟩
abbrev S2048x7680 : Shape := ⟨2, ![2048, 7680]⟩

abbrev nBuf : Space → Nat
  | .hbm => 143
  | .vmem => 8
  | .smem => 0
  | _ => 0

abbrev hbmTy0_0 (i : Nat) : BufTy := match i % 128 with
  | 0 => ⟨S2048x1x48x160, .bf16⟩
  | 1 => ⟨S2048x1x4x160, .bf16⟩
  | 2 => ⟨S2048x1x4x160, .bf16⟩
  | 3 => ⟨S1280x4x160, .fp8e4m3⟩
  | 4 => ⟨S1280x4x160, .fp8e4m3⟩
  | 5 => ⟨S1280x4x5, .i8⟩
  | 6 => ⟨S1280x4x5, .i8⟩
  | 7 => ⟨S2048x224x4x160, .fp8e4m3⟩
  | 8 => ⟨S2048x224x4x160, .fp8e4m3⟩
  | 9 => ⟨S2048x224x4, .f32⟩
  | 10 => ⟨S2048x224x4, .f32⟩
  | 11 => ⟨S2048, .i32⟩
  | 12 => ⟨S_, .f32⟩
  | 13 => ⟨S_, .f32⟩
  | 14 => ⟨S_, .f32⟩
  | 15 => ⟨S_, .f32⟩
  | 16 => ⟨S1280x4x160, .bf16⟩
  | 17 => ⟨S1280x4x160, .bf16⟩
  | 18 => ⟨S2048x224x4x160, .bf16⟩
  | 19 => ⟨S2048x224x4x160, .bf16⟩
  | 20 => ⟨S2048x1x4x12x160, .bf16⟩
  | 21 => ⟨S1280x4x5, .i32⟩
  | 22 => ⟨S_, .i32⟩
  | 23 => ⟨S1280x4x5, .i32⟩
  | 24 => ⟨S1280x4x5, .i32⟩
  | 25 => ⟨S1280x4x5, .f32⟩
  | 26 => ⟨S_, .f32⟩
  | 27 => ⟨S1280x4x5, .f32⟩
  | 28 => ⟨S1280x4x5, .f32⟩
  | 29 => ⟨S1280x4x5, .bf16⟩
  | 30 => ⟨S1280x4x5x32, .bf16⟩
  | 31 => ⟨S1280x4x5x1, .bf16⟩
  | 32 => ⟨S1280x4x5x32, .bf16⟩
  | 33 => ⟨S1280x4x5x32, .bf16⟩
  | 34 => ⟨S1280x4x160, .bf16⟩
  | 35 => ⟨S1280x4x5, .i32⟩
  | 36 => ⟨S_, .i32⟩
  | 37 => ⟨S1280x4x5, .i32⟩
  | 38 => ⟨S1280x4x5, .i32⟩
  | 39 => ⟨S1280x4x5, .f32⟩
  | 40 => ⟨S_, .f32⟩
  | 41 => ⟨S1280x4x5, .f32⟩
  | 42 => ⟨S1280x4x5, .f32⟩
  | 43 => ⟨S1280x4x5, .bf16⟩
  | 44 => ⟨S1280x4x5x32, .bf16⟩
  | 45 => ⟨S1280x4x5x1, .bf16⟩
  | 46 => ⟨S1280x4x5x32, .bf16⟩
  | 47 => ⟨S1280x4x5x32, .bf16⟩
  | 48 => ⟨S1280x4x160, .bf16⟩
  | 49 => ⟨S4x1280x2048x1x12, .f32⟩
  | 50 => ⟨S2048x1x4x12x1280, .f32⟩
  | 51 => ⟨S2048x1x4x12x1280, .f32⟩
  | 52 => ⟨S2048x1x4x12x1280, .f32⟩
  | 53 => ⟨S2048x224x4, .f32⟩
  | 54 => ⟨S2048x224x4, .f32⟩
  | 55 => ⟨S2048x4x224, .f32⟩
  | 56 => ⟨S2048x1x4x1x224, .f32⟩
  | 57 => ⟨S2048x4x224x1x12, .f32⟩
  | 58 => ⟨S2048x1x4x12x224, .f32⟩
  | 59 => ⟨S2048x1x4x12x224, .f32⟩
  | 60 => ⟨S2048x1x4x12x224, .f32⟩
  | 61 => ⟨S2048x4x1x1x12, .f32⟩
  | 62 => ⟨S2048x1x4x12x1, .f32⟩
  | 63 => ⟨S2048x1x4x12x1, .f32⟩
  | 64 => ⟨S2048x1x4x12x1, .f32⟩
  | 65 => ⟨S224, .i32⟩
  | 66 => ⟨S1x224, .i32⟩
  | 67 => ⟨S2048x1, .i32⟩
  | 68 => ⟨S2048x224, .i32⟩
  | 69 => ⟨S2048x224, .i32⟩
  | 70 => ⟨S2048x224, .i1⟩
  | 71 => ⟨S2048x1x1x1x224, .i1⟩
  | 72 => ⟨S_, .f32⟩
  | 73 => ⟨S_, .f32⟩
  | 74 => ⟨S2048x1x4x12x224, .i1⟩
  | 75 => ⟨S2048x1x4x12x224, .f32⟩
  | 76 => ⟨S2048x1x4x12x224, .f32⟩
  | 77 => ⟨S1, .i32⟩
  | 78 => ⟨S1x1, .i32⟩
  | 79 => ⟨S1, .i32⟩
  | 80 => ⟨S1x1, .i32⟩
  | 81 => ⟨S1x1, .i1⟩
  | 82 => ⟨S1x1x1x1x1, .i1⟩
  | 83 => ⟨S_, .f32⟩
  | 84 => ⟨S_, .f32⟩
  | 85 => ⟨S2048x1x4x12x1, .i1⟩
  | 86 => ⟨S2048x1x4x12x1, .f32⟩
  | 87 => ⟨S2048x1x4x12x1, .f32⟩
  | 88 => ⟨S_, .f32⟩
  | 89 => ⟨S2048x1x4x12, .f32⟩
  | 90 => ⟨S2048x1x4x12x1, .f32⟩
  | 91 => ⟨S_, .f32⟩
  | 92 => ⟨S2048x1x4x12, .f32⟩
  | 93 => ⟨S2048x1x4x12x1, .f32⟩
  | 94 => ⟨S2048x1x4x12x1, .f32⟩
  | 95 => ⟨S_, .f32⟩
  | 96 => ⟨S2048x1x4x12, .f32⟩
  | 97 => ⟨S2048x1x4x12x1, .f32⟩
  | 98 => ⟨S2048x1x4x12x1, .f32⟩
  | 99 => ⟨S2048x1x4x12x1280, .f32⟩
  | 100 => ⟨S2048x1x4x12x1280, .f32⟩
  | 101 => ⟨S2048x1x4x12x1280, .f32⟩
  | 102 => ⟨S2048x1x4x12x224, .f32⟩
  | 103 => ⟨S2048x1x4x12x224, .f32⟩
  | 104 => ⟨S2048x1x4x12x224, .f32⟩
  | 105 => ⟨S2048x1x4x12x1, .f32⟩
  | 106 => ⟨S2048x1x4x12x1, .f32⟩
  | 107 => ⟨S_, .f32⟩
  | 108 => ⟨S2048x1x4x12, .f32⟩
  | 109 => ⟨S2048x1x4x12x1, .f32⟩
  | 110 => ⟨S_, .f32⟩
  | 111 => ⟨S2048x1x4x12, .f32⟩
  | 112 => ⟨S2048x1x4x12x1, .f32⟩
  | 113 => ⟨S2048x1x4x12x1, .f32⟩
  | 114 => ⟨S_, .f32⟩
  | 115 => ⟨S2048x1x4x12, .f32⟩
  | 116 => ⟨S2048x1x4x12x1, .f32⟩
  | 117 => ⟨S2048x1x4x12x1, .f32⟩
  | 118 => ⟨S_, .f32⟩
  | 119 => ⟨S2048x1x4x12x1, .f32⟩
  | 120 => ⟨S2048x1x4x12x1, .f32⟩
  | 121 => ⟨S2048x1x4x12x1280, .f32⟩
  | 122 => ⟨S2048x1x4x12x1280, .f32⟩
  | 123 => ⟨S2048x1x4x12x224, .f32⟩
  | 124 => ⟨S2048x1x4x12x224, .f32⟩
  | 125 => ⟨S2048x1x4x12x1, .f32⟩
  | 126 => ⟨S2048x1x4x12x1280, .bf16⟩
  | 127 => ⟨S4x160x2048x1x12, .f32⟩
  | _ => ⟨S2048x1x48x160, .bf16⟩

abbrev hbmTy0_1 (i : Nat) : BufTy := match i % 128 with
  | 0 => ⟨S2048x1x4x12x160, .f32⟩
  | 1 => ⟨S2048x4x224, .f32⟩
  | 2 => ⟨S2048x1x4x1x224, .f32⟩
  | 3 => ⟨S2048x1x4x12x224, .f32⟩
  | 4 => ⟨S2048x1x4x12x224, .f32⟩
  | 5 => ⟨S2048x1x4x12x224, .bf16⟩
  | 6 => ⟨S2048x4x160x1x12, .f32⟩
  | 7 => ⟨S2048x1x4x12x160, .f32⟩
  | 8 => ⟨S2048x1x4x12x1, .bf16⟩
  | 9 => ⟨S2048x4x160x1x12, .f32⟩
  | 10 => ⟨S2048x1x4x12x160, .f32⟩
  | 11 => ⟨S2048x1x4x12x160, .f32⟩
  | 12 => ⟨S2048x1x4x12x160, .f32⟩
  | 13 => ⟨S2048x7680, .f32⟩
  | 14 => ⟨S2048x7680, .bf16⟩
  | _ => ⟨S2048x1x48x160, .bf16⟩

abbrev hbmTy (i : Nat) : BufTy := match i / 128 with
  | 0 => hbmTy0_0 i
  | 1 => hbmTy0_1 i
  | _ => ⟨S2048x1x48x160, .bf16⟩

abbrev bufTy : (tb : Table) → Fin (tcTables nBuf tb) → BufTy
  | .hbm, ⟨i, _⟩ => hbmTy i
  | .local _ .vmem, ⟨0, _⟩ => ⟨S1280x4x160, .fp8e4m3⟩
  | .local _ .vmem, ⟨1, _⟩ => ⟨S1280x4x160, .fp8e4m3⟩
  | .local _ .vmem, ⟨2, _⟩ => ⟨S2048x224x4x160, .fp8e4m3⟩
  | .local _ .vmem, ⟨3, _⟩ => ⟨S2048x224x4x160, .fp8e4m3⟩
  | .local _ .vmem, ⟨4, _⟩ => ⟨S1280x4x160, .bf16⟩
  | .local _ .vmem, ⟨5, _⟩ => ⟨S1280x4x160, .bf16⟩
  | .local _ .vmem, ⟨6, _⟩ => ⟨S2048x224x4x160, .bf16⟩
  | .local _ .vmem, ⟨7, _⟩ => ⟨S2048x224x4x160, .bf16⟩
  | _, _ => ⟨S2048x1x48x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_v2_3 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_9 : Ref sig .tc := ⟨.hbm, 107, rfl⟩
abbrev main_v75 : Ref sig .tc := ⟨.hbm, 108, rfl⟩
abbrev main_v76 : Ref sig .tc := ⟨.hbm, 109, rfl⟩
abbrev main_cst_10 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_11 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_12 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1280x4x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x4x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x224x4x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x224x4x160 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x4x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x4x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x224x4x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x224x4x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Points.lean ====
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%3)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%5)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%6)) is fetched at the first point only, at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_const cc0_transform_3 (fun _ _ => rfl) (n := 64) (by decide) t : ∀ t : Fin grid0.N, Pipeline.Window.fetchOf grid0 false cc0_transform_3 t = true ↔ t.val % 64 = 0)
/-- Window 4 (operand 5 (%7)) is fetched at the first point only, at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_const cc0_transform_4 (fun _ _ => rfl) (n := 64) (by decide) t : ∀ t : Fin grid0.N, Pipeline.Window.fetchOf grid0 false cc0_transform_4 t = true ↔ t.val % 64 = 0)
/-- Window 5 (operand 6 (%8)) is fetched at the first point only, at any contents of the tables (its index map reads none). -/
theorem fetch0_5 (a : (pcfg0 (F := F)).Adm) : ∀ t : Fin (cfg0 a).N, ((cfg0 a).win 5).fetch t = true ↔ t.val % 64 = 0 :=
  (fun t => Pipeline.Window.fetchOf_const cc0_transform_5 (fun _ _ => rfl) (n := 64) (by decide) t : ∀ t : Fin grid0.N, Pipeline.Window.fetchOf grid0 false cc0_transform_5 t = true ↔ t.val % 64 = 0)
/-- Window 6 (operand 7 (%9)) is fetched at the first point only, at any contents of the tables (its index map reads none). -/
theorem fetch0_6 (a : (pcfg0 (F := F)).Adm) : ∀ t : Fin (cfg0 a).N, ((cfg0 a).win 6).fetch t = true ↔ t.val % 64 = 0 :=
  (fun t => Pipeline.Window.fetchOf_const cc0_transform_6 (fun _ _ => rfl) (n := 64) (by decide) t : ∀ t : Fin grid0.N, Pipeline.Window.fetchOf grid0 false cc0_transform_6 t = true ↔ t.val % 64 = 0)
/-- Window 7 (operand 8 (%10)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 9 (%11)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 1 (by decide) (by decide) (Pipeline.Window.sep_of_coord cc0_transform_8 1 1 (fun _ => rfl) (by decide)) (P := 1) (by decide) t).mpr (Nat.mod_one _) : ∀ t : Fin grid0.N, Pipeline.Window.fetchOf grid0 false cc0_transform_8 t = true)
/-- Window 9 (operand 10 (%12)) is fetched at the points ≡ 0 (mod 4), at any contents of the tables (its index map reads none). -/
theorem fetch0_9 (a : (pcfg0 (F := F)).Adm) : ∀ t : Fin (cfg0 a).N, ((cfg0 a).win 9).fetch t = true ↔ t.val % 4 = 0 :=
  (fun t => Pipeline.Window.fetchOf_reads cc0_transform_9 reads0_9 hreads0_9 0 (by decide) (by decide) (Pipeline.Window.sep_of_coord cc0_transform_9 0 2 (fun _ => rfl) (by decide)) (P := 4) (by decide) t : ∀ t : Fin grid0.N, Pipeline.Window.fetchOf grid0 false cc0_transform_9 t = true ↔ t.val % 4 = 0)
/-- Window 10 (operand 11 (%13)) is fetched at the points ≡ 0 (mod 4), at any contents of the tables (its index map reads none). -/
theorem fetch0_10 (a : (pcfg0 (F := F)).Adm) : ∀ t : Fin (cfg0 a).N, ((cfg0 a).win 10).fetch t = true ↔ t.val % 4 = 0 :=
  (fun t => Pipeline.Window.fetchOf_reads cc0_transform_10 reads0_10 hreads0_10 0 (by decide) (by decide) (Pipeline.Window.sep_of_coord cc0_transform_10 0 2 (fun _ => rfl) (by decide)) (P := 4) (by decide) t : ∀ t : Fin grid0.N, Pipeline.Window.fetchOf grid0 false cc0_transform_10 t = true ↔ t.val % 4 = 0)
/-- Window 11 (result 0 (%14)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade_attention (grid0.coords t) (Memref.whole main_arg11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.Kernel.Gen

end
-- ==== Proof.Kernel.Kit.lean ====
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2048 .i32 := Memref.whole main_arg11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 64 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S12x160x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x160x1280 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x160x1280 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S5x4x1280 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S5x4x1280 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S224x1x160x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S224x1x160x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S224x4x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S224x4x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S128x1920 .bf16 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S4x160x1280 .bf16 := Memref.whole cc0_scratch0
abbrev scM0_1 : Memref sig .tc .vmem S4x160x1280 .bf16 := Memref.whole cc0_scratch1
abbrev scM0_2 : Memref sig .tc .vmem S2x2176x128 .f32 := Memref.whole cc0_scratch2
abbrev scM0_3 : Memref sig .tc .vmem S2x2176x128 .f32 := Memref.whole cc0_scratch3
abbrev scM0_4 : Memref sig .tc .vmem S2176x128 .f32 := Memref.whole cc0_scratch4
abbrev scM0_5 : Memref sig .tc .vmem S2176x128 .f32 := Memref.whole cc0_scratch5
abbrev scM0_6 : Memref sig .tc .vmem S2x128x160x128 .fp8e4m3 := Memref.whole cc0_scratch6
abbrev scM0_7 : Memref sig .tc .vmem S2x128x160x128 .fp8e4m3 := Memref.whole cc0_scratch7
abbrev scM0_8 : Memref sig .tc .vmem S128x256 .f32 := Memref.whole cc0_scratch8
abbrev scM0_9 : Memref sig .tc .vmem S128x256 .f32 := Memref.whole cc0_scratch9

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Gen

end
-- ==== Proof.Kernel.SeqFrame.lean ====
/- The sequence loop of the body (128 trips) for the frame: a trip reads the table of tail lengths and seven
   scratch buffers and writes the accumulator buffer, whose contents the frame does not name. -/
module

public import proofs.«01_k».proof.Proof.Gen.Kernel.Loops

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The sequence loop's invariant: what it reads at its contents, the accumulator at some contents. -/
@[sl_loop, instance_reducible] def seqInv (𝒱 : Variants) (c : Dev nD) (bd : Option 𝒱.V) (E : Set ℕ) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg0 : BitVec 32) (v27 : IVec S1x256 32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 where
  inv _ _ := iprop((arg2.view.loc (c : Thread nD τ) ↦{fullShare.right} X2) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (∃ f, (arg18.view.loc (c : Thread nD τ) ↦[arg18.view.set]{fullShare} f)))
  step k acc := by
    unfold k0_t4_body
    simp only [k0_part20_eq_skeleton, k0_part21_eq_skeleton]
    unfold k0_part20_skel k0_part21_skel
    iintro ⟨H2, H17, H19, H20, H21, H22, H23, H24, ⟨%f, H18⟩⟩
    sl_exec
    sl_step
    isplitl [H2]; · iexact H2
    isplitl [H17]; · iexact H17
    isplitl [H19]; · iexact H19
    isplitl [H20]; · iexact H20
    isplitl [H21]; · iexact H21
    isplitl [H22]; · iexact H22
    isplitl [H23]; · iexact H23
    isplitl [H24]; · iexact H24
    iexists _; iexact H18

end Cert.Kernel.Gen

end
-- ==== Proof.Kernel.RunA.lean ====
module

public import proofs.«01_k».proof.Proof.Kernel.Kit
public import proofs.«01_k».proof.Proof.Kernel.SeqFrame

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE A (`scf.if` 0 taken: points 0): on whole staging memrefs — the inputs' at their contents,
    the FORGOTTEN outputs' (11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_attention_eq_skeleton]; unfold cc0_cascade_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexact HT0

end Cert.Kernel.Gen

end
-- ==== Proof.Kernel.RunB.lean ====
module

public import proofs.«01_k».proof.Proof.Kernel.Kit
public import proofs.«01_k».proof.Proof.Kernel.SeqFrame

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken: points 1, 2, … 63: 63 of 64): on whole staging memrefs — the inputs' at their contents,
    the FORGOTTEN outputs' (11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : ¬cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_attention_eq_skeleton]; unfold cc0_cascade_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexact HT0

end Cert.Kernel.Gen

end
-- ==== Proof.Kernel.Frame.lean ====
module

public import proofs.«01_k».proof.Proof.Kernel.RunA
public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11): nothing reads what the kernel leaves in them, so nothing
    of it is named (Lib/Pipeline/Dat.lean `Dat.toRForget`). -/
def forgets0 : Fin 12 → Bool := fun w => w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ (∃ d, owns (c : Thread nD τ) (ms0_11 m hO t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.castSucc = iprop(Pipeline.ΦA spec0 c ∗ Pipeline.ΦT pre0 (tbl m) c) from rfl, PhiT0_eq, PhiA0_eq]
  have hN : t.val < 64 := lt_of_lt_of_eq t.isLt (show (cfgM m hO).N = 64 from N_0)
  by_cases h0 : t.val % 64 = 0
  · iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO) ((θ_run defs _ _).mono (fun _ h => h.2) (run_main_quiescent m ρ hO))

end Cert.Kernel.Gen

end
-- ==== Proof.KernelIdeal.Points.lean ====
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%3)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%5)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%6)) is fetched at the first point only, at any contents of the tables (its index map reads none). -/
theorem fetch0_3 (a : (pcfg0 (F := F)).Adm) : ∀ t : Fin (cfg0 a).N, ((cfg0 a).win 3).fetch t = true ↔ t.val % 64 = 0 :=
  (fun t => Pipeline.Window.fetchOf_const cc0_transform_3 (fun _ _ => rfl) (n := 64) (by decide) t : ∀ t : Fin grid0.N, Pipeline.Window.fetchOf grid0 false cc0_transform_3 t = true ↔ t.val % 64 = 0)
/-- Window 4 (operand 5 (%7)) is fetched at the first point only, at any contents of the tables (its index map reads none). -/
theorem fetch0_4 (a : (pcfg0 (F := F)).Adm) : ∀ t : Fin (cfg0 a).N, ((cfg0 a).win 4).fetch t = true ↔ t.val % 64 = 0 :=
  (fun t => Pipeline.Window.fetchOf_const cc0_transform_4 (fun _ _ => rfl) (n := 64) (by decide) t : ∀ t : Fin grid0.N, Pipeline.Window.fetchOf grid0 false cc0_transform_4 t = true ↔ t.val % 64 = 0)
/-- Window 5 (operand 6 (%8)) is fetched at the first point only, at any contents of the tables (its index map reads none). -/
theorem fetch0_5 (a : (pcfg0 (F := F)).Adm) : ∀ t : Fin (cfg0 a).N, ((cfg0 a).win 5).fetch t = true ↔ t.val % 64 = 0 :=
  (fun t => Pipeline.Window.fetchOf_const cc0_transform_5 (fun _ _ => rfl) (n := 64) (by decide) t : ∀ t : Fin grid0.N, Pipeline.Window.fetchOf grid0 false cc0_transform_5 t = true ↔ t.val % 64 = 0)
/-- Window 6 (operand 7 (%9)) is fetched at the first point only, at any contents of the tables (its index map reads none). -/
theorem fetch0_6 (a : (pcfg0 (F := F)).Adm) : ∀ t : Fin (cfg0 a).N, ((cfg0 a).win 6).fetch t = true ↔ t.val % 64 = 0 :=
  (fun t => Pipeline.Window.fetchOf_const cc0_transform_6 (fun _ _ => rfl) (n := 64) (by decide) t : ∀ t : Fin grid0.N, Pipeline.Window.fetchOf grid0 false cc0_transform_6 t = true ↔ t.val % 64 = 0)
/-- Window 7 (operand 8 (%10)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 9 (%11)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 1 (by decide) (by decide) (Pipeline.Window.sep_of_coord cc0_transform_8 1 1 (fun _ => rfl) (by decide)) (P := 1) (by decide) t).mpr (Nat.mod_one _) : ∀ t : Fin grid0.N, Pipeline.Window.fetchOf grid0 false cc0_transform_8 t = true)
/-- Window 9 (operand 10 (%12)) is fetched at the points ≡ 0 (mod 4), at any contents of the tables (its index map reads none). -/
theorem fetch0_9 (a : (pcfg0 (F := F)).Adm) : ∀ t : Fin (cfg0 a).N, ((cfg0 a).win 9).fetch t = true ↔ t.val % 4 = 0 :=
  (fun t => Pipeline.Window.fetchOf_reads cc0_transform_9 reads0_9 hreads0_9 0 (by decide) (by decide) (Pipeline.Window.sep_of_coord cc0_transform_9 0 2 (fun _ => rfl) (by decide)) (P := 4) (by decide) t : ∀ t : Fin grid0.N, Pipeline.Window.fetchOf grid0 false cc0_transform_9 t = true ↔ t.val % 4 = 0)
/-- Window 10 (operand 11 (%13)) is fetched at the points ≡ 0 (mod 4), at any contents of the tables (its index map reads none). -/
theorem fetch0_10 (a : (pcfg0 (F := F)).Adm) : ∀ t : Fin (cfg0 a).N, ((cfg0 a).win 10).fetch t = true ↔ t.val % 4 = 0 :=
  (fun t => Pipeline.Window.fetchOf_reads cc0_transform_10 reads0_10 hreads0_10 0 (by decide) (by decide) (Pipeline.Window.sep_of_coord cc0_transform_10 0 2 (fun _ => rfl) (by decide)) (P := 4) (by decide) t : ∀ t : Fin grid0.N, Pipeline.Window.fetchOf grid0 false cc0_transform_10 t = true ↔ t.val % 4 = 0)
/-- Window 11 (result 0 (%14)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_cascade_attention (grid0.coords t) (Memref.whole main_arg11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.KernelIdeal.Gen

end
-- ==== Proof.KernelIdeal.Kit.lean ====
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2048 .i32 := Memref.whole main_arg11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 64 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S12x160x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x160x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x160x1280 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x160x1280 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S5x4x1280 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S5x4x1280 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S224x1x160x128 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S224x1x160x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S224x4x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S224x4x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S128x1920 .bf16 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S4x160x1280 .bf16 := Memref.whole cc0_scratch0
abbrev scM0_1 : Memref sig .tc .vmem S4x160x1280 .bf16 := Memref.whole cc0_scratch1
abbrev scM0_2 : Memref sig .tc .vmem S2x2176x128 .f32 := Memref.whole cc0_scratch2
abbrev scM0_3 : Memref sig .tc .vmem S2x2176x128 .f32 := Memref.whole cc0_scratch3
abbrev scM0_4 : Memref sig .tc .vmem S2176x128 .f32 := Memref.whole cc0_scratch4
abbrev scM0_5 : Memref sig .tc .vmem S2176x128 .f32 := Memref.whole cc0_scratch5
abbrev scM0_6 : Memref sig .tc .vmem S2x128x160x128 .fp8e4m3 := Memref.whole cc0_scratch6
abbrev scM0_7 : Memref sig .tc .vmem S2x128x160x128 .fp8e4m3 := Memref.whole cc0_scratch7
abbrev scM0_8 : Memref sig .tc .vmem S128x256 .f32 := Memref.whole cc0_scratch8
abbrev scM0_9 : Memref sig .tc .vmem S128x256 .f32 := Memref.whole cc0_scratch9

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Gen

end
-- ==== Proof.KernelIdeal.SeqFrame.lean ====
/- The sequence loop of the body (128 trips) for the frame: a trip reads the table of tail lengths and seven
   scratch buffers and writes the accumulator buffer, whose contents the frame does not name. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The sequence loop's invariant: what it reads at its contents, the accumulator at some contents. -/
@[sl_loop, instance_reducible] def seqInv (𝒱 : Variants) (c : Dev nD) (bd : Option 𝒱.V) (E : Set ℕ) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg0 : BitVec 32) (v27 : IVec S1x256 32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 where
  inv _ _ := iprop((arg2.view.loc (c : Thread nD τ) ↦{fullShare.right} X2) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (∃ f, (arg18.view.loc (c : Thread nD τ) ↦[arg18.view.set]{fullShare} f)))
  step k acc := by
    unfold k0_t4_body
    simp only [k0_part20_eq_skeleton, k0_part21_eq_skeleton]
    unfold k0_part20_skel k0_part21_skel
    iintro ⟨H2, H17, H19, H20, H21, H22, H23, H24, ⟨%f, H18⟩⟩
    sl_exec
    sl_step
    isplitl [H2]; · iexact H2
    isplitl [H17]; · iexact H17
    isplitl [H19]; · iexact H19
    isplitl [H20]; · iexact H20
    isplitl [H21]; · iexact H21
    isplitl [H22]; · iexact H22
    isplitl [H23]; · iexact H23
    isplitl [H24]; · iexact H24
    iexists _; iexact H18

end Cert.KernelIdeal.Gen

end
-- ==== Proof.KernelIdeal.RunA.lean ====
module

public import proofs.«01_k».proof.Proof.KernelIdeal.Kit
public import proofs.«01_k».proof.Proof.KernelIdeal.SeqFrame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE A (`scf.if` 0 taken: points 0): on whole staging memrefs — the inputs' at their contents,
    the FORGOTTEN outputs' (11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_attention_eq_skeleton]; unfold cc0_cascade_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexact HT0

end Cert.KernelIdeal.Gen

end
-- ==== Proof.KernelIdeal.RunB.lean ====
module

public import proofs.«01_k».proof.Proof.KernelIdeal.Kit
public import proofs.«01_k».proof.Proof.KernelIdeal.SeqFrame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body's triple IN CASE B (`scf.if` 0 not taken: points 1, 2, … 63: 63 of 64): on whole staging memrefs — the inputs' at their contents,
    the FORGOTTEN outputs' (11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : ¬cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_cascade_attention_eq_skeleton]; unfold cc0_cascade_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexact HT0

end Cert.KernelIdeal.Gen

end
-- ==== Proof.KernelIdeal.Frame.lean ====
module

public import proofs.«01_k».proof.Proof.KernelIdeal.RunA
public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11): nothing reads what the kernel leaves in them, so nothing
    of it is named (Lib/Pipeline/Dat.lean `Dat.toRForget`). -/
def forgets0 : Fin 12 → Bool := fun w => w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ (∃ d, owns (c : Thread nD τ) (ms0_11 m hO t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.castSucc = iprop(Pipeline.ΦA spec0 c ∗ Pipeline.ΦT pre0 (tbl m) c) from rfl, PhiT0_eq, PhiA0_eq]
  have hN : t.val < 64 := lt_of_lt_of_eq t.isLt (show (cfgM m hO).N = 64 from N_0)
  by_cases h0 : t.val % 64 = 0
  · iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          isplitl [HS8]
          · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (fun c => (dats m hO 0 c).toRForget forgets0) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO) ((θ_run defs _ _).mono (fun _ h => h.2) (run_main_quiescent m ρ hO))

end Cert.KernelIdeal.Gen

end
-- ==== Proof.Value.Math.lean ====
/- The online softmax against the plain one, over the extended reals: a row of attention whose prefix and new position
   are summed first and rescaled when the tail comes in, in base two, equals the row summed against one maximum in base
   e. No hypothesis on the scores or the values: every infinity is covered. -/
module

public import Idealize.ShloMosaic.PureOps.Ideal

@[expose] public section

noncomputable section

namespace Cert.Softmax

open Idealize.ShloMosaic

/-- The largest entry of a row, `⊥` for none. -/
def top {n : ℕ} (f : Fin n → EReal) : EReal := Finset.univ.fold max ⊥ f

theorem top_le {n : ℕ} (f : Fin n → EReal) (c : EReal) : top f ≤ c ↔ ∀ k, f k ≤ c := by
  simp [top, Finset.fold_max_le]

theorem top_lt {n : ℕ} (f : Fin n → EReal) (c : EReal) (hc : ⊥ < c) (h : ∀ k, f k < c) : top f < c := by
  simp [top, Finset.fold_max_lt, hc, h]

/-- A row of the kernel: scores in base two, the tail on 256 lanes of which `ok` are in use. -/
def kRow (sp : Fin 1280 → EReal) (sn : EReal) (st : Fin 256 → EReal) (V : Fin 1280 → EReal) (vn : EReal)
    (vs vt : Fin 256 → EReal) (ok : Fin 256 → Prop) [DecidablePred ok] : EReal :=
  ((∑ p, Ideal.exp2 (sp p - max (top sp) sn) * V p + Ideal.exp2 (sn - max (top sp) sn) * vn)
        * Ideal.exp2 (max (top sp) sn - max (max (top sp) sn) (top st))
      + ∑ t, (if ok t then Ideal.exp2 (st t - max (max (top sp) sn) (top st)) * vs t else 0) * vt t)
    * Ideal.div 1 ((∑ p, Ideal.exp2 (sp p - max (top sp) sn) + Ideal.exp2 (sn - max (top sp) sn))
        * Ideal.exp2 (max (top sp) sn - max (max (top sp) sn) (top st))
      + ∑ t, Ideal.exp2 (st t - max (max (top sp) sn) (top st)))

/-- A row of the reference. -/
def rRow (sp : Fin 1280 → EReal) (sn : EReal) (st : Fin 224 → EReal) (V : Fin 1280 → EReal) (vn : EReal)
    (vs vt : Fin 224 → EReal) : EReal :=
  (∑ p, (Ideal.exp (sp p - max (max (top sp) (top st)) sn)
        * Ideal.div 1 (∑ p, Ideal.exp (sp p - max (max (top sp) (top st)) sn)
            + ∑ t, Ideal.exp (st t - max (max (top sp) (top st)) sn) + Ideal.exp (sn - max (max (top sp) (top st)) sn))) * V p
      + ∑ t, ((Ideal.exp (st t - max (max (top sp) (top st)) sn)
        * Ideal.div 1 (∑ p, Ideal.exp (sp p - max (max (top sp) (top st)) sn)
            + ∑ t, Ideal.exp (st t - max (max (top sp) (top st)) sn) + Ideal.exp (sn - max (max (top sp) (top st)) sn))) * vs t) * vt t)
    + (Ideal.exp (sn - max (max (top sp) (top st)) sn)
        * Ideal.div 1 (∑ p, Ideal.exp (sp p - max (max (top sp) (top st)) sn)
            + ∑ t, Ideal.exp (st t - max (max (top sp) (top st)) sn) + Ideal.exp (sn - max (max (top sp) (top st)) sn))) * vn

/-- One over the logarithm of two. -/
def β : ℝ := (Real.log 2)⁻¹

theorem β_pos : 0 < β := inv_pos.mpr (Real.log_pos one_lt_two)

theorem exp2_sub (x y : EReal) : Ideal.exp2 (x * (β : EReal) - y * (β : EReal)) = Ideal.exp (x - y) := by
  have hb := β_pos
  induction x using EReal.rec <;> induction y using EReal.rec
  all_goals simp only [EReal.top_mul_coe_of_pos hb, EReal.bot_mul_coe_of_pos hb, ← EReal.coe_mul, ← EReal.coe_sub,
    EReal.sub_top, EReal.bot_sub, EReal.top_sub_coe, EReal.coe_sub_bot, EReal.top_sub_bot, Ideal.exp2_bot, Ideal.exp_bot,
    Ideal.exp2_top, Ideal.exp_top, Ideal.exp_coe, Ideal.exp2_coe]
  case coe.coe x y =>
    have h2 : Real.log 2 ≠ 0 := (Real.log_pos one_lt_two).ne'
    have : Real.rpow 2 (x * β - y * β) = Real.exp (x - y) := by
      rw [Real.rpow_eq_pow, Real.rpow_def_of_pos two_pos]
      congr 1
      unfold β
      field_simp
    rw [this]

theorem exp_mul_exp (w y z : EReal) (hwy : w ≤ y) (hyz : y ≤ z) :
    Ideal.exp (w - y) * Ideal.exp (y - z) = Ideal.exp (w - z) := by
  induction w using EReal.rec <;> induction y using EReal.rec <;> induction z using EReal.rec
  all_goals first
    | (exfalso; simp at hwy; done)
    | (exfalso; simp at hyz; done)
    | skip
  all_goals simp [← EReal.coe_sub, ← EReal.coe_mul, ← Real.exp_add]

theorem exp_real (x y : EReal) (h : x ≤ y) : ∃ r : ℝ, 0 ≤ r ∧ Ideal.exp (x - y) = (r : EReal) := by
  induction x using EReal.rec <;> induction y using EReal.rec
  all_goals first
    | (exfalso; simp at h; done)
    | skip
  case coe.coe x y => exact ⟨_, (Real.exp_pos _).le, by rw [← EReal.coe_sub, Ideal.exp_coe]⟩
  all_goals exact ⟨0, le_rfl, by simp⟩

theorem exp_inf (x y : EReal) (h : x ≤ y) (hy : y = ⊤ ∨ y = ⊥) : Ideal.exp (x - y) = 0 := by
  rcases hy with rfl | rfl
  · simp
  · obtain rfl := le_bot_iff.mp h; simp

theorem sum_mul_real {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem add_mul_real (x y : EReal) (c : ℝ) (hc : 0 ≤ c) : (x + y) * (c : EReal) = x * (c : EReal) + y * (c : EReal) :=
  EReal.right_distrib_of_nonneg_of_ne_top (by exact_mod_cast hc) (EReal.coe_ne_top c) x y

theorem sum_real {ι : Type*} (s : Finset ι) (f : ι → EReal) (h : ∀ k ∈ s, ∃ r : ℝ, 0 ≤ r ∧ f k = (r : EReal)) :
    ∃ r : ℝ, 0 ≤ r ∧ ∑ k ∈ s, f k = (r : EReal) := by
  classical
  induction s using Finset.induction_on with
  | empty => exact ⟨0, le_rfl, by simp⟩
  | insert a s ha ih =>
    obtain ⟨r, hr, hr'⟩ := h a (Finset.mem_insert_self a s)
    obtain ⟨q, hq, hq'⟩ := ih (fun k hk => h k (Finset.mem_insert_of_mem hk))
    exact ⟨r + q, add_nonneg hr hq, by rw [Finset.sum_insert ha, hr', hq', EReal.coe_add]⟩

theorem mul_β_le (x y : EReal) : x * (β : EReal) ≤ y * (β : EReal) ↔ x ≤ y := by
  have hb := β_pos
  induction x using EReal.rec <;> induction y using EReal.rec
  all_goals simp [EReal.top_mul_coe_of_pos hb, EReal.bot_mul_coe_of_pos hb, ← EReal.coe_mul]
  all_goals first
    | exact mul_le_mul_iff_left₀ hb
    | skip

theorem mul_β_max (x y : EReal) : max (x * (β : EReal)) (y * (β : EReal)) = max x y * (β : EReal) := by
  rcases le_total x y with h | h
  · rw [max_eq_right h, max_eq_right ((mul_β_le x y).mpr h)]
  · rw [max_eq_left h, max_eq_left ((mul_β_le y x).mpr h)]

theorem mul_β_surj (c : EReal) : ∃ d, c = d * (β : EReal) := by
  have hb := β_pos
  induction c using EReal.rec with
  | bot => exact ⟨⊥, (EReal.bot_mul_coe_of_pos hb).symm⟩
  | top => exact ⟨⊤, (EReal.top_mul_coe_of_pos hb).symm⟩
  | coe r => exact ⟨((r / β : ℝ) : EReal), by rw [← EReal.coe_mul, div_mul_cancel₀ _ hb.ne']⟩

theorem top_mul_β {n : ℕ} (f : Fin n → EReal) : top (fun k => f k * (β : EReal)) = top f * (β : EReal) := by
  refine eq_of_forall_ge_iff fun c => ?_
  obtain ⟨d, rfl⟩ := mul_β_surj c
  rw [top_le, mul_β_le, top_le]
  simp only [mul_β_le]

theorem sum_256 (f : Fin 256 → EReal) (h : ∀ t : Fin 256, 224 ≤ t.val → f t = 0) :
    ∑ t, f t = ∑ t : Fin 224, f (t.castLE (by norm_num)) := by
  rw [show (∑ t, f t) = ∑ t : Fin (224 + 32), f t from rfl, Fin.sum_univ_add,
    Finset.sum_eq_zero (s := Finset.univ) (f := fun i : Fin 32 => f (Fin.natAdd 224 i)) (fun i _ => h _ (by simp)), add_zero]
  rfl

theorem top_256 (f : Fin 256 → EReal) (h : ∀ t : Fin 256, 224 ≤ t.val → f t = ⊥) :
    top f = top (fun t : Fin 224 => f (t.castLE (by norm_num))) := by
  refine eq_of_forall_ge_iff fun c => ?_
  rw [top_le, top_le]
  refine ⟨fun H t => H _, fun H t => ?_⟩
  by_cases ht : t.val < 224
  · exact H ⟨t.val, ht⟩
  · rw [h t (by omega)]; exact bot_le

/-- The kernel's row is the reference's. -/
theorem kRow_eq_rRow (sp : Fin 1280 → EReal) (sn : EReal) (st : Fin 224 → EReal) (V : Fin 1280 → EReal) (vn : EReal)
    (vs vt : Fin 224 → EReal) (sp' : Fin 1280 → EReal) (sn' : EReal) (st' vs' vt' : Fin 256 → EReal) (ok : Fin 256 → Prop) [DecidablePred ok]
    (hok : ∀ t, ok t → t.val < 224) (hp : ∀ p, sp' p = sp p * (β : EReal)) (hn : sn' = sn * (β : EReal))
    (ht : ∀ (t : Fin 224), st' (t.castLE (by norm_num)) = st t * (β : EReal)) (hj : ∀ t : Fin 256, 224 ≤ t.val → st' t = ⊥)
    (hs : ∀ (t : Fin 224), ok (t.castLE (by norm_num)) → vs' (t.castLE (by norm_num)) = vs t)
    (hv : ∀ (t : Fin 224), vt' (t.castLE (by norm_num)) = vt t)
    (hm : ∀ (t : Fin 224), ¬ ok (t.castLE (by norm_num)) → st t = ⊥) :
    kRow sp' sn' st' V vn vs' vt' ok = rRow sp sn st V vn vs vt := by
  obtain rfl : sp' = fun p => sp p * (β : EReal) := funext hp
  subst hn
  have htop : top st' = top st * (β : EReal) := by
    rw [top_256 st' hj, show (fun t : Fin 224 => st' (t.castLE (by norm_num))) = fun t => st t * (β : EReal) from funext ht, top_mul_β]
  unfold kRow rRow
  rw [htop, top_mul_β, mul_β_max, mul_β_max]
  simp only [exp2_sub]
  rw [show max (max (top sp) (top st)) sn = max (max (top sp) sn) (top st) from by
    rw [max_assoc, max_assoc, max_comm (top st) sn]]
  generalize hm0 : max (top sp) sn = m0
  generalize hmm : max m0 (top st) = m
  have h0m : m0 ≤ m := hmm ▸ le_max_left _ _
  have hp0 : ∀ p, sp p ≤ m0 := fun p => ((top_le sp _).mp (hm0 ▸ le_max_left _ _)) p
  have hn0 : sn ≤ m0 := hm0 ▸ le_max_right _ _
  have htm : ∀ t, st t ≤ m := fun t => ((top_le st _).mp (hmm ▸ le_max_right _ _)) t
  -- the tail's two sums over the lanes in use
  have hE : ∑ t, Ideal.exp2 (st' t - m * (β : EReal)) = ∑ t, Ideal.exp (st t - m) := by
    rw [sum_256 _ (fun t h => by rw [hj t h]; simp)]
    refine Finset.sum_congr rfl fun t _ => ?_
    rw [ht, exp2_sub]
  have hO : ∑ t, (if ok t then Ideal.exp2 (st' t - m * (β : EReal)) * vs' t else 0) * vt' t
      = ∑ t, (Ideal.exp (st t - m) * vs t) * vt t := by
    rw [sum_256 _ (fun t h => by rw [if_neg (fun h' => absurd (hok t h') (by omega)), zero_mul])]
    refine Finset.sum_congr rfl fun t _ => ?_
    by_cases h : ok (t.castLE (by norm_num))
    · rw [if_pos h, ht, exp2_sub, hs t h, hv]
    · rw [if_neg h, hm t h]; simp
  rw [hE, hO]
  obtain ⟨a, ha, ha'⟩ := exp_real m0 m h0m
  have hep : ∀ p, Ideal.exp (sp p - m0) * (a : EReal) = Ideal.exp (sp p - m) := fun p => by
    rw [← ha', exp_mul_exp _ _ _ (hp0 p) h0m]
  have hen : Ideal.exp (sn - m0) * (a : EReal) = Ideal.exp (sn - m) := by
    rw [← ha', exp_mul_exp _ _ _ hn0 h0m]
  rw [ha', add_mul_real _ _ a ha, add_mul_real _ _ a ha, sum_mul_real _ _ a ha, sum_mul_real _ _ a ha, hen]
  simp only [hep]
  rw [show Ideal.exp (sn - m0) * vn * (a : EReal) = Ideal.exp (sn - m) * vn from by rw [mul_right_comm, hen]]
  simp only [mul_right_comm _ (V _) (a : EReal), hep]
  rw [show (∑ p, Ideal.exp (sp p - m)) + Ideal.exp (sn - m) + ∑ t, Ideal.exp (st t - m)
      = (∑ p, Ideal.exp (sp p - m)) + ∑ t, Ideal.exp (st t - m) + Ideal.exp (sn - m) from add_right_comm _ _ _]
  generalize hl : (∑ p, Ideal.exp (sp p - m)) + ∑ t, Ideal.exp (st t - m) + Ideal.exp (sn - m) = l
  by_cases hinf : m = ⊤ ∨ m = ⊥
  · have e1 : ∀ p, Ideal.exp (sp p - m) = 0 := fun p => exp_inf _ _ ((hp0 p).trans h0m) hinf
    have e2 : ∀ t, Ideal.exp (st t - m) = 0 := fun t => exp_inf _ _ (htm t) hinf
    have e3 : Ideal.exp (sn - m) = 0 := exp_inf _ _ (hn0.trans h0m) hinf
    simp [e1, e2, e3]
  · -- a finite maximum is attained, so the sum is a positive real
    obtain ⟨r, hr, hr'⟩ : ∃ r : ℝ, 0 ≤ r ∧ Ideal.div 1 l = (r : EReal) := by
      obtain ⟨x1, h1, h1'⟩ := sum_real Finset.univ (fun p => Ideal.exp (sp p - m)) (fun p _ => exp_real _ _ ((hp0 p).trans h0m))
      obtain ⟨x2, h2, h2'⟩ := sum_real Finset.univ (fun t => Ideal.exp (st t - m)) (fun t _ => exp_real _ _ (htm t))
      obtain ⟨x3, h3, h3'⟩ := exp_real sn m (hn0.trans h0m)
      have hll : l = ((x1 + x2 + x3 : ℝ) : EReal) := by rw [← hl, h1', h2', h3', EReal.coe_add, EReal.coe_add]
      have hpos : 0 < x1 + x2 + x3 := by
        by_contra hle
        have z1 : x1 = 0 := by linarith
        have z2 : x2 = 0 := by linarith
        have z3 : x3 = 0 := by linarith
        subst z1 z2 z3
        have key : ∀ x : EReal, x ≤ m → Ideal.exp (x - m) ≤ 0 → x < m := by
          intro x hx h
          refine lt_of_le_of_ne hx fun hxm => ?_
          subst hxm
          induction x using EReal.rec with
          | bot => exact hinf (Or.inr rfl)
          | top => exact hinf (Or.inl rfl)
          | coe q => rw [← EReal.coe_sub, Ideal.exp_coe] at h; exact absurd h (by simp)
        have nn : ∀ x, x ≤ m → 0 ≤ Ideal.exp (x - m) := fun x hx => by
          obtain ⟨q, hq, hq'⟩ := exp_real x m hx; rw [hq']; exact_mod_cast hq
        have s1 : ∀ p, sp p < m := fun p => key _ ((hp0 p).trans h0m) (by
          have := Finset.single_le_sum (f := fun p => Ideal.exp (sp p - m)) (fun p _ => nn _ ((hp0 p).trans h0m)) (Finset.mem_univ p)
          rw [h1'] at this; exact this)
        have s2 : ∀ t, st t < m := fun t => key _ (htm t) (by
          have := Finset.single_le_sum (f := fun t => Ideal.exp (st t - m)) (fun t _ => nn _ (htm t)) (Finset.mem_univ t)
          rw [h2'] at this; exact this)
        have s3 : sn < m := key _ (hn0.trans h0m) (by rw [h3']; simp)
        have hb : ⊥ < m := bot_lt_iff_ne_bot.mpr fun h => hinf (Or.inr h)
        have : max m0 (top st) < m := max_lt (hm0 ▸ max_lt (top_lt sp m hb s1) s3) (top_lt st m hb s2)
        rw [hmm] at this
        exact lt_irrefl _ this
      refine ⟨(x1 + x2 + x3)⁻¹, (inv_pos.mpr hpos).le, ?_⟩
      rw [hll]
      unfold Ideal.div
      rw [if_neg (by exact_mod_cast hpos.ne'), one_mul, EReal.coe_inv]
    rw [hr', add_mul_real _ _ r hr, add_mul_real _ _ r hr, sum_mul_real _ _ r hr, sum_mul_real _ _ r hr]
    simp only [mul_right_comm _ (V _) (r : EReal), mul_right_comm _ vn (r : EReal), mul_right_comm _ (vt _) (r : EReal),
      mul_right_comm _ (vs _) (r : EReal)]
    exact add_right_comm _ _ _

end Cert.Softmax

end
-- ==== Proof.Value.RefRow.lean ====
/- The reference's arithmetic over the extended reals, place by place, up to one row of its softmax. -/
module

public import proofs.«01_k».proof.Proof.Gen.ReferenceIdeal.Read
public import proofs.«01_k».proof.Proof.Value.Math
public import Idealize.ShloMosaic.Lib.Pointwise
public import Idealize.ShloMosaic.Lib.WordCmp
public import Idealize.ShloMosaic.Lib.KernelVsHost
public import Idealize.ShloMosaic.PureOps.IdealRules

@[expose] public section

set_option maxRecDepth 8192
set_option maxHeartbeats 1000000

noncomputable section

namespace Cert.ReferenceIdeal.Read

open Idealize.ShloMosaic Idealize.ShloMosaic.TcCoe Cert.Softmax

theorem two : Ideal.ofBits .f32 0x40000000#32 = (2 : EReal) := by
  show Ideal.ieee 8 23 (0x40000000#32) = _
  unfold Ideal.ieee
  rw [if_neg (by decide), if_neg (by decide)]
  simp
  rw [← EReal.coe_mul]
  norm_num
  rfl

theorem one : Ideal.ofBits .f32 0x3F800000#32 = (1 : EReal) := by
  show Ideal.ieee 8 23 (0x3F800000#32) = _
  unfold Ideal.ieee
  rw [if_neg (by decide), if_neg (by decide)]
  simp
  rw [← EReal.coe_mul]
  norm_num

theorem zero : Ideal.ofBits .f32 0x00000000#32 = (0 : EReal) := by
  show Ideal.ieee 8 23 (0x00000000#32) = _
  unfold Ideal.ieee
  rw [if_neg (by decide), if_pos (by decide)]
  simp

theorem ninf : Ideal.ofBits .f32 0xFF800000#32 = (⊥ : EReal) := by
  show Ideal.ieee 8 23 (0xFF800000#32) = ⊥
  unfold Ideal.ieee
  rw [if_pos (by decide), if_pos (by decide), if_pos (by decide)]

theorem sel {α : Type} (c : BitVec 1) (a b : α) : Scalar.select c a b = if c = 1#1 then a else b := rfl

theorem bcast0 (x : Vec Ideal S_ .f32) (i : S_.Idx) : x i = x ix0 := congrArg x (funext fun a => a.elim0)

/-- What a scale code weighs: two to the code less 127. -/
def wt (e : BitVec 8) : EReal := Ideal.pow 2 ((((e.setWidth 32 - 127#32).toInt : ℤ) : ℝ) : EReal)

theorem r3 (x0 : Vec Ideal S2048x1x48x160 .bf16) (b : Fin 2048) (kv : Fin 4) (g : Fin 12) (d : Fin 160) :
    val_main_v3 (F := Ideal) x0 (ix5 b (0 : Fin 1) kv g d) = x0 (ix4 b (0 : Fin 1) (⟨kv.val * 12 + g.val, by omega⟩ : Fin 48) d) := by
  pointwise [val_main_v3]

theorem r10 (x5 : Vec Ideal S1280x4x5 .i8) (p : Fin 1280) (kv : Fin 4) (e : Fin 5) :
    val_main_v10 (F := Ideal) x5 (ix3 p kv e) = wt (x5 (ix3 p kv e)) := by
  pointwise [val_main_v10, val_main_v9, val_main_v8, val_main_v7, val_main_v6, val_main_v5, val_main_v4, val_main_c, val_main_cst_1]
  rw [two]
  rfl

theorem r22 (x6 : Vec Ideal S1280x4x5 .i8) (p : Fin 1280) (kv : Fin 4) (e : Fin 5) :
    val_main_v22 (F := Ideal) x6 (ix3 p kv e) = wt (x6 (ix3 p kv e)) := by
  pointwise [val_main_v22, val_main_v21, val_main_v20, val_main_v19, val_main_v18, val_main_v17, val_main_v16, val_main_c_2, val_main_cst_3]
  rw [two]
  rfl

theorem r15 (x5 : Vec Ideal S1280x4x5 .i8) (r0 : Vec Ideal S1280x4x160 .bf16) (p : Fin 1280) (kv : Fin 4) (d : Fin 160) :
    val_main_v15 (F := Ideal) x5 r0 (ix3 p kv d) = r0 (ix3 p kv d) * wt (x5 (ix3 p kv (⟨d.val / 32, by omega⟩ : Fin 5))) := by
  rw [← r10]
  pointwise [val_main_v15, val_main_v14, val_main_v13, val_main_v12, val_main_v11]

theorem r27 (x6 : Vec Ideal S1280x4x5 .i8) (r1 : Vec Ideal S1280x4x160 .bf16) (p : Fin 1280) (kv : Fin 4) (d : Fin 160) :
    val_main_v27 (F := Ideal) x6 r1 (ix3 p kv d) = r1 (ix3 p kv d) * wt (x6 (ix3 p kv (⟨d.val / 32, by omega⟩ : Fin 5))) := by
  rw [← r22]
  pointwise [val_main_v27, val_main_v26, val_main_v25, val_main_v24, val_main_v23]

/-- The reference's three kinds of score. -/
def sp (x0 : Vec Ideal S2048x1x48x160 .bf16) (x5 : Vec Ideal S1280x4x5 .i8) (r0 : Vec Ideal S1280x4x160 .bf16) (e0 : Vec Ideal S_ .f32)
    (b : Fin 2048) (kv : Fin 4) (g : Fin 12) (p : Fin 1280) : EReal :=
  (∑ d : Fin 160, (r0 (ix3 p kv d) * wt (x5 (ix3 p kv (⟨d.val / 32, by omega⟩ : Fin 5)))) * x0 (ix4 b (0 : Fin 1) (⟨kv.val * 12 + g.val, by omega⟩ : Fin 48) d)) * e0 ix0

def sn (x0 : Vec Ideal S2048x1x48x160 .bf16) (x1 : Vec Ideal S2048x1x4x160 .bf16) (e0 : Vec Ideal S_ .f32)
    (b : Fin 2048) (kv : Fin 4) (g : Fin 12) : EReal :=
  (∑ d : Fin 160, x1 (ix4 b (0 : Fin 1) kv d) * x0 (ix4 b (0 : Fin 1) (⟨kv.val * 12 + g.val, by omega⟩ : Fin 48) d)) * e0 ix0

def st (x0 : Vec Ideal S2048x1x48x160 .bf16) (x9 : Vec Ideal S2048x224x4 .f32) (x11 : Vec Ideal S2048 .i32) (r2 : Vec Ideal S2048x224x4x160 .bf16) (e0 : Vec Ideal S_ .f32)
    (b : Fin 2048) (kv : Fin 4) (g : Fin 12) (t : Fin 224) : EReal :=
  if (t.val : ℤ) < (x11 (ix1 b)).toInt then
    (∑ d : Fin 160, r2 (ix4 b t kv d) * x0 (ix4 b (0 : Fin 1) (⟨kv.val * 12 + g.val, by omega⟩ : Fin 48) d)) * (x9 (ix3 b t kv) * e0 ix0)
  else ⊥

section
variable (x0 : Vec Ideal S2048x1x48x160 .bf16) (x1 x2 : Vec Ideal S2048x1x4x160 .bf16) (x5 x6 : Vec Ideal S1280x4x5 .i8)
  (x9 x10 : Vec Ideal S2048x224x4 .f32) (x11 : Vec Ideal S2048 .i32)
  (r0 r1 : Vec Ideal S1280x4x160 .bf16) (r2 r3 : Vec Ideal S2048x224x4x160 .bf16) (e0 : Vec Ideal S_ .f32)
  (b : Fin 2048) (kv : Fin 4) (g : Fin 12)

theorem r31 (p : Fin 1280) : val_main_v31 (F := Ideal) x0 x5 r0 e0 (ix5 b (0 : Fin 1) kv g p) = sp x0 x5 r0 e0 b kv g p := by
  pointwise [val_main_v31, val_main_v30, val_main_v29, val_main_v28, r15, r3, sp]

theorem r49 (t : Fin 224) : val_main_v49 (F := Ideal) x11 (ix2 b t) = BitVec.ofBool (decide ((t.val : ℤ) < (x11 (ix1 b)).toInt)) := by
  pointwise [val_main_v49, val_main_v48, val_main_v47, val_main_v46, val_main_v45, val_main_v44]
  rw [WordCmp.cmpi_slt_eq, WordCmp.toInt_ofNat_of_lt (by have := t.isLt; omega)]

theorem r39 (t : Fin 224) : val_main_v39 (F := Ideal) x0 x9 r2 e0 (ix5 b (0 : Fin 1) kv g t)
    = (∑ d : Fin 160, r2 (ix4 b t kv d) * x0 (ix4 b (0 : Fin 1) (⟨kv.val * 12 + g.val, by omega⟩ : Fin 48) d)) * (x9 (ix3 b t kv) * e0 ix0) := by
  pointwise [val_main_v39, val_main_v38, val_main_v37, val_main_v36, val_main_v35, val_main_v34, val_main_v33, val_main_v32, r3]

theorem r51 (t : Fin 224) : val_main_v51 (F := Ideal) x0 x9 x11 r2 e0 (ix5 b (0 : Fin 1) kv g t) = st x0 x9 x11 r2 e0 b kv g t := by
  pointwise [val_main_v51, val_main_call0_v2, val_main_call0_v1, val_main_call0_v0, val_main_v50, val_main_cst_4, r49, r39, sel, ninf]
  exact if_congr (WordCmp.ofBool_decide_eq_one_iff _) rfl rfl

theorem r58 (z : Fin 1) : val_main_v58 (F := Ideal) x0 x1 e0 (ix5 b (0 : Fin 1) kv g z) = sn x0 x1 e0 b kv g := by
  obtain rfl : z = 0 := by omega
  pointwise [val_main_v58, val_main_call1_v2, val_main_call1_v1, val_main_call1_v0, val_main_v57, val_main_v56, val_main_v55, val_main_v54, val_main_v53, val_main_v52,
    val_main_v43, val_main_v42, val_main_v41, val_main_v40, val_main_cst_5, r3, sel, sn]
  exact if_pos (by decide)

theorem r59 : val_main_v59 (F := Ideal) x0 x5 r0 e0 (ix4 b (0 : Fin 1) kv g) = top (sp x0 x5 r0 e0 b kv g) := by
  refine (congrFun (hostReduce_maximumf_eq_multiReduction _ _ _ _ (by decide) (by decide) (by decide)) _).trans ?_
  pointwise [r31]
  rfl

theorem r61 : val_main_v61 (F := Ideal) x0 x9 x11 r2 e0 (ix4 b (0 : Fin 1) kv g) = top (st x0 x9 x11 r2 e0 b kv g) := by
  refine (congrFun (hostReduce_maximumf_eq_multiReduction _ _ _ _ (by decide) (by decide) (by decide)) _).trans ?_
  pointwise [r51]
  rfl

theorem r64 : val_main_v64 (F := Ideal) x0 x1 e0 (ix4 b (0 : Fin 1) kv g) = sn x0 x1 e0 b kv g := by
  refine (congrFun (hostReduce_maximumf_eq_multiReduction _ _ _ _ (by decide) (by decide) (by decide)) _).trans ?_
  pointwise [r58]
  simp only [Finset.univ_unique, Finset.fold_singleton, ninf]
  exact max_bot_right _

/-- The greatest score of a row, and the sum of the exponentials of the scores less it. -/
def mx : EReal := max (max (top (sp x0 x5 r0 e0 b kv g)) (top (st x0 x9 x11 r2 e0 b kv g))) (sn x0 x1 e0 b kv g)

def lx : EReal :=
  (∑ p, Ideal.exp (sp x0 x5 r0 e0 b kv g p - mx x0 x1 x5 x9 x11 r0 r2 e0 b kv g)
    + ∑ t, Ideal.exp (st x0 x9 x11 r2 e0 b kv g t - mx x0 x1 x5 x9 x11 r0 r2 e0 b kv g))
    + Ideal.exp (sn x0 x1 e0 b kv g - mx x0 x1 x5 x9 x11 r0 r2 e0 b kv g)

theorem r60 (z : Fin 1) : val_main_v60 (F := Ideal) x0 x5 r0 e0 (ix5 b (0 : Fin 1) kv g z) = top (sp x0 x5 r0 e0 b kv g) := by
  pointwise [val_main_v60]
  exact r59 x0 x5 r0 e0 b kv g

theorem r62 (z : Fin 1) : val_main_v62 (F := Ideal) x0 x9 x11 r2 e0 (ix5 b (0 : Fin 1) kv g z) = top (st x0 x9 x11 r2 e0 b kv g) := by
  pointwise [val_main_v62]
  exact r61 x0 x9 x11 r2 e0 b kv g

theorem r65 (z : Fin 1) : val_main_v65 (F := Ideal) x0 x1 e0 (ix5 b (0 : Fin 1) kv g z) = sn x0 x1 e0 b kv g := by
  pointwise [val_main_v65]
  exact r64 x0 x1 e0 b kv g

theorem r63 (z : Fin 1) : val_main_v63 (F := Ideal) x0 x5 x9 x11 r0 r2 e0 (ix5 b (0 : Fin 1) kv g z)
    = max (top (sp x0 x5 r0 e0 b kv g)) (top (st x0 x9 x11 r2 e0 b kv g)) :=
  (val_main_v63_apply x0 x5 x9 x11 r0 r2 e0 (ix5 b (0 : Fin 1) kv g z)).trans
    (congrArg₂ (fun u v : EReal => max u v) (r60 x0 x5 r0 e0 b kv g z) (r62 x0 x9 x11 r2 e0 b kv g z))

theorem r66 (z : Fin 1) : val_main_v66 (F := Ideal) x0 x1 x5 x9 x11 r0 r2 e0 (ix5 b (0 : Fin 1) kv g z) = mx x0 x1 x5 x9 x11 r0 r2 e0 b kv g :=
  (val_main_v66_apply x0 x1 x5 x9 x11 r0 r2 e0 (ix5 b (0 : Fin 1) kv g z)).trans
    (congrArg₂ (fun u v : EReal => max u v) (r63 x0 x5 x9 x11 r0 r2 e0 b kv g z) (r65 x0 x1 e0 b kv g z))

theorem r69 (p : Fin 1280) : val_main_v69 (F := Ideal) x0 x1 x5 x9 x11 r0 r2 e0 (ix5 b (0 : Fin 1) kv g p)
    = Ideal.exp (sp x0 x5 r0 e0 b kv g p - mx x0 x1 x5 x9 x11 r0 r2 e0 b kv g) := by
  pointwise [val_main_v69, val_main_v68, val_main_v67, r31, r66]

theorem r72 (t : Fin 224) : val_main_v72 (F := Ideal) x0 x1 x5 x9 x11 r0 r2 e0 (ix5 b (0 : Fin 1) kv g t)
    = Ideal.exp (st x0 x9 x11 r2 e0 b kv g t - mx x0 x1 x5 x9 x11 r0 r2 e0 b kv g) := by
  pointwise [val_main_v72, val_main_v71, val_main_v70, r51, r66]

theorem r74 (z : Fin 1) : val_main_v74 (F := Ideal) x0 x1 x5 x9 x11 r0 r2 e0 (ix5 b (0 : Fin 1) kv g z)
    = Ideal.exp (sn x0 x1 e0 b kv g - mx x0 x1 x5 x9 x11 r0 r2 e0 b kv g) := by
  pointwise [val_main_v74, val_main_v73, r58, r66]

theorem r82 (z : Fin 1) : val_main_v82 (F := Ideal) x0 x1 x5 x9 x11 r0 r2 e0 (ix5 b (0 : Fin 1) kv g z) = lx x0 x1 x5 x9 x11 r0 r2 e0 b kv g := by
  pointwise [val_main_v82, val_main_v81, val_main_v80, val_main_v79, val_main_v78, val_main_v77, val_main_v76, val_main_v75,
    val_main_cst_9, val_main_cst_10, val_main_cst_11, r69, r72, r74, lx, zero]
  simp only [Finset.univ_unique, Finset.sum_singleton]

theorem r84 (z : Fin 1) : val_main_v84 (F := Ideal) x0 x1 x5 x9 x11 r0 r2 e0 (ix5 b (0 : Fin 1) kv g z) = Ideal.div 1 (lx x0 x1 x5 x9 x11 r0 r2 e0 b kv g) := by
  pointwise [val_main_v84, val_main_v83, val_main_cst_12, r82, one]

theorem r90 (p : Fin 1280) : val_main_v90 (F := Ideal) x0 x1 x5 x9 x11 r0 r2 e0 (ix5 b (0 : Fin 1) kv g p)
    = Ideal.exp (sp x0 x5 r0 e0 b kv g p - mx x0 x1 x5 x9 x11 r0 r2 e0 b kv g) * Ideal.div 1 (lx x0 x1 x5 x9 x11 r0 r2 e0 b kv g) := by
  pointwise [val_main_v90, val_main_v86, val_main_v85, r69, r84]

theorem r97 (t : Fin 224) : val_main_v97 (F := Ideal) x0 x1 x5 x9 x10 x11 r0 r2 e0 (ix5 b (0 : Fin 1) kv g t)
    = (Ideal.exp (st x0 x9 x11 r2 e0 b kv g t - mx x0 x1 x5 x9 x11 r0 r2 e0 b kv g) * Ideal.div 1 (lx x0 x1 x5 x9 x11 r0 r2 e0 b kv g)) * x10 (ix3 b t kv) := by
  pointwise [val_main_v97, val_main_v96, val_main_v95, val_main_v94, val_main_v93, val_main_v88, val_main_v87, r72, r84]

theorem r100 (z : Fin 1) : val_main_v100 (F := Ideal) x0 x1 x5 x9 x11 r0 r2 e0 (ix5 b (0 : Fin 1) kv g z)
    = Ideal.exp (sn x0 x1 e0 b kv g - mx x0 x1 x5 x9 x11 r0 r2 e0 b kv g) * Ideal.div 1 (lx x0 x1 x5 x9 x11 r0 r2 e0 b kv g) := by
  pointwise [val_main_v100, val_main_v89, r74, r84]

theorem r104 (d : Fin 160) : val_main_v104 (F := Ideal) x0 x1 x2 x5 x6 x9 x10 x11 r0 r1 r2 r3 e0 (ix5 b (0 : Fin 1) kv g d)
    = rRow (sp x0 x5 r0 e0 b kv g) (sn x0 x1 e0 b kv g) (st x0 x9 x11 r2 e0 b kv g)
        (fun p => r1 (ix3 p kv d) * wt (x6 (ix3 p kv (⟨d.val / 32, by omega⟩ : Fin 5)))) (x2 (ix4 b (0 : Fin 1) kv d))
        (fun t => x10 (ix3 b t kv)) (fun t => r3 (ix4 b t kv d)) := by
  pointwise [val_main_v104, val_main_v103, val_main_v102, val_main_v101, val_main_v99, val_main_v98, val_main_v92, val_main_v91, r27, r90, r97, r100]
  refine congrArg₂ (fun u v : EReal => u + v) (congrArg₂ (fun u v : EReal => u + v) (Finset.sum_congr rfl fun p _ => mul_comm _ _)
    (Finset.sum_congr rfl fun t _ => mul_comm _ _)) ?_
  simp only [Finset.univ_unique, Finset.sum_singleton]
  exact mul_comm _ _

/-- The reference's result at one place is one row's softmax of its own scores. -/
theorem r106 (d : Fin 160) : val_main_v106 (F := Ideal) x0 x1 x2 x5 x6 x9 x10 x11 r0 r1 r2 r3 e0 (ix2 b (⟨(kv.val * 12 + g.val) * 160 + d.val, by omega⟩ : Fin 7680))
    = rRow (sp x0 x5 r0 e0 b kv g) (sn x0 x1 e0 b kv g) (st x0 x9 x11 r2 e0 b kv g)
        (fun p => r1 (ix3 p kv d) * wt (x6 (ix3 p kv (⟨d.val / 32, by omega⟩ : Fin 5)))) (x2 (ix4 b (0 : Fin 1) kv d))
        (fun t => x10 (ix3 b t kv)) (fun t => r3 (ix4 b t kv d)) := by
  refine Eq.trans ?_ (r104 x0 x1 x2 x5 x6 x9 x10 x11 r0 r1 r2 r3 e0 b kv g d)
  refine (val_main_v106_apply _ _ _ _ _ _ _ _ _ _ _ _ _ _).trans ?_
  refine (val_main_v105_apply _ _ _ _ _ _ _ _ _ _ _ _ _ _).trans ?_
  refine congrArg _ (funext fun a => Fin.ext ?_)
  match a with
  | ⟨0, _⟩ => show (b.val * 7680 + ((kv.val * 12 + g.val) * 160 + d.val)) / 7680 = b.val; omega
  | ⟨1, _⟩ => rfl
  | ⟨2, _⟩ => show (b.val * 7680 + ((kv.val * 12 + g.val) * 160 + d.val)) / 1920 % 4 = kv.val; omega
  | ⟨3, _⟩ => show (b.val * 7680 + ((kv.val * 12 + g.val) * 160 + d.val)) / 160 % 12 = g.val; omega
  | ⟨4, _⟩ => show (b.val * 7680 + ((kv.val * 12 + g.val) * 160 + d.val)) % 160 = d.val; omega
end

end Cert.ReferenceIdeal.Read
-- ==== Proof.Value.Seq.lean ====
/- The sequence loop of the body (128 trips): what the accumulator buffer holds after each trip, spelt out as the writes
   of the trips before it over what it held at the loop's entry. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Step
variable (i : grid0.Coords) (arg2 : Memref sig .tc .smem S2048 .i32) (arg17 : Memref sig .tc .vmem S2x2176x128 .f32) (arg18 : Memref sig .tc .vmem S2x2176x128 .f32)
  (arg19 : Memref sig .tc .vmem S2176x128 .f32) (arg20 : Memref sig .tc .vmem S2176x128 .f32) (arg21 : Memref sig .tc .vmem S2x128x160x128 .fp8e4m3)
  (arg22 : Memref sig .tc .vmem S2x128x160x128 .fp8e4m3) (arg23 : Memref sig .tc .vmem S128x256 .f32) (arg24 : Memref sig .tc .vmem S128x256 .f32)
  (c : Dev nD) (X2 : Buf (Elt F) (arg2.view.loc (c : Thread nD τ))) (X17 : BufTy.Contents (Elt F) arg17.view.ty) (X19 : BufTy.Contents (Elt F) arg19.view.ty)
  (X20 : BufTy.Contents (Elt F) arg20.view.ty) (X21 : BufTy.Contents (Elt F) arg21.view.ty) (X22 : BufTy.Contents (Elt F) arg22.view.ty)
  (X23 : BufTy.Contents (Elt F) arg23.view.ty) (X24 : BufTy.Contents (Elt F) arg24.view.ty) (v27 : IVec S1x256 32) (k : Fin k0_t4_loop.trips)

/-- The number of valid tail positions the table gives this trip. -/
def seqLen : Elt F .i32 := (arg2.view.readAt (Elt F) (Rect.unit (s := S2048) (k0_off15 i k) S1.size (k0_off15_inb i k)).toLoadRect X2 (Shape.Idx.first (numel1_S1.symm ▸ Nat.one_pos)))

/-- The masked tail scores of the sixteen head rows. -/
def seqScores : FVec F S16x256 .f32 :=
  k0_pay76 v27 (seqLen (F := F) i arg2 c X2 k) (arg17.view.readAt (Elt F) (⟨k0_off16 k, S1x16x128.size, ![1, 136, 1], (k0_off16_inb k)⟩ : LoadRect S2x2176x128) X17) (arg17.view.readAt (Elt F) (⟨k0_off17 k, S1x16x32.size, ![1, 136, 1], (k0_off17_inb k)⟩ : LoadRect S2x2176x128) X17) (arg21.view.readAt (Elt F) (Rect.unit (s := S2x128x160x128) (k0_off18 k) S1x1x160x128.size (k0_off18_inb k)).toLoadRect X21) (arg21.view.readAt (Elt F) (Rect.unit (s := S2x128x160x128) (k0_off19 k) S1x1x160x128.size (k0_off19_inb k)).toLoadRect X21) (arg23.view.readAt (Elt F) (Rect.unit (s := S128x256) (k0_off20 k) S1x256.size (k0_off20_inb k)).toLoadRect X23)

/-- The valid lanes. -/
def seqValid : IVec S1x256 1 := k0_pay75 (F := F) v27 (seqLen (F := F) i arg2 c X2 k)

/-- The value codes of this trip's sequence. -/
def seqVals : FVec F S160x256 .fp8e4m3 := k0_pay74 (arg22.view.readAt (Elt F) (Rect.unit (s := S2x128x160x128) (k0_off18 k) S1x1x160x128.size (k0_off18_inb k)).toLoadRect X22) (arg22.view.readAt (Elt F) (Rect.unit (s := S2x128x160x128) (k0_off19 k) S1x1x160x128.size (k0_off19_inb k)).toLoadRect X22)

/-- The two writes of a trip, the newest first, over what the accumulator holds before it. -/
def seqPieces (f : BufTy.Contents (Elt F) arg18.view.ty) : List (View.Piece (Elt F) S2x2176x128 .f32) :=
  [⟨(⟨(⟨k0_off22 k, S1x16x128.size, ![1, 136, 1], (k0_off22_inb k)⟩ : LoadRect S2x2176x128), spos_1_136_1⟩ : Rect S2x2176x128), k0_pay94 (k0_pay80 (seqScores i arg2 arg17 arg21 arg23 c X2 X17 X21 X23 v27 k) (arg19.view.readAt (Elt F) (⟨k0_off21 k, S16x128.size, ![136, 1], (k0_off21_inb k)⟩ : LoadRect S2176x128) X19))
      (k0_pay81 (seqVals (F := F) arg22 X22 k) (seqValid (F := F) i arg2 c X2 v27 k) (seqScores i arg2 arg17 arg21 arg23 c X2 X17 X21 X23 v27 k) (arg19.view.readAt (Elt F) (⟨k0_off21 k, S16x128.size, ![136, 1], (k0_off21_inb k)⟩ : LoadRect S2176x128) X19) (arg24.view.readAt (Elt F) (Rect.unit (s := S128x256) (k0_off20 k) S1x256.size (k0_off20_inb k)).toLoadRect X24))
      (k0_pay82 (seqScores i arg2 arg17 arg21 arg23 c X2 X17 X21 X23 v27 k) (arg19.view.readAt (Elt F) (⟨k0_off21 k, S16x128.size, ![136, 1], (k0_off21_inb k)⟩ : LoadRect S2176x128) X19) (arg20.view.readAt (Elt F) (⟨k0_off21 k, S16x128.size, ![136, 1], (k0_off21_inb k)⟩ : LoadRect S2176x128) X20)) (k0_pay84 (arg18.view.readAt (Elt F) (⟨k0_off22 k, S1x16x128.size, ![1, 136, 1], (k0_off22_inb k)⟩ : LoadRect S2x2176x128) f))⟩,
   ⟨(⟨(⟨k0_off16 k, S1x16x128.size, ![1, 136, 1], (k0_off16_inb k)⟩ : LoadRect S2x2176x128), spos_1_136_1⟩ : Rect S2x2176x128), k0_pay83 (seqVals (F := F) arg22 X22 k) (seqValid (F := F) i arg2 c X2 v27 k) (seqScores i arg2 arg17 arg21 arg23 c X2 X17 X21 X23 v27 k) (arg19.view.readAt (Elt F) (⟨k0_off21 k, S16x128.size, ![136, 1], (k0_off21_inb k)⟩ : LoadRect S2176x128) X19) (arg20.view.readAt (Elt F) (⟨k0_off21 k, S16x128.size, ![136, 1], (k0_off21_inb k)⟩ : LoadRect S2176x128) X20) (arg24.view.readAt (Elt F) (Rect.unit (s := S128x256) (k0_off20 k) S1x256.size (k0_off20_inb k)).toLoadRect X24)
      (arg18.view.readAt (Elt F) (⟨k0_off16 k, S1x16x128.size, ![1, 136, 1], (k0_off16_inb k)⟩ : LoadRect S2x2176x128) f)⟩]

end Step

/-- One trip's resources. -/
abbrev SeqTrip (c : Dev nD) (arg2 : Memref sig .tc .smem S2048 .i32) (arg17 : Memref sig .tc .vmem S2x2176x128 .f32) (arg18 : Memref sig .tc .vmem S2x2176x128 .f32)
  (arg19 : Memref sig .tc .vmem S2176x128 .f32) (arg20 : Memref sig .tc .vmem S2176x128 .f32) (arg21 : Memref sig .tc .vmem S2x128x160x128 .fp8e4m3)
  (arg22 : Memref sig .tc .vmem S2x128x160x128 .fp8e4m3) (arg23 : Memref sig .tc .vmem S128x256 .f32) (arg24 : Memref sig .tc .vmem S128x256 .f32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (f : BufTy.Contents (Elt F) arg18.view.ty) : sProp (MT nD τ sig Unit (Elt F) ℕ (UR sig nD τ) ℕ) :=
  iprop((arg2.view.loc (c : Thread nD τ) ↦{fullShare.right} X2) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg18.view.loc (c : Thread nD τ) ↦[arg18.view.set]{fullShare} f))

/-- One trip, run: its writes are found by the run. -/
@[irreducible] def seqTrip (𝒱 : Variants) (c : Dev nD) (bd : Option 𝒱.V) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg0 : BitVec 32) (v27 : IVec S1x256 32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (k : Fin k0_t4_loop.trips) :
    { L : BufTy.Contents (Elt F) arg18.view.ty → List (View.Piece (Elt F) S2x2176x128 .f32) // ∀ (E : Set ℕ) (f : BufTy.Contents (Elt F) arg18.view.ty),
      SeqTrip (F := F) c arg2 arg17 arg18 arg19 arg20 arg21 arg22 arg23 arg24 X2 X17 X19 X20 X21 X22 X23 X24 f
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 k PUnit.unit)
          (fun _ => SeqTrip (F := F) c arg2 arg17 arg18 arg19 arg20 arg21 arg22 arg23 arg24 X2 X17 X19 X20 X21 X22 X23 X24 (arg18.view.writes (Elt F) f (L f))) } := by
  have hk : k.val < 128 := Nat.lt_of_lt_of_le k.isLt k0_t4_abs.2.1
  refine ⟨?_, fun E f => ?run⟩
  case run =>
    unfold k0_t4_body
    simp only [k0_part20_eq_skeleton, k0_part21_eq_skeleton]
    unfold k0_part20_skel k0_part21_skel
    iintro ⟨H2, H17, H19, H20, H21, H22, H23, H24, H18⟩
    sl_exec
    sl_step
    sl_close

/-- The writes the run found, spelt out. -/
theorem seqTrip_eq (𝒱 : Variants) (c : Dev nD) (bd : Option 𝒱.V) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg0 : BitVec 32) (v27 : IVec S1x256 32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (k : Fin k0_t4_loop.trips) (f : BufTy.Contents (Elt F) arg18.view.ty) :
    (seqTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 X2 X17 X19 X20 X21 X22 X23 X24 k).1 f = seqPieces i arg2 arg17 arg18 arg19 arg20 arg21 arg22 arg23 arg24 c X2 X17 X19 X20 X21 X22 X23 X24 v27 k f := by
  unfold seqTrip
  rfl

section State
variable (i : grid0.Coords) (arg2 : Memref sig .tc .smem S2048 .i32) (arg17 : Memref sig .tc .vmem S2x2176x128 .f32) (arg18 : Memref sig .tc .vmem S2x2176x128 .f32)
  (arg19 : Memref sig .tc .vmem S2176x128 .f32) (arg20 : Memref sig .tc .vmem S2176x128 .f32) (arg21 : Memref sig .tc .vmem S2x128x160x128 .fp8e4m3)
  (arg22 : Memref sig .tc .vmem S2x128x160x128 .fp8e4m3) (arg23 : Memref sig .tc .vmem S128x256 .f32) (arg24 : Memref sig .tc .vmem S128x256 .f32)
  (c : Dev nD) (X2 : Buf (Elt F) (arg2.view.loc (c : Thread nD τ))) (X17 : BufTy.Contents (Elt F) arg17.view.ty) (X19 : BufTy.Contents (Elt F) arg19.view.ty)
  (X20 : BufTy.Contents (Elt F) arg20.view.ty) (X21 : BufTy.Contents (Elt F) arg21.view.ty) (X22 : BufTy.Contents (Elt F) arg22.view.ty)
  (X23 : BufTy.Contents (Elt F) arg23.view.ty) (X24 : BufTy.Contents (Elt F) arg24.view.ty) (v27 : IVec S1x256 32) (G : BufTy.Contents (Elt F) arg18.view.ty)

/-- What trip `n` makes of the accumulator. -/
def seqStep (n : ℕ) (f : BufTy.Contents (Elt F) arg18.view.ty) : BufTy.Contents (Elt F) arg18.view.ty :=
  if h : n < k0_t4_loop.trips then
    arg18.view.writes (Elt F) f (seqPieces i arg2 arg17 arg18 arg19 arg20 arg21 arg22 arg23 arg24 c X2 X17 X19 X20 X21 X22 X23 X24 v27 ⟨n, h⟩ f)
  else f

/-- What the accumulator holds after `n` trips over `G`. -/
def seqSt (n : ℕ) : BufTy.Contents (Elt F) arg18.view.ty :=
  Nat.rec G (fun n f => seqStep i arg2 arg17 arg18 arg19 arg20 arg21 arg22 arg23 arg24 c X2 X17 X19 X20 X21 X22 X23 X24 v27 n f) n

theorem seqSt_zero : seqSt i arg2 arg17 arg18 arg19 arg20 arg21 arg22 arg23 arg24 c X2 X17 X19 X20 X21 X22 X23 X24 v27 G 0 = G := rfl

theorem seqSt_succ (k : Fin k0_t4_loop.trips) : seqSt i arg2 arg17 arg18 arg19 arg20 arg21 arg22 arg23 arg24 c X2 X17 X19 X20 X21 X22 X23 X24 v27 G (k.val + 1)
    = arg18.view.writes (Elt F) (seqSt i arg2 arg17 arg18 arg19 arg20 arg21 arg22 arg23 arg24 c X2 X17 X19 X20 X21 X22 X23 X24 v27 G k.val)
        (seqPieces i arg2 arg17 arg18 arg19 arg20 arg21 arg22 arg23 arg24 c X2 X17 X19 X20 X21 X22 X23 X24 v27 k (seqSt i arg2 arg17 arg18 arg19 arg20 arg21 arg22 arg23 arg24 c X2 X17 X19 X20 X21 X22 X23 X24 v27 G k.val)) :=
  dif_pos k.isLt

end State

/-- The sequence loop's invariant: what it reads at its contents, the accumulator at its state. -/
@[sl_loop, instance_reducible] def seqValueInv (𝒱 : Variants) (c : Dev nD) (bd : Option 𝒱.V) (E : Set ℕ) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg0 : BitVec 32) (v27 : IVec S1x256 32) (X2 : Buf (Elt F) (arg2.view.loc (c : Thread nD τ))) (X17 : BufTy.Contents (Elt F) arg17.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (G : BufTy.Contents (Elt F) arg18.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 where
  inv k _ := iprop((arg2.view.loc (c : Thread nD τ) ↦{fullShare.right} X2) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (∃ f, (arg18.view.loc (c : Thread nD τ) ↦[arg18.view.set]{fullShare} f) ∗ ⌜f = seqSt i arg2 arg17 arg18 arg19 arg20 arg21 arg22 arg23 arg24 c X2 X17 X19 X20 X21 X22 X23 X24 v27 G k⌝))
  step k acc := by
    iintro ⟨H2, H17, H19, H20, H21, H22, H23, H24, ⟨%f, H18, %hf⟩⟩
    subst hf
    rw [seqSt_succ, ← seqTrip_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 X2 X17 X19 X20 X21 X22 X23 X24 k]
    iapply (wp_wand_r Idealize.ShloMosaic.frame (wpE (defs₀ (F := F)) 𝒱 (c : Thread nD τ) bd) E)
    isplitl [H2 H17 H19 H20 H21 H22 H23 H24 H18]
    · iapply ((seqTrip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v27 X2 X17 X19 X20 X21 X22 X23 X24 k).2 E _)
      isplitl [H2]; · iexact H2
      isplitl [H17]; · iexact H17
      isplitl [H19]; · iexact H19
      isplitl [H20]; · iexact H20
      isplitl [H21]; · iexact H21
      isplitl [H22]; · iexact H22
      isplitl [H23]; · iexact H23
      isplitl [H24]; · iexact H24
      iexact H18
    iintro %v ⟨H2, H17, H19, H20, H21, H22, H23, H24, H18⟩
    isplitl [H2]; · iexact H2
    isplitl [H17]; · iexact H17
    isplitl [H19]; · iexact H19
    isplitl [H20]; · iexact H20
    isplitl [H21]; · iexact H21
    isplitl [H22]; · iexact H22
    isplitl [H23]; · iexact H23
    isplitl [H24]; · iexact H24
    iexists _
    isplitl [H18]
    · iexact H18
    ipureintro; rfl

end Cert.KernelIdeal.Gen

end
-- ==== Proof.Value.Trips.lean ====
/- What one trip of each of the first three loops of the body stores, spelt out. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI

variable {F : FTy → Type} [FloatOps F] [Named F]

/-- The pieces trip `k` of loop 2 writes, the newest first. -/
theorem tripL2_eq (𝒱 : Variants) (c : Dev nD) (bd : Option 𝒱.V) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (X_arg10 : BufTy.Contents (Elt F) arg10.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X_arg10 k = [⟨Rect.unit (s := S2x128x160x128) (k0_off9 k) S1x128x32x128.size (k0_off9_inb k), k0_pay89 (arg10.view.readAt (Elt F) (Rect.unit (s := S224x1x160x128) (k0_off7 k) S96x1x32x128.size (k0_off7_inb k)).toLoadRect X_arg10)⟩, ⟨Rect.unit (s := S2x128x160x128) (k0_off8 k) S1x128x32x128.size (k0_off8_inb k), k0_pay88 (arg10.view.readAt (Elt F) (Rect.unit (s := S224x1x160x128) (k0_off6 k) S128x1x32x128.size (k0_off6_inb k)).toLoadRect X_arg10)⟩] := by
  unfold tripL_k0_t2 trip_k0_t2
  rfl

/-- The pieces trip `k` of loop 3 writes, the newest first. -/
theorem tripL3_eq (𝒱 : Variants) (c : Dev nD) (bd : Option 𝒱.V) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (X_arg11 : BufTy.Contents (Elt F) arg11.view.ty) (k : Fin k0_t3_loop.trips) :
    tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X_arg11 k = [⟨Rect.unit (s := S2x128x160x128) (k0_off13 k) S1x128x32x128.size (k0_off13_inb k), k0_pay91 (arg11.view.readAt (Elt F) (Rect.unit (s := S224x1x160x128) (k0_off11 k) S96x1x32x128.size (k0_off11_inb k)).toLoadRect X_arg11)⟩, ⟨Rect.unit (s := S2x128x160x128) (k0_off12 k) S1x128x32x128.size (k0_off12_inb k), k0_pay90 (arg11.view.readAt (Elt F) (Rect.unit (s := S224x1x160x128) (k0_off10 k) S128x1x32x128.size (k0_off10_inb k)).toLoadRect X_arg11)⟩] := by
  unfold tripL_k0_t3 trip_k0_t3
  rfl

/-- The pieces trip `k` of loop 1 writes, the newest first. -/
theorem tripL1_eq (𝒱 : Variants) (c : Dev nD) (bd : Option 𝒱.V) (i : grid0.Coords) (arg2 : Memref sig .tc .smem S2048 .i32) (harg2 : arg2.IsWhole) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (arg1 : BitVec 32) (X_arg3 : BufTy.Contents (Elt F) arg3.view.ty) (X_arg4 : BufTy.Contents (Elt F) arg4.view.ty) (X_arg5 : BufTy.Contents (Elt F) arg5.view.ty) (X_arg15 : BufTy.Contents (Elt F) arg15.view.ty) (X_arg16 : BufTy.Contents (Elt F) arg16.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 X_arg3 X_arg4 X_arg5 X_arg15 X_arg16 k = ([⟨Rect.unit (s := S2x2176x128) (k0_off3 k) S1x128x32.size (k0_off3_inb k), k0_pay62 (arg3.view.readAt (Elt F) (Rect.unit (s := S12x160x128) (k0_off1 k) S1x160x128.size (k0_off1_inb k)).toLoadRect X_arg3)⟩, ⟨Rect.unit (s := S2x2176x128) (k0_off2 k) S1x128x128.size (k0_off2_inb k), k0_pay61 (arg3.view.readAt (Elt F) (Rect.unit (s := S12x160x128) (k0_off1 k) S1x160x128.size (k0_off1_inb k)).toLoadRect X_arg3)⟩], [⟨Rect.unit (s := S2x2176x128) (k0_off3 k) S1x128x32.size (k0_off3_inb k), k0_pay73 (k0_pay64 k0_pay87 (arg3.view.readAt (Elt F) (Rect.unit (s := S12x160x128) (k0_off1 k) S1x160x128.size (k0_off1_inb k)).toLoadRect X_arg3) (arg4.view.readAt (Elt F) (Rect.unit (s := S1x160x128) (![0, 0, 0]) S1x160x128.size (inb_S1x160x128_S1x160x128_0_0_0)).toLoadRect X_arg4)) (k0_pay65 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4)) (k0_pay66 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4)) (arg16.view.readAt (Elt F) (Rect.unit (s := S4x160x1280) (k0_off4 i) S1x160x1280.size (k0_off4_inb i)).toLoadRect X_arg16) (arg5.view.readAt (Elt F) (Rect.unit (s := S1x160x128) (![0, 0, 0]) S1x160x128.size (inb_S1x160x128_S1x160x128_0_0_0)).toLoadRect X_arg5)⟩, ⟨Rect.unit (s := S2x2176x128) (k0_off2 k) S1x128x128.size (k0_off2_inb k), k0_pay72 (k0_pay64 k0_pay87 (arg3.view.readAt (Elt F) (Rect.unit (s := S12x160x128) (k0_off1 k) S1x160x128.size (k0_off1_inb k)).toLoadRect X_arg3) (arg4.view.readAt (Elt F) (Rect.unit (s := S1x160x128) (![0, 0, 0]) S1x160x128.size (inb_S1x160x128_S1x160x128_0_0_0)).toLoadRect X_arg4)) (k0_pay65 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4)) (k0_pay66 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4)) (arg16.view.readAt (Elt F) (Rect.unit (s := S4x160x1280) (k0_off4 i) S1x160x1280.size (k0_off4_inb i)).toLoadRect X_arg16) (arg5.view.readAt (Elt F) (Rect.unit (s := S1x160x128) (![0, 0, 0]) S1x160x128.size (inb_S1x160x128_S1x160x128_0_0_0)).toLoadRect X_arg5)⟩], [⟨Rect.unit (s := S2176x128) (k0_off5 k) S128x128.size (k0_off5_inb k), k0_pay70 (k0_pay65 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4))⟩], [⟨Rect.unit (s := S2176x128) (k0_off5 k) S128x128.size (k0_off5_inb k), k0_pay71 (k0_pay64 k0_pay87 (arg3.view.readAt (Elt F) (Rect.unit (s := S12x160x128) (k0_off1 k) S1x160x128.size (k0_off1_inb k)).toLoadRect X_arg3) (arg4.view.readAt (Elt F) (Rect.unit (s := S1x160x128) (![0, 0, 0]) S1x160x128.size (inb_S1x160x128_S1x160x128_0_0_0)).toLoadRect X_arg4)) (k0_pay65 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4)) (k0_pay66 k0_pay87 (arg3.view.readAt (Elt F) (Rect.unit (s := S12x160x128) (k0_off1 k) S1x160x128.size (k0_off1_inb k)).toLoadRect X_arg3) (arg15.view.readAt (Elt F) (Rect.unit (s := S4x160x1280) (k0_off4 i) S1x160x1280.size (k0_off4_inb i)).toLoadRect X_arg15) (arg4.view.readAt (Elt F) (Rect.unit (s := S1x160x128) (![0, 0, 0]) S1x160x128.size (inb_S1x160x128_S1x160x128_0_0_0)).toLoadRect X_arg4))⟩]) := by
  unfold tripL_k0_t1 trip_k0_t1
  rfl

end Cert.KernelIdeal.Gen

end
-- ==== Proof.Value.RunA.lean ====
/- The body at the first point, with what it leaves in the prepared prefix and in the output block. -/
module

public import proofs.«01_k».proof.Proof.KernelIdeal.Kit
public import proofs.«01_k».proof.Proof.Value.Seq
public import proofs.«01_k».proof.Proof.Value.Trips

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body at the first point: on whole staging memrefs, the inputs at their contents and the scratch at the contents
    `G·`, it runs to the end with the prepared prefix and the output's memref at the contents the run finds. -/
@[irreducible] def valueRunA (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
    (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty) :
    Σ' (K15 : BufTy.Contents (Elt F) arg15.view.ty) (K16 : BufTy.Contents (Elt F) arg16.view.ty), { OUT : Vec F S128x1920 .bf16 // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21) ∗ (arg22.view.loc (c : Thread nD τ) ↦[arg22.view.set]{fullShare} G22) ∗ (arg23.view.loc (c : Thread nD τ) ↦[arg23.view.set]{fullShare} G23) ∗ (arg24.view.loc (c : Thread nD τ) ↦[arg24.view.set]{fullShare} G24) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare OUT ∗ (arg15.view.loc (c : Thread nD τ) ↦[arg15.view.set]{fullShare} K15) ∗ (arg16.view.loc (c : Thread nD τ) ↦[arg16.view.set]{fullShare} K16) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
    refine ⟨?_, ?_, ?_, fun E K => ?run⟩
    case run =>
      simp only [cc0_cascade_attention_eq_skeleton]; unfold cc0_cascade_attention_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, H11, HS0, HS1, HS2, HS3, HS4, HS5, HS6, HS7, HS8, HS9, HT0, Hk⟩
      obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
      sl_exec_parts (disch := first | sl_exact hc0)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      isplitl [H10]
      · iexists _; isplitr; · ipureintro; exact harg13.read_unread _
        iexact H10
      isplitl [H11]
      · iexists _; isplitr; swap; · iexact H11
        ipureintro; rfl
      isplitl [HS0]; · iexact HS0
      isplitl [HS1]; · iexact HS1
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      iexact HT0

end Cert.KernelIdeal.Gen

end
-- ==== Proof.Value.RunB.lean ====
/- The body at a point that is not the first, with what it leaves in the output block. -/
module

public import proofs.«01_k».proof.Proof.KernelIdeal.Kit
public import proofs.«01_k».proof.Proof.Value.Seq
public import proofs.«01_k».proof.Proof.Value.Trips

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body at a point that is not the first: on whole staging memrefs, the inputs at their contents, the prepared
    prefix at `X15`, `X16` and the other scratch at the contents `G·`, it runs to the end with the output's memref at the
    contents the run finds. -/
@[irreducible] def valueRunB (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : ¬cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
    (G14 : BufTy.Contents (Elt F) arg14.view.ty) (X15 : BufTy.Contents (Elt F) arg15.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty) :
    { OUT : Vec F S128x1920 .bf16 // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (arg14.view.loc (c : Thread nD τ) ↦[arg14.view.set]{fullShare} G14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21) ∗ (arg22.view.loc (c : Thread nD τ) ↦[arg22.view.set]{fullShare} G22) ∗ (arg23.view.loc (c : Thread nD τ) ↦[arg23.view.set]{fullShare} G23) ∗ (arg24.view.loc (c : Thread nD τ) ↦[arg24.view.set]{fullShare} G24) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare OUT ∗ (arg15.view.loc (c : Thread nD τ) ↦[arg15.view.set]{fullShare} X15) ∗ (arg16.view.loc (c : Thread nD τ) ↦[arg16.view.set]{fullShare} X16) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
          ⊢ wp frame (wpE (defs₀ (F := F)) Variants.none c none) E (cc0_cascade_attention i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
    refine ⟨?_, fun E K => ?run⟩
    case run =>
      simp only [cc0_cascade_attention_eq_skeleton]; unfold cc0_cascade_attention_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, H11, HS0, HS1, HS2, HS3, HS4, HS5, HS6, HS7, HS8, HS9, HT0, Hk⟩
      obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
      sl_exec_parts (disch := first | sl_exact hc0)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      isplitl [H10]
      · iexists _; isplitr; · ipureintro; exact harg13.read_unread _
        iexact H10
      isplitl [H11]
      · iexists _; isplitr; swap; · iexact H11
        ipureintro; rfl
      isplitl [HS0]; · iexact HS0
      isplitl [HS1]; · iexact HS1
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      iexact HT0

end Cert.KernelIdeal.Gen

end
-- ==== Proof.Value.Out.lean ====
/- What the body leaves in its output block, as a function of what its buffers held. -/
module

public import proofs.«01_k».proof.Proof.Value.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

section Out
variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole)
  (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
  (X15 : BufTy.Contents (Elt F) arg15.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty)

/-- The query buffer after the head loop. -/
def bufQ : BufTy.Contents (Elt F) arg17.view.ty := arg17.view.writes (Elt F) G17 (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (Scf.trips k0_t1_loop.lb k0_t1_loop.ub k0_t1_loop.st)).1
/-- The accumulator after the head loop. -/
def bufO : BufTy.Contents (Elt F) arg18.view.ty := arg18.view.writes (Elt F) G18 (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (Scf.trips k0_t1_loop.lb k0_t1_loop.ub k0_t1_loop.st)).2.1
/-- The running maxima after the head loop. -/
def bufM : BufTy.Contents (Elt F) arg19.view.ty := arg19.view.writes (Elt F) G19 (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (Scf.trips k0_t1_loop.lb k0_t1_loop.ub k0_t1_loop.st)).2.2.1
/-- The running sums after the head loop. -/
def bufL : BufTy.Contents (Elt F) arg20.view.ty := arg20.view.writes (Elt F) G20 (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (Scf.trips k0_t1_loop.lb k0_t1_loop.ub k0_t1_loop.st)).2.2.2
/-- The transposed tail keys. -/
def bufKt : BufTy.Contents (Elt F) arg21.view.ty := arg21.view.writes (Elt F) G21 (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg10.unread x7) (Scf.trips k0_t2_loop.lb k0_t2_loop.ub k0_t2_loop.st))
/-- The transposed tail values. -/
def bufVt : BufTy.Contents (Elt F) arg22.view.ty := arg22.view.writes (Elt F) G22 (pb_k0_t3 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg11.unread x8) (Scf.trips k0_t3_loop.lb k0_t3_loop.ub k0_t3_loop.st))
/-- The transposed tail key scales. -/
def bufKs : BufTy.Contents (Elt F) arg23.view.ty := arg23.view.writes (Elt F) G23 [⟨Rect.unit (s := S128x256) ![0, 0] S128x224.size inb_S128x256_S128x224_0_0, k0_pay92 (arg12.view.readAt (Elt F) (Rect.unit (s := S224x4x128) (k0_off14 i) S224x1x128.size (k0_off14_inb i)).toLoadRect (harg12.unread x9))⟩]
/-- The transposed tail value scales. -/
def bufVs : BufTy.Contents (Elt F) arg24.view.ty := arg24.view.writes (Elt F) G24 [⟨Rect.unit (s := S128x256) ![0, 0] S128x224.size inb_S128x256_S128x224_0_0, k0_pay93 (arg13.view.readAt (Elt F) (Rect.unit (s := S224x4x128) (k0_off14 i) S224x1x128.size (k0_off14_inb i)).toLoadRect (harg13.unread x10))⟩]

/-- The accumulator after the sequence loop. -/
def bufSq : BufTy.Contents (Elt F) arg18.view.ty :=
  (seqSt i tbM0_0 arg17 arg18 arg19 arg20 arg21 arg22 arg23 arg24 c xt0 (bufQ (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G17) (bufM c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G19) (bufL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G20) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (bufKs i arg12 harg12 arg23 x9 G23) (bufVs i arg13 harg13 arg24 x10 G24) (iota .tc S1x256 32 [1] iota_S1x256_d1_w32) (bufO (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G18) (Scf.trips k0_t4_loop.lb k0_t4_loop.ub k0_t4_loop.st))

end Out

/-- The output block read off the accumulator. -/
def outRows (arg18 : Memref sig .tc .vmem S2x2176x128 .f32) (SQ : BufTy.Contents (Elt F) arg18.view.ty) : FVec F S128x1920 .bf16 :=
  k0_pay1 (k0_pay95 (arg18.view.readAt (Elt F) (Rect.unit (s := S2x2176x128) ![0, 0, 0] S1x128x128.size inb_S2x2176x128_S1x128x128_0_0_0).toLoadRect SQ)) (k0_pay96 (arg18.view.readAt (Elt F) (Rect.unit (s := S2x2176x128) ![1, 0, 0] S1x128x32.size inb_S2x2176x128_S1x128x32_1_0_0).toLoadRect SQ)) (k0_pay97 (arg18.view.readAt (Elt F) (Rect.unit (s := S2x2176x128) ![0, 136, 0] S1x128x128.size inb_S2x2176x128_S1x128x128_0_136_0).toLoadRect SQ)) (k0_pay98 (arg18.view.readAt (Elt F) (Rect.unit (s := S2x2176x128) ![1, 136, 0] S1x128x32.size inb_S2x2176x128_S1x128x32_1_136_0).toLoadRect SQ)) (k0_pay99 (arg18.view.readAt (Elt F) (Rect.unit (s := S2x2176x128) ![0, 272, 0] S1x128x128.size inb_S2x2176x128_S1x128x128_0_272_0).toLoadRect SQ)) (k0_pay100 (arg18.view.readAt (Elt F) (Rect.unit (s := S2x2176x128) ![1, 272, 0] S1x128x32.size inb_S2x2176x128_S1x128x32_1_272_0).toLoadRect SQ)) (k0_pay101 (arg18.view.readAt (Elt F) (Rect.unit (s := S2x2176x128) ![0, 408, 0] S1x128x128.size inb_S2x2176x128_S1x128x128_0_408_0).toLoadRect SQ)) (k0_pay102 (arg18.view.readAt (Elt F) (Rect.unit (s := S2x2176x128) ![1, 408, 0] S1x128x32.size inb_S2x2176x128_S1x128x32_1_408_0).toLoadRect SQ)) (k0_pay103 (arg18.view.readAt (Elt F) (Rect.unit (s := S2x2176x128) ![0, 544, 0] S1x128x128.size inb_S2x2176x128_S1x128x128_0_544_0).toLoadRect SQ)) (k0_pay104 (arg18.view.readAt (Elt F) (Rect.unit (s := S2x2176x128) ![1, 544, 0] S1x128x32.size inb_S2x2176x128_S1x128x32_1_544_0).toLoadRect SQ)) (k0_pay105 (arg18.view.readAt (Elt F) (Rect.unit (s := S2x2176x128) ![0, 680, 0] S1x128x128.size inb_S2x2176x128_S1x128x128_0_680_0).toLoadRect SQ)) (k0_pay106 (arg18.view.readAt (Elt F) (Rect.unit (s := S2x2176x128) ![1, 680, 0] S1x128x32.size inb_S2x2176x128_S1x128x32_1_680_0).toLoadRect SQ)) (k0_pay107 (arg18.view.readAt (Elt F) (Rect.unit (s := S2x2176x128) ![0, 816, 0] S1x128x128.size inb_S2x2176x128_S1x128x128_0_816_0).toLoadRect SQ)) (k0_pay108 (arg18.view.readAt (Elt F) (Rect.unit (s := S2x2176x128) ![1, 816, 0] S1x128x32.size inb_S2x2176x128_S1x128x32_1_816_0).toLoadRect SQ)) (k0_pay109 (arg18.view.readAt (Elt F) (Rect.unit (s := S2x2176x128) ![0, 952, 0] S1x128x128.size inb_S2x2176x128_S1x128x128_0_952_0).toLoadRect SQ)) (k0_pay110 (arg18.view.readAt (Elt F) (Rect.unit (s := S2x2176x128) ![1, 952, 0] S1x128x32.size inb_S2x2176x128_S1x128x32_1_952_0).toLoadRect SQ)) (k0_pay111 (arg18.view.readAt (Elt F) (Rect.unit (s := S2x2176x128) ![0, 1088, 0] S1x128x128.size inb_S2x2176x128_S1x128x128_0_1088_0).toLoadRect SQ)) (k0_pay112 (arg18.view.readAt (Elt F) (Rect.unit (s := S2x2176x128) ![1, 1088, 0] S1x128x32.size inb_S2x2176x128_S1x128x32_1_1088_0).toLoadRect SQ)) (k0_pay113 (arg18.view.readAt (Elt F) (Rect.unit (s := S2x2176x128) ![0, 1224, 0] S1x128x128.size inb_S2x2176x128_S1x128x128_0_1224_0).toLoadRect SQ)) (arg18.view.readAt (Elt F) (Rect.unit (s := S2x2176x128) ![1, 1224, 0] S1x128x32.size inb_S2x2176x128_S1x128x32_1_1224_0).toLoadRect SQ) (arg18.view.readAt (Elt F) (Rect.unit (s := S2x2176x128) ![0, 1360, 0] S1x128x128.size inb_S2x2176x128_S1x128x128_0_1360_0).toLoadRect SQ) (arg18.view.readAt (Elt F) (Rect.unit (s := S2x2176x128) ![1, 1360, 0] S1x128x32.size inb_S2x2176x128_S1x128x32_1_1360_0).toLoadRect SQ) (arg18.view.readAt (Elt F) (Rect.unit (s := S2x2176x128) ![0, 1496, 0] S1x128x128.size inb_S2x2176x128_S1x128x128_0_1496_0).toLoadRect SQ) (arg18.view.readAt (Elt F) (Rect.unit (s := S2x2176x128) ![1, 1496, 0] S1x128x32.size inb_S2x2176x128_S1x128x32_1_1496_0).toLoadRect SQ)

theorem valueRunB_eq (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : ¬cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
    (G14 : BufTy.Contents (Elt F) arg14.view.ty) (X15 : BufTy.Contents (Elt F) arg15.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty) :
    (valueRunB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 G14 X15 X16 G17 G18 G19 G20 G21 G22 G23 G24).1
      = arg14.view.read (Elt F) (arg14.view.writes (Elt F) G14 [⟨Rect.unit (s := S128x1920) ![0, 0] S128x1920.size inb_S128x1920_S128x1920_0_0, outRows arg18 (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24)⟩]) := by
  unfold valueRunB
  rfl

end Cert.KernelIdeal.Gen

end
-- ==== Proof.Value.BufTr.lean ====
/- What the scratch buffers hold after the loops that fill them, trip by trip. -/
module

public import proofs.«01_k».proof.Proof.Value.Out
public import proofs.«01_k».proof.Proof.Value.Trips
public import Idealize.ShloMosaic.Lib.WritesUnit
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

/-- The contents after a loop of writes, at a place that one trip writes and the others leave. -/
theorem loop_read {κ : Kind} {sp : Space} {s : Shape} {e : EltTy} (v : View sig κ sp s e) (G : v.ty.Contents (Elt F)) {T : ℕ}
    (pb : ℕ → List (View.Piece (Elt F) s e)) (tr : Fin T → List (View.Piece (Elt F) s e)) (h0 : pb 0 = [])
    (hs : ∀ k : Fin T, pb (k.val + 1) = tr k ++ pb k.val) (y : s.Idx) (g : Fin T) (val : Elt F e)
    (hit : ∀ f, v.read (Elt F) (v.writes (Elt F) f (tr g)) y = val)
    (miss : ∀ k, k ≠ g → ∀ f, v.read (Elt F) (v.writes (Elt F) f (tr k)) y = v.read (Elt F) f y) :
    v.read (Elt F) (v.writes (Elt F) G (pb T)) y = val := by
  have key : ∀ n : ℕ, n ≤ T → g.val < n → v.read (Elt F) (v.writes (Elt F) G (pb n)) y = val := by
    intro n
    induction n with
    | zero => intro _ h; exact absurd h (Nat.not_lt_zero _)
    | succ n ih =>
      intro hn hg
      rw [hs ⟨n, hn⟩, View.writes_append]
      by_cases hk : (⟨n, hn⟩ : Fin T) = g
      · rw [hk]; exact hit _
      · rw [miss _ hk]
        refine ih (by omega) ?_
        have : n ≠ g.val := fun h => hk (Fin.ext h)
        omega
  exact key T le_rfl g.isLt

/-- A read at a place of the newest of a list of unit-stride writes. -/
theorem hit2 {κ : Kind} {sp : Space} {n0 n1 m0 m1 : ℕ} {e : EltTy} (v : View sig κ sp (⟨2, ![n0, n1]⟩ : Shape) e)
    (f : v.ty.Contents (Elt F)) {off off' : Fin 2 → ℕ} (inb : ∀ a : Fin 2, off a + (![m0, m1] : Fin 2 → ℕ) a ≤ (![n0, n1] : Fin 2 → ℕ) a)
    (w : (⟨2, ![m0, m1]⟩ : Shape).Idx → Elt F e) (L : List (View.Piece (Elt F) (⟨2, ![n0, n1]⟩ : Shape) e))
    (a : Fin m0) (b : Fin m1) (A : Fin n0) (B : Fin n1) (heq : off = off')
    (hA : A.val = off' 0 + a.val) (hB : B.val = off' 1 + b.val) :
    v.read (Elt F) (v.writes (Elt F) f ((⟨Rect.unit (s := ⟨2, ![n0, n1]⟩) off ![m0, m1] inb, w⟩ : View.Piece (Elt F) (⟨2, ![n0, n1]⟩ : Shape) e) :: L)) (ix2 A B) = w (ix2 a b) :=
  View.read_writes_cons_unit_of_mem v f inb w L (ix2 A B) (ix2 a b) heq (fun x => by
    fin_cases x
    · exact hA
    · exact hB)

/-- A read at a place of the newest of a list of unit-stride writes. -/
theorem hit3 {κ : Kind} {sp : Space} {n0 n1 n2 m0 m1 m2 : ℕ} {e : EltTy} (v : View sig κ sp (⟨3, ![n0, n1, n2]⟩ : Shape) e)
    (f : v.ty.Contents (Elt F)) {off off' : Fin 3 → ℕ} (inb : ∀ a : Fin 3, off a + (![m0, m1, m2] : Fin 3 → ℕ) a ≤ (![n0, n1, n2] : Fin 3 → ℕ) a)
    (w : (⟨3, ![m0, m1, m2]⟩ : Shape).Idx → Elt F e) (L : List (View.Piece (Elt F) (⟨3, ![n0, n1, n2]⟩ : Shape) e))
    (a : Fin m0) (b : Fin m1) (c : Fin m2) (A : Fin n0) (B : Fin n1) (C : Fin n2) (heq : off = off')
    (hA : A.val = off' 0 + a.val) (hB : B.val = off' 1 + b.val) (hC : C.val = off' 2 + c.val) :
    v.read (Elt F) (v.writes (Elt F) f ((⟨Rect.unit (s := ⟨3, ![n0, n1, n2]⟩) off ![m0, m1, m2] inb, w⟩ : View.Piece (Elt F) (⟨3, ![n0, n1, n2]⟩ : Shape) e) :: L)) (ix3 A B C) = w (ix3 a b c) :=
  View.read_writes_cons_unit_of_mem v f inb w L (ix3 A B C) (ix3 a b c) heq (fun x => by
    fin_cases x
    · exact hA
    · exact hB
    · exact hC)

/-- A read at a place of the newest of a list of unit-stride writes. -/
theorem hit4 {κ : Kind} {sp : Space} {n0 n1 n2 n3 m0 m1 m2 m3 : ℕ} {e : EltTy} (v : View sig κ sp (⟨4, ![n0, n1, n2, n3]⟩ : Shape) e)
    (f : v.ty.Contents (Elt F)) {off off' : Fin 4 → ℕ} (inb : ∀ a : Fin 4, off a + (![m0, m1, m2, m3] : Fin 4 → ℕ) a ≤ (![n0, n1, n2, n3] : Fin 4 → ℕ) a)
    (w : (⟨4, ![m0, m1, m2, m3]⟩ : Shape).Idx → Elt F e) (L : List (View.Piece (Elt F) (⟨4, ![n0, n1, n2, n3]⟩ : Shape) e))
    (a : Fin m0) (b : Fin m1) (c : Fin m2) (d : Fin m3) (A : Fin n0) (B : Fin n1) (C : Fin n2) (D : Fin n3) (heq : off = off')
    (hA : A.val = off' 0 + a.val) (hB : B.val = off' 1 + b.val) (hC : C.val = off' 2 + c.val) (hD : D.val = off' 3 + d.val) :
    v.read (Elt F) (v.writes (Elt F) f ((⟨Rect.unit (s := ⟨4, ![n0, n1, n2, n3]⟩) off ![m0, m1, m2, m3] inb, w⟩ : View.Piece (Elt F) (⟨4, ![n0, n1, n2, n3]⟩ : Shape) e) :: L)) (ix4 A B C D) = w (ix4 a b c d) :=
  View.read_writes_cons_unit_of_mem v f inb w L (ix4 A B C D) (ix4 a b c d) heq (fun x => by
    fin_cases x
    · exact hA
    · exact hB
    · exact hC
    · exact hD)

section Out

variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole)
  (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
  (X15 : BufTy.Contents (Elt F) arg15.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty)

/-- The writes of one trip to this buffer, the newest first. -/
def bufQTr (k : Fin k0_t1_loop.trips) : List (View.Piece (Elt F) S2x2176x128 .f32) := [⟨Rect.unit (s := S2x2176x128) (k0_off3 k) S1x128x32.size (k0_off3_inb k), k0_pay62 (arg3.view.readAt (Elt F) (Rect.unit (s := S12x160x128) (k0_off1 k) S1x160x128.size (k0_off1_inb k)).toLoadRect (harg3.unread x0))⟩, ⟨Rect.unit (s := S2x2176x128) (k0_off2 k) S1x128x128.size (k0_off2_inb k), k0_pay61 (arg3.view.readAt (Elt F) (Rect.unit (s := S12x160x128) (k0_off1 k) S1x160x128.size (k0_off1_inb k)).toLoadRect (harg3.unread x0))⟩]

theorem bufQ_succ (k : Fin k0_t1_loop.trips) : (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (k.val + 1)).1 = bufQTr (F := F) arg3 harg3 x0 k ++ (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 k.val).1 := by
  rw [pb_k0_t1_succ, tripL1_eq]; rfl

/-- The writes of one trip to this buffer, the newest first. -/
def bufOTr (k : Fin k0_t1_loop.trips) : List (View.Piece (Elt F) S2x2176x128 .f32) := [⟨Rect.unit (s := S2x2176x128) (k0_off3 k) S1x128x32.size (k0_off3_inb k), k0_pay73 (k0_pay64 k0_pay87 (arg3.view.readAt (Elt F) (Rect.unit (s := S12x160x128) (k0_off1 k) S1x160x128.size (k0_off1_inb k)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (arg16.view.readAt (Elt F) (Rect.unit (s := S4x160x1280) (k0_off4 i) S1x160x1280.size (k0_off4_inb i)).toLoadRect X16) (arg5.view.readAt (Elt F) (Rect.unit (s := S1x160x128) (![0, 0, 0]) S1x160x128.size (inb_S1x160x128_S1x160x128_0_0_0)).toLoadRect (harg5.unread x2))⟩, ⟨Rect.unit (s := S2x2176x128) (k0_off2 k) S1x128x128.size (k0_off2_inb k), k0_pay72 (k0_pay64 k0_pay87 (arg3.view.readAt (Elt F) (Rect.unit (s := S12x160x128) (k0_off1 k) S1x160x128.size (k0_off1_inb k)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (arg16.view.readAt (Elt F) (Rect.unit (s := S4x160x1280) (k0_off4 i) S1x160x1280.size (k0_off4_inb i)).toLoadRect X16) (arg5.view.readAt (Elt F) (Rect.unit (s := S1x160x128) (![0, 0, 0]) S1x160x128.size (inb_S1x160x128_S1x160x128_0_0_0)).toLoadRect (harg5.unread x2))⟩]

theorem bufO_succ (k : Fin k0_t1_loop.trips) : (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (k.val + 1)).2.1 = bufOTr (F := F) i arg3 harg3 arg4 harg4 arg5 harg5 arg15 arg16 x0 x1 x2 X15 X16 k ++ (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 k.val).2.1 := by
  rw [pb_k0_t1_succ, tripL1_eq]; rfl

/-- The writes of one trip to this buffer, the newest first. -/
def bufMTr (k : Fin k0_t1_loop.trips) : List (View.Piece (Elt F) S2176x128 .f32) := [⟨Rect.unit (s := S2176x128) (k0_off5 k) S128x128.size (k0_off5_inb k), k0_pay70 (k0_pay65 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1)))⟩]

theorem bufM_succ (k : Fin k0_t1_loop.trips) : (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (k.val + 1)).2.2.1 = bufMTr (F := F) i arg3 harg3 arg4 harg4 arg15 x0 x1 X15 k ++ (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 k.val).2.2.1 := by
  rw [pb_k0_t1_succ, tripL1_eq]; rfl

/-- The writes of one trip to this buffer, the newest first. -/
def bufLTr (k : Fin k0_t1_loop.trips) : List (View.Piece (Elt F) S2176x128 .f32) := [⟨Rect.unit (s := S2176x128) (k0_off5 k) S128x128.size (k0_off5_inb k), k0_pay71 (k0_pay64 k0_pay87 (arg3.view.readAt (Elt F) (Rect.unit (s := S12x160x128) (k0_off1 k) S1x160x128.size (k0_off1_inb k)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 k) S1x160x128.size (k0_off1_inb k)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1)))⟩]

theorem bufL_succ (k : Fin k0_t1_loop.trips) : (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 (k.val + 1)).2.2.2 = bufLTr (F := F) i arg3 harg3 arg4 harg4 arg15 x0 x1 X15 k ++ (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 k.val).2.2.2 := by
  rw [pb_k0_t1_succ, tripL1_eq]; rfl

/-- The writes of one trip to this buffer, the newest first. -/
def bufKtTr (k : Fin k0_t2_loop.trips) : List (View.Piece (Elt F) S2x128x160x128 .fp8e4m3) := [⟨Rect.unit (s := S2x128x160x128) (k0_off9 k) S1x128x32x128.size (k0_off9_inb k), k0_pay89 (arg10.view.readAt (Elt F) (Rect.unit (s := S224x1x160x128) (k0_off7 k) S96x1x32x128.size (k0_off7_inb k)).toLoadRect (harg10.unread x7))⟩, ⟨Rect.unit (s := S2x128x160x128) (k0_off8 k) S1x128x32x128.size (k0_off8_inb k), k0_pay88 (arg10.view.readAt (Elt F) (Rect.unit (s := S224x1x160x128) (k0_off6 k) S128x1x32x128.size (k0_off6_inb k)).toLoadRect (harg10.unread x7))⟩]

theorem bufKt_succ (k : Fin k0_t2_loop.trips) : (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg10.unread x7) (k.val + 1)) = bufKtTr (F := F) arg10 harg10 x7 k ++ (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg10.unread x7) k.val) := by
  rw [pb_k0_t2_succ, tripL2_eq]; rfl

/-- The writes of one trip to this buffer, the newest first. -/
def bufVtTr (k : Fin k0_t3_loop.trips) : List (View.Piece (Elt F) S2x128x160x128 .fp8e4m3) := [⟨Rect.unit (s := S2x128x160x128) (k0_off13 k) S1x128x32x128.size (k0_off13_inb k), k0_pay91 (arg11.view.readAt (Elt F) (Rect.unit (s := S224x1x160x128) (k0_off11 k) S96x1x32x128.size (k0_off11_inb k)).toLoadRect (harg11.unread x8))⟩, ⟨Rect.unit (s := S2x128x160x128) (k0_off12 k) S1x128x32x128.size (k0_off12_inb k), k0_pay90 (arg11.view.readAt (Elt F) (Rect.unit (s := S224x1x160x128) (k0_off10 k) S128x1x32x128.size (k0_off10_inb k)).toLoadRect (harg11.unread x8))⟩]

theorem bufVt_succ (k : Fin k0_t3_loop.trips) : (pb_k0_t3 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg11.unread x8) (k.val + 1)) = bufVtTr (F := F) arg11 harg11 x8 k ++ (pb_k0_t3 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg11.unread x8) k.val) := by
  rw [pb_k0_t3_succ, tripL3_eq]; rfl

end Out

end Cert.KernelIdeal.Gen

end
-- ==== Proof.Value.Pay.lean ====
/- The body's arithmetic over the extended reals, place by place. -/
module

public import proofs.«01_k».proof.Proof.Gen.KernelIdeal.Skeleton
public import proofs.«01_k».proof.Proof.Value.Math
public import Idealize.ShloMosaic.Lib.Pointwise
public import Idealize.ShloMosaic.Lib.WordCmp
public import Idealize.ShloMosaic.PureOps.IdealRules

@[expose] public section

set_option maxRecDepth 8192
set_option maxHeartbeats 1000000

noncomputable section

namespace Cert.KernelIdeal.Gen

open Idealize.ShloMosaic Idealize.ShloMosaic.TcCoe Cert.Softmax

/-- The scale of the scores in base two: one over the square root of the head size, over the logarithm of two. -/
def sl2 : EReal := (((Real.sqrt 160)⁻¹ * (Real.log 2)⁻¹ : ℝ) : EReal)

theorem named_sl2 : (Named.named Cert.KernelIdeal.κ "scale_log2e" 0x3DE995B3#32 : Ideal .f32) = sl2 :=
  IdealRules.named_const.ideal_named_scalar _ _ _ _ rfl

theorem ninf : Ideal.ofBits .f32 0xFF800000#32 = (⊥ : EReal) := by
  show Ideal.ieee 8 23 (0xFF800000#32) = ⊥
  unfold Ideal.ieee
  rw [if_pos (by decide), if_pos (by decide), if_pos (by decide)]

theorem sel {α : Type} (c : BitVec 1) (a b : α) : Scalar.select c a b = if c = 1#1 then a else b := rfl

theorem pay59_apply (v : Vec Ideal S1x160x128 .bf16) (b : Fin 128) (d : Fin 160) : k0_pay59 (F := Ideal) v (ix2 b d) = v (ix3 (0 : Fin 1) d b) := by
  pointwise [k0_pay59]

theorem pay60_apply (v : Vec Ideal S1x160x128 .bf16) (b : Fin 128) (d : Fin 160) : k0_pay60 (F := Ideal) v (ix2 b d) = v (ix3 (0 : Fin 1) d b) := by
  pointwise [k0_pay60, k0_pay59]

theorem pay61_apply (v : Vec Ideal S1x160x128 .bf16) (b l : Fin 128) : k0_pay61 (F := Ideal) v (ix3 (0 : Fin 1) b l) = v (ix3 (0 : Fin 1) (⟨l.val, by omega⟩ : Fin 160) b) := by
  pointwise [k0_pay61, k0_pay59]

theorem pay62_apply (v : Vec Ideal S1x160x128 .bf16) (b : Fin 128) (l : Fin 32) : k0_pay62 (F := Ideal) v (ix3 (0 : Fin 1) b l) = v (ix3 (0 : Fin 1) (⟨128 + l.val, by omega⟩ : Fin 160) b) := by
  pointwise [k0_pay62, k0_pay59]

theorem pay63_apply (v : Vec Ideal S1x160x128 .bf16) (K : Vec Ideal S1x160x1280 .bf16) (b : Fin 128) (p : Fin 1280) :
    k0_pay63 (F := Ideal) v K (ix2 b p) = (∑ d : Fin 160, v (ix3 (0 : Fin 1) d b) * K (ix3 (0 : Fin 1) d p)) * sl2 := by
  pointwise [k0_pay63, k0_pay60, k0_pay59, named_sl2]

theorem pay87_apply (b b' : Fin 128) : k0_pay87 (ix2 b b') = BitVec.ofBool (decide (b = b')) := by
  pointwise [k0_pay87]
  rw [WordCmp.cmpi_eq_ofNat (by have := b.isLt; omega) (by have := b'.isLt; omega)]
  congr 1
  exact decide_eq_decide.mpr Fin.ext_iff.symm

theorem pay64_apply (v : Vec Ideal S1x160x128 .bf16) (kn : Vec Ideal S1x160x128 .bf16) (b b' : Fin 128) :
    k0_pay64 (F := Ideal) k0_pay87 v kn (ix2 b b') = if b = b' then (∑ d : Fin 160, v (ix3 (0 : Fin 1) d b) * kn (ix3 (0 : Fin 1) d b)) * sl2 else ⊥ := by
  pointwise [k0_pay64, k0_pay60, k0_pay59, named_sl2, pay87_apply, sel, ninf]
  by_cases h : b = b'
  · subst h; simp
  · simp [h]

/-- The prefix scores of a row. -/
def spOf (v : Vec Ideal S1x160x128 .bf16) (K : Vec Ideal S1x160x1280 .bf16) (b : Fin 128) (p : Fin 1280) : EReal :=
  (∑ d : Fin 160, v (ix3 (0 : Fin 1) d b) * K (ix3 (0 : Fin 1) d p)) * sl2

/-- The new position's score of a row. -/
def snOf (v kn : Vec Ideal S1x160x128 .bf16) (b : Fin 128) : EReal :=
  (∑ d : Fin 160, v (ix3 (0 : Fin 1) d b) * kn (ix3 (0 : Fin 1) d b)) * sl2

theorem top_diag (b : Fin 128) (x : EReal) : top (fun b' : Fin 128 => if b = b' then x else ⊥) = x := by
  refine eq_of_forall_ge_iff fun c => ?_
  rw [top_le]
  refine ⟨fun h => by simpa using h b, fun h k => ?_⟩
  split
  · exact h
  · exact bot_le

theorem sum_diag (b : Fin 128) (x m : EReal) (w : Fin 128 → EReal) :
    ∑ b' : Fin 128, Ideal.exp2 ((if b = b' then x else ⊥) - m) * w b' = Ideal.exp2 (x - m) * w b := by
  rw [Finset.sum_eq_single b]
  · rw [if_pos rfl]
  · intro b' _ h
    rw [if_neg (Ne.symm h), EReal.bot_sub]; simp
  · intro h; exact absurd (Finset.mem_univ b) h

theorem sum_diag' (b : Fin 128) (x m : EReal) :
    ∑ b' : Fin 128, Ideal.exp2 ((if b = b' then x else ⊥) - m) = Ideal.exp2 (x - m) := by
  rw [Finset.sum_eq_single b]
  · rw [if_pos rfl]
  · intro b' _ h
    rw [if_neg (Ne.symm h), EReal.bot_sub]; simp
  · intro h; exact absurd (Finset.mem_univ b) h

section Head
variable (v : Vec Ideal S1x160x128 .bf16) (K : Vec Ideal S1x160x1280 .bf16) (kn : Vec Ideal S1x160x128 .bf16)
  (V : Vec Ideal S1x160x1280 .bf16) (vn : Vec Ideal S1x160x128 .bf16)

theorem pay65_apply (b : Fin 128) (z : Fin 1) :
    k0_pay65 (F := Ideal) k0_pay87 v K kn (ix2 b z) = max (top (spOf v K b)) (snOf v kn b) := by
  pointwise [k0_pay65, ninf, pay63_apply, pay64_apply]
  exact congrArg (max (top (spOf v K b))) (top_diag b (snOf v kn b))

theorem pay66_apply (b : Fin 128) (p : Fin 1280) :
    k0_pay66 (F := Ideal) k0_pay87 v K kn (ix2 b p) = spOf v K b p - max (top (spOf v K b)) (snOf v kn b) := by
  pointwise [k0_pay66, pay63_apply, pay65_apply]
  rfl

/-- The row's sum before the tail. -/
def l0Of (b : Fin 128) : EReal :=
  ∑ p, Ideal.exp2 (spOf v K b p - max (top (spOf v K b)) (snOf v kn b)) + Ideal.exp2 (snOf v kn b - max (top (spOf v K b)) (snOf v kn b))

/-- The row's weighted values before the tail. -/
def o0Of (b : Fin 128) (d : Fin 160) : EReal :=
  ∑ p, Ideal.exp2 (spOf v K b p - max (top (spOf v K b)) (snOf v kn b)) * V (ix3 (0 : Fin 1) d p)
    + Ideal.exp2 (snOf v kn b - max (top (spOf v K b)) (snOf v kn b)) * vn (ix3 (0 : Fin 1) d b)

theorem pay69_apply (b : Fin 128) (d : Fin 160) :
    k0_pay69 (F := Ideal) (k0_pay64 k0_pay87 v kn) (k0_pay65 k0_pay87 v K kn) (k0_pay66 k0_pay87 v K kn) V vn (ix2 b d) = o0Of v K kn V vn b d := by
  pointwise [k0_pay69, k0_pay67, k0_pay68, pay64_apply, pay65_apply, pay66_apply]
  exact congrArg₂ (· + ·) rfl (sum_diag b (snOf v kn b) _ (fun b' => vn (ix3 (0 : Fin 1) d b')))

theorem pay70_apply (b l : Fin 128) :
    k0_pay70 (F := Ideal) (k0_pay65 k0_pay87 v K kn) (ix2 b l) = max (top (spOf v K b)) (snOf v kn b) := by
  pointwise [k0_pay70, pay65_apply]

theorem pay71_apply (b l : Fin 128) :
    k0_pay71 (F := Ideal) (k0_pay64 k0_pay87 v kn) (k0_pay65 k0_pay87 v K kn) (k0_pay66 k0_pay87 v K kn) (ix2 b l) = l0Of v K kn b := by
  pointwise [k0_pay71, k0_pay67, k0_pay68, pay64_apply, pay65_apply, pay66_apply]
  exact congrArg₂ (· + ·) rfl (sum_diag' b (snOf v kn b) _)

theorem pay72_apply (b l : Fin 128) :
    k0_pay72 (F := Ideal) (k0_pay64 k0_pay87 v kn) (k0_pay65 k0_pay87 v K kn) (k0_pay66 k0_pay87 v K kn) V vn (ix3 (0 : Fin 1) b l)
      = o0Of v K kn V vn b (⟨l.val, by omega⟩ : Fin 160) := by
  pointwise [k0_pay72, pay69_apply]

theorem pay73_apply (b : Fin 128) (l : Fin 32) :
    k0_pay73 (F := Ideal) (k0_pay64 k0_pay87 v kn) (k0_pay65 k0_pay87 v K kn) (k0_pay66 k0_pay87 v K kn) V vn (ix3 (0 : Fin 1) b l)
      = o0Of v K kn V vn b (⟨128 + l.val, by omega⟩ : Fin 160) := by
  pointwise [k0_pay73, pay69_apply]

end Head

section Tail
variable (V : FVec Ideal S160x256 .fp8e4m3) (B : IVec S1x256 1) (S : FVec Ideal S16x256 .f32) (M L : Vec Ideal S16x128 .f32)
  (sv : Vec Ideal S1x256 .f32)

theorem pay78_apply (g : Fin 16) (z : Fin 1) :
    k0_pay78 (F := Ideal) S M (ix2 g z) = max (M (ix2 g (0 : Fin 128))) (top fun t => S (ix2 g t)) := by
  pointwise [k0_pay78, k0_pay77, ninf]
  rfl

theorem pay79_apply (g : Fin 16) (t : Fin 256) :
    k0_pay79 (F := Ideal) S M (ix2 g t) = Ideal.exp2 (S (ix2 g t) - max (M (ix2 g (0 : Fin 128))) (top fun t => S (ix2 g t))) := by
  pointwise [k0_pay79, pay78_apply]
  rfl

theorem pay80_apply (g : Fin 16) (z : Fin 1) :
    k0_pay80 (F := Ideal) S M (ix2 g z) = Ideal.exp2 (M (ix2 g (0 : Fin 128)) - max (M (ix2 g (0 : Fin 128))) (top fun t => S (ix2 g t))) := by
  pointwise [k0_pay80, k0_pay77, pay78_apply]
  rfl

theorem pay81_apply (g : Fin 16) (d : Fin 160) :
    k0_pay81 (F := Ideal) V B S M sv (ix2 g d)
      = ∑ t : Fin 256, (if B (ix2 (0 : Fin 1) t) = 1#1 then Ideal.exp2 (S (ix2 g t) - max (M (ix2 g (0 : Fin 128))) (top fun t => S (ix2 g t))) * sv (ix2 (0 : Fin 1) t) else 0) * V (ix2 d t) := by
  pointwise [k0_pay81, pay79_apply, sel]

theorem pay82_apply (g : Fin 16) (z : Fin 1) :
    k0_pay82 (F := Ideal) S M L (ix2 g z)
      = Ideal.div 1 (L (ix2 g (0 : Fin 128)) * Ideal.exp2 (M (ix2 g (0 : Fin 128)) - max (M (ix2 g (0 : Fin 128))) (top fun t => S (ix2 g t)))
          + ∑ t : Fin 256, Ideal.exp2 (S (ix2 g t) - max (M (ix2 g (0 : Fin 128))) (top fun t => S (ix2 g t)))) := by
  pointwise [k0_pay82, pay79_apply, pay80_apply]

theorem pay83_apply (O : Vec Ideal S1x16x128 .f32) (g : Fin 16) (l : Fin 128) :
    k0_pay83 (F := Ideal) V B S M L sv O (ix3 (0 : Fin 1) g l)
      = (O (ix3 (0 : Fin 1) g l) * k0_pay80 (F := Ideal) S M (ix2 g (0 : Fin 1)) + k0_pay81 (F := Ideal) V B S M sv (ix2 g (⟨l.val, by omega⟩ : Fin 160)))
        * k0_pay82 (F := Ideal) S M L (ix2 g (0 : Fin 1)) := by
  pointwise [k0_pay83]

theorem pay94_apply (O : Vec Ideal S1x16x128 .f32) (g : Fin 16) (l : Fin 32) :
    k0_pay94 (F := Ideal) (k0_pay80 S M) (k0_pay81 V B S M sv) (k0_pay82 S M L) (k0_pay84 O) (ix3 (0 : Fin 1) g (l.castLE (by norm_num) : Fin 128))
      = (O (ix3 (0 : Fin 1) g (l.castLE (by norm_num) : Fin 128)) * k0_pay80 (F := Ideal) S M (ix2 g (0 : Fin 1)) + k0_pay81 (F := Ideal) V B S M sv (ix2 g (⟨128 + l.val, by omega⟩ : Fin 160)))
        * k0_pay82 (F := Ideal) S M L (ix2 g (0 : Fin 1)) := by
  have hl : l.val < 32 := l.isLt
  pointwise [k0_pay94, k0_pay84]
  exact dif_pos hl

end Tail

theorem pay74_apply0 (a b : Vec Ideal S1x1x160x128 .fp8e4m3) (d : Fin 160) (t : Fin 128) :
    k0_pay74 (F := Ideal) a b (ix2 d (t.castLE (by norm_num) : Fin 256)) = a (ix4 (0 : Fin 1) (0 : Fin 1) d t) := by
  have ht : t.val < 128 := t.isLt
  pointwise [k0_pay74]
  exact dif_pos ht

theorem pay74_apply1 (a b : Vec Ideal S1x1x160x128 .fp8e4m3) (d : Fin 160) (t : Fin 128) :
    k0_pay74 (F := Ideal) a b (ix2 d (⟨128 + t.val, by omega⟩ : Fin 256)) = b (ix4 (0 : Fin 1) (0 : Fin 1) d t) := by
  have ht : t.val < 128 := t.isLt
  pointwise [k0_pay74]

theorem pay75_apply (n : BitVec 32) (t : Fin 256) :
    k0_pay75 (F := Ideal) (iota .tc S1x256 32 [1] iota_S1x256_d1_w32) n (ix2 (0 : Fin 1) t) = BitVec.ofBool (decide ((t.val : ℤ) < n.toInt)) := by
  pointwise [k0_pay75]
  rw [WordCmp.cmpi_slt_eq, WordCmp.toInt_ofNat_of_lt (by have := t.isLt; omega)]

/-- The query row of a sequence, its 160 columns from the two slabs. -/
def qOf (q0 : Vec Ideal S1x16x128 .f32) (q1 : Vec Ideal S1x16x32 .f32) (g : Fin 16) (d : Fin 160) : EReal :=
  if h : d.val < 128 then q0 (ix3 (0 : Fin 1) g ⟨d.val, h⟩) else q1 (ix3 (0 : Fin 1) g ⟨d.val - 128, by omega⟩)

theorem pay76_apply (n : BitVec 32) (q0 : Vec Ideal S1x16x128 .f32) (q1 : Vec Ideal S1x16x32 .f32) (a b : Vec Ideal S1x1x160x128 .fp8e4m3)
    (sk : Vec Ideal S1x256 .f32) (g : Fin 16) (t : Fin 256) :
    k0_pay76 (F := Ideal) (iota .tc S1x256 32 [1] iota_S1x256_d1_w32) n q0 q1 a b sk (ix2 g t)
      = if (t.val : ℤ) < n.toInt then (∑ d : Fin 160, qOf q0 q1 g d * k0_pay74 (F := Ideal) a b (ix2 d t)) * sk (ix2 (0 : Fin 1) t) else ⊥ := by
  pointwise [k0_pay76, pay75_apply, sel, ninf]
  refine if_congr ((by rw [pay75_apply]; exact WordCmp.ofBool_decide_eq_one_iff _)) ?_ rfl
  congr 1
  refine Eq.trans ?_ (Fin.sum_univ_add (a := 128) (b := 32) (fun d : Fin 160 => qOf q0 q1 g d * k0_pay74 (F := Ideal) a b (ix2 d t))).symm
  congr 1
  · refine Finset.sum_congr rfl fun x _ => ?_
    pointwise [k0_pay74]
    congr 1
    unfold qOf
    rw [dif_pos (show (Fin.castAdd 32 x).val < 128 from x.isLt)]
    rfl
  · refine Finset.sum_congr rfl fun x _ => ?_
    pointwise [k0_pay74]
    congr 1
    refine Eq.trans ?_ (dif_neg (show ¬((Fin.natAdd 128 x : Fin (128 + 32)).val < 128) from by simp)).symm
    congr 2
    exact Fin.ext (by simp)

theorem pay88_apply (w : Vec Ideal S128x1x32x128 .fp8e4m3) (b : Fin 128) (d : Fin 32) (t : Fin 128) :
    k0_pay88 (F := Ideal) w (ix4 (0 : Fin 1) b d t) = w (ix4 t (0 : Fin 1) d b) := by
  pointwise [k0_pay88]

theorem pay90_apply (w : Vec Ideal S128x1x32x128 .fp8e4m3) (b : Fin 128) (d : Fin 32) (t : Fin 128) :
    k0_pay90 (F := Ideal) w (ix4 (0 : Fin 1) b d t) = w (ix4 t (0 : Fin 1) d b) := by
  pointwise [k0_pay90]

theorem zero32 : Ideal.ofBits .f32 0x00000000#32 = (0 : EReal) := by
  show Ideal.ieee 8 23 (0x00000000#32) = 0
  unfold Ideal.ieee
  rw [if_neg (by decide), if_pos (by decide)]
  simp

theorem pay89_apply (w : Vec Ideal S96x1x32x128 .fp8e4m3) (b : Fin 128) (d : Fin 32) (t : Fin 128) :
    k0_pay89 (F := Ideal) w (ix4 (0 : Fin 1) b d t) = if h : t.val < 96 then w (ix4 (⟨t.val, h⟩ : Fin 96) (0 : Fin 1) d b) else 0 := by
  pointwise [k0_pay89]

theorem pay91_apply (w : Vec Ideal S96x1x32x128 .fp8e4m3) (b : Fin 128) (d : Fin 32) (t : Fin 128) :
    k0_pay91 (F := Ideal) w (ix4 (0 : Fin 1) b d t) = if h : t.val < 96 then w (ix4 (⟨t.val, h⟩ : Fin 96) (0 : Fin 1) d b) else 0 := by
  pointwise [k0_pay91]

theorem pay92_apply (w : Vec Ideal S224x1x128 .f32) (b : Fin 128) (t : Fin 224) :
    k0_pay92 (F := Ideal) w (ix2 b t) = w (ix3 t (0 : Fin 1) b) * sl2 := by
  pointwise [k0_pay92, named_sl2]

theorem pay93_apply (w : Vec Ideal S224x1x128 .f32) (b : Fin 128) (t : Fin 224) :
    k0_pay93 (F := Ideal) w (ix2 b t) = w (ix3 t (0 : Fin 1) b) := by
  pointwise [k0_pay93]

/-- The value of an eight-bit scale code: the code's bits as an exponent. -/
def sc8 (e : BitVec 8) : EReal := Ideal.ofBits .f32 (IntOp.shli .vector (e.setWidth 32) 23#32)

theorem pay2_apply (e : Vec Ideal S1x1x1280 .i8) (w : Vec Ideal S1x32x1280 .fp8e4m3) (r : Fin 32) (p : Fin 1280) :
    k0_pay2 (F := Ideal) e w (ix3 (0 : Fin 1) r p) = w (ix3 (0 : Fin 1) r p) * sc8 (e (ix3 (0 : Fin 1) (0 : Fin 1) p)) := by
  pointwise [k0_pay2]
  rfl

end Cert.KernelIdeal.Gen

end
-- ==== Proof.Value.Pref.lean ====
/- What the first point leaves: the prepared prefix, and the output block computed from it. -/
module

public import proofs.«01_k».proof.Proof.Value.RunA
public import proofs.«01_k».proof.Proof.Value.Out
public import proofs.«01_k».proof.Proof.Value.BufTr
public import proofs.«01_k».proof.Proof.Value.Pay
public import Idealize.ShloMosaic.Lib.WritesUnit
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000

theorem pc_in (n : Fin 20) : ∀ a, (![n.val / 5, 32 * (n.val % 5), 0] : Fin 3 → Nat) a + S1x32x1280.size a ≤ S4x160x1280.size a := by
  revert n; decide +kernel
theorem pc_sc (n : Fin 20) : ∀ a, (![n.val % 5, n.val / 5, 0] : Fin 3 → Nat) a + S1x1x1280.size a ≤ S5x4x1280.size a := by
  revert n; decide +kernel

/-- One of the twenty pieces of the prepared prefix: the rows of one group of 32 of one head, at their scales. -/
def pc (ax : Memref sig .tc .vmem S4x160x1280 .fp8e4m3) (hax : ax.IsWhole) (ac : Memref sig .tc .vmem S5x4x1280 .i8) (hac : ac.IsWhole)
    (x : Vec F S4x160x1280 .fp8e4m3) (xs : Vec F S5x4x1280 .i8) (n : Fin 20) : View.Piece (Elt F) S4x160x1280 .bf16 :=
  ⟨Rect.unit (s := S4x160x1280) ![n.val / 5, 32 * (n.val % 5), 0] S1x32x1280.size (pc_in n), k0_pay2 (ac.view.readAt (Elt F) (Rect.unit (s := S5x4x1280) ![n.val % 5, n.val / 5, 0] S1x1x1280.size (pc_sc n)).toLoadRect (hac.unread xs)) (ax.view.readAt (Elt F) (Rect.unit (s := S4x160x1280) ![n.val / 5, 32 * (n.val % 5), 0] S1x32x1280.size (pc_in n)).toLoadRect (hax.unread x))⟩

/-- The prepared prefix, as written. -/
@[irreducible] def pref (ax : Memref sig .tc .vmem S4x160x1280 .fp8e4m3) (hax : ax.IsWhole) (ac : Memref sig .tc .vmem S5x4x1280 .i8) (hac : ac.IsWhole)
    (a : Memref sig .tc .vmem S4x160x1280 .bf16) (x : Vec F S4x160x1280 .fp8e4m3) (xs : Vec F S5x4x1280 .i8) : BufTy.Contents (Elt F) a.view.ty :=
  a.view.writes (Elt F) a.view.junk (([19, 18, 17, 16, 15, 14, 13, 12, 11, 10, 9, 8, 7, 6, 5, 4, 3, 2, 1, 0] : List (Fin 20)).map (pc ax hax ac hac x xs))

section Steps
variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
    (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty)

theorem pay_v117 : valueRunA.sl.v117 c arg6 harg6 arg8 harg8 x3 x5 = k0_pay2 (arg8.view.readAt (Elt F) (Rect.unit (s := S5x4x1280) ![0, 0, 0] S1x1x1280.size inb_S5x4x1280_S1x1x1280_0_0_0).toLoadRect (harg8.unread x5)) (arg6.view.readAt (Elt F) (Rect.unit (s := S4x160x1280) ![0, 0, 0] S1x32x1280.size inb_S4x160x1280_S1x32x1280_0_0_0).toLoadRect (harg6.unread x3)) := rfl
theorem list_HS0_1 : valueRunA.sl.HS0_1 c arg6 harg6 arg8 harg8 x3 x5 = (([0] : List (Fin 20)).map (pc arg6 harg6 arg8 harg8 x3 x5)) := by
  rw [valueRunA.sl.HS0_1.eq_1, pay_v117]
  rfl
theorem pay_v147 : valueRunA.sl.v147 c arg6 harg6 arg8 harg8 x3 x5 = k0_pay2 (arg8.view.readAt (Elt F) (Rect.unit (s := S5x4x1280) ![1, 0, 0] S1x1x1280.size inb_S5x4x1280_S1x1x1280_1_0_0).toLoadRect (harg8.unread x5)) (arg6.view.readAt (Elt F) (Rect.unit (s := S4x160x1280) ![0, 32, 0] S1x32x1280.size inb_S4x160x1280_S1x32x1280_0_32_0).toLoadRect (harg6.unread x3)) := rfl
theorem list_HS0_2 : valueRunA.sl.HS0_2 c arg6 harg6 arg8 harg8 x3 x5 = (([1, 0] : List (Fin 20)).map (pc arg6 harg6 arg8 harg8 x3 x5)) := by
  rw [valueRunA.sl.HS0_2.eq_1, pay_v147, list_HS0_1]
  rfl
theorem pay_v177 : valueRunA.sl.v177 c arg6 harg6 arg8 harg8 x3 x5 = k0_pay2 (arg8.view.readAt (Elt F) (Rect.unit (s := S5x4x1280) ![2, 0, 0] S1x1x1280.size inb_S5x4x1280_S1x1x1280_2_0_0).toLoadRect (harg8.unread x5)) (arg6.view.readAt (Elt F) (Rect.unit (s := S4x160x1280) ![0, 64, 0] S1x32x1280.size inb_S4x160x1280_S1x32x1280_0_64_0).toLoadRect (harg6.unread x3)) := rfl
theorem list_HS0_3 : valueRunA.sl.HS0_3 c arg6 harg6 arg8 harg8 x3 x5 = (([2, 1, 0] : List (Fin 20)).map (pc arg6 harg6 arg8 harg8 x3 x5)) := by
  rw [valueRunA.sl.HS0_3.eq_1, pay_v177, list_HS0_2]
  rfl
theorem pay_v237 : valueRunA.sl.v237 c arg6 harg6 arg8 harg8 x3 x5 = k0_pay2 (arg8.view.readAt (Elt F) (Rect.unit (s := S5x4x1280) ![4, 0, 0] S1x1x1280.size inb_S5x4x1280_S1x1x1280_4_0_0).toLoadRect (harg8.unread x5)) (arg6.view.readAt (Elt F) (Rect.unit (s := S4x160x1280) ![0, 128, 0] S1x32x1280.size inb_S4x160x1280_S1x32x1280_0_128_0).toLoadRect (harg6.unread x3)) := rfl
theorem pay_v207 : valueRunA.sl.v207 c arg6 harg6 arg8 harg8 x3 x5 = k0_pay2 (arg8.view.readAt (Elt F) (Rect.unit (s := S5x4x1280) ![3, 0, 0] S1x1x1280.size inb_S5x4x1280_S1x1x1280_3_0_0).toLoadRect (harg8.unread x5)) (arg6.view.readAt (Elt F) (Rect.unit (s := S4x160x1280) ![0, 96, 0] S1x32x1280.size inb_S4x160x1280_S1x32x1280_0_96_0).toLoadRect (harg6.unread x3)) := rfl
theorem list_HS0_5 : valueRunA.sl.HS0_5 c arg6 harg6 arg8 harg8 x3 x5 = (([4, 3, 2, 1, 0] : List (Fin 20)).map (pc arg6 harg6 arg8 harg8 x3 x5)) := by
  rw [valueRunA.sl.HS0_5.eq_1, pay_v237, pay_v207, list_HS0_3]
  rfl
theorem pay_v267 : valueRunA.sl.v267 c arg6 harg6 arg8 harg8 x3 x5 = k0_pay2 (arg8.view.readAt (Elt F) (Rect.unit (s := S5x4x1280) ![0, 1, 0] S1x1x1280.size inb_S5x4x1280_S1x1x1280_0_1_0).toLoadRect (harg8.unread x5)) (arg6.view.readAt (Elt F) (Rect.unit (s := S4x160x1280) ![1, 0, 0] S1x32x1280.size inb_S4x160x1280_S1x32x1280_1_0_0).toLoadRect (harg6.unread x3)) := rfl
theorem list_HS0_6 : valueRunA.sl.HS0_6 c arg6 harg6 arg8 harg8 x3 x5 = (([5, 4, 3, 2, 1, 0] : List (Fin 20)).map (pc arg6 harg6 arg8 harg8 x3 x5)) := by
  rw [valueRunA.sl.HS0_6.eq_1, pay_v267, list_HS0_5]
  rfl
theorem pay_v297 : valueRunA.sl.v297 c arg6 harg6 arg8 harg8 x3 x5 = k0_pay2 (arg8.view.readAt (Elt F) (Rect.unit (s := S5x4x1280) ![1, 1, 0] S1x1x1280.size inb_S5x4x1280_S1x1x1280_1_1_0).toLoadRect (harg8.unread x5)) (arg6.view.readAt (Elt F) (Rect.unit (s := S4x160x1280) ![1, 32, 0] S1x32x1280.size inb_S4x160x1280_S1x32x1280_1_32_0).toLoadRect (harg6.unread x3)) := rfl
theorem list_HS0_7 : valueRunA.sl.HS0_7 c arg6 harg6 arg8 harg8 x3 x5 = (([6, 5, 4, 3, 2, 1, 0] : List (Fin 20)).map (pc arg6 harg6 arg8 harg8 x3 x5)) := by
  rw [valueRunA.sl.HS0_7.eq_1, pay_v297, list_HS0_6]
  rfl
theorem pay_v327 : valueRunA.sl.v327 c arg6 harg6 arg8 harg8 x3 x5 = k0_pay2 (arg8.view.readAt (Elt F) (Rect.unit (s := S5x4x1280) ![2, 1, 0] S1x1x1280.size inb_S5x4x1280_S1x1x1280_2_1_0).toLoadRect (harg8.unread x5)) (arg6.view.readAt (Elt F) (Rect.unit (s := S4x160x1280) ![1, 64, 0] S1x32x1280.size inb_S4x160x1280_S1x32x1280_1_64_0).toLoadRect (harg6.unread x3)) := rfl
theorem list_HS0_8 : valueRunA.sl.HS0_8 c arg6 harg6 arg8 harg8 x3 x5 = (([7, 6, 5, 4, 3, 2, 1, 0] : List (Fin 20)).map (pc arg6 harg6 arg8 harg8 x3 x5)) := by
  rw [valueRunA.sl.HS0_8.eq_1, pay_v327, list_HS0_7]
  rfl
theorem pay_v357 : valueRunA.sl.v357 c arg6 harg6 arg8 harg8 x3 x5 = k0_pay2 (arg8.view.readAt (Elt F) (Rect.unit (s := S5x4x1280) ![3, 1, 0] S1x1x1280.size inb_S5x4x1280_S1x1x1280_3_1_0).toLoadRect (harg8.unread x5)) (arg6.view.readAt (Elt F) (Rect.unit (s := S4x160x1280) ![1, 96, 0] S1x32x1280.size inb_S4x160x1280_S1x32x1280_1_96_0).toLoadRect (harg6.unread x3)) := rfl
theorem list_HS0_9 : valueRunA.sl.HS0_9 c arg6 harg6 arg8 harg8 x3 x5 = (([8, 7, 6, 5, 4, 3, 2, 1, 0] : List (Fin 20)).map (pc arg6 harg6 arg8 harg8 x3 x5)) := by
  rw [valueRunA.sl.HS0_9.eq_1, pay_v357, list_HS0_8]
  rfl
theorem pay_v387 : valueRunA.sl.v387 c arg6 harg6 arg8 harg8 x3 x5 = k0_pay2 (arg8.view.readAt (Elt F) (Rect.unit (s := S5x4x1280) ![4, 1, 0] S1x1x1280.size inb_S5x4x1280_S1x1x1280_4_1_0).toLoadRect (harg8.unread x5)) (arg6.view.readAt (Elt F) (Rect.unit (s := S4x160x1280) ![1, 128, 0] S1x32x1280.size inb_S4x160x1280_S1x32x1280_1_128_0).toLoadRect (harg6.unread x3)) := rfl
theorem list_HS0_10 : valueRunA.sl.HS0_10 c arg6 harg6 arg8 harg8 x3 x5 = (([9, 8, 7, 6, 5, 4, 3, 2, 1, 0] : List (Fin 20)).map (pc arg6 harg6 arg8 harg8 x3 x5)) := by
  rw [valueRunA.sl.HS0_10.eq_1, pay_v387, list_HS0_9]
  rfl
theorem pay_v447 : valueRunA.sl.v447 c arg6 harg6 arg8 harg8 x3 x5 = k0_pay2 (arg8.view.readAt (Elt F) (Rect.unit (s := S5x4x1280) ![1, 2, 0] S1x1x1280.size inb_S5x4x1280_S1x1x1280_1_2_0).toLoadRect (harg8.unread x5)) (arg6.view.readAt (Elt F) (Rect.unit (s := S4x160x1280) ![2, 32, 0] S1x32x1280.size inb_S4x160x1280_S1x32x1280_2_32_0).toLoadRect (harg6.unread x3)) := rfl
theorem pay_v417 : valueRunA.sl.v417 c arg6 harg6 arg8 harg8 x3 x5 = k0_pay2 (arg8.view.readAt (Elt F) (Rect.unit (s := S5x4x1280) ![0, 2, 0] S1x1x1280.size inb_S5x4x1280_S1x1x1280_0_2_0).toLoadRect (harg8.unread x5)) (arg6.view.readAt (Elt F) (Rect.unit (s := S4x160x1280) ![2, 0, 0] S1x32x1280.size inb_S4x160x1280_S1x32x1280_2_0_0).toLoadRect (harg6.unread x3)) := rfl
theorem list_HS0_12 : valueRunA.sl.HS0_12 c arg6 harg6 arg8 harg8 x3 x5 = (([11, 10, 9, 8, 7, 6, 5, 4, 3, 2, 1, 0] : List (Fin 20)).map (pc arg6 harg6 arg8 harg8 x3 x5)) := by
  rw [valueRunA.sl.HS0_12.eq_1, pay_v447, pay_v417, list_HS0_10]
  rfl
theorem pay_v477 : valueRunA.sl.v477 c arg6 harg6 arg8 harg8 x3 x5 = k0_pay2 (arg8.view.readAt (Elt F) (Rect.unit (s := S5x4x1280) ![2, 2, 0] S1x1x1280.size inb_S5x4x1280_S1x1x1280_2_2_0).toLoadRect (harg8.unread x5)) (arg6.view.readAt (Elt F) (Rect.unit (s := S4x160x1280) ![2, 64, 0] S1x32x1280.size inb_S4x160x1280_S1x32x1280_2_64_0).toLoadRect (harg6.unread x3)) := rfl
theorem list_HS0_13 : valueRunA.sl.HS0_13 c arg6 harg6 arg8 harg8 x3 x5 = (([12, 11, 10, 9, 8, 7, 6, 5, 4, 3, 2, 1, 0] : List (Fin 20)).map (pc arg6 harg6 arg8 harg8 x3 x5)) := by
  rw [valueRunA.sl.HS0_13.eq_1, pay_v477, list_HS0_12]
  rfl
theorem pay_v507 : valueRunA.sl.v507 c arg6 harg6 arg8 harg8 x3 x5 = k0_pay2 (arg8.view.readAt (Elt F) (Rect.unit (s := S5x4x1280) ![3, 2, 0] S1x1x1280.size inb_S5x4x1280_S1x1x1280_3_2_0).toLoadRect (harg8.unread x5)) (arg6.view.readAt (Elt F) (Rect.unit (s := S4x160x1280) ![2, 96, 0] S1x32x1280.size inb_S4x160x1280_S1x32x1280_2_96_0).toLoadRect (harg6.unread x3)) := rfl
theorem list_HS0_14 : valueRunA.sl.HS0_14 c arg6 harg6 arg8 harg8 x3 x5 = (([13, 12, 11, 10, 9, 8, 7, 6, 5, 4, 3, 2, 1, 0] : List (Fin 20)).map (pc arg6 harg6 arg8 harg8 x3 x5)) := by
  rw [valueRunA.sl.HS0_14.eq_1, pay_v507, list_HS0_13]
  rfl
theorem pay_v537 : valueRunA.sl.v537 c arg6 harg6 arg8 harg8 x3 x5 = k0_pay2 (arg8.view.readAt (Elt F) (Rect.unit (s := S5x4x1280) ![4, 2, 0] S1x1x1280.size inb_S5x4x1280_S1x1x1280_4_2_0).toLoadRect (harg8.unread x5)) (arg6.view.readAt (Elt F) (Rect.unit (s := S4x160x1280) ![2, 128, 0] S1x32x1280.size inb_S4x160x1280_S1x32x1280_2_128_0).toLoadRect (harg6.unread x3)) := rfl
theorem list_HS0_15 : valueRunA.sl.HS0_15 c arg6 harg6 arg8 harg8 x3 x5 = (([14, 13, 12, 11, 10, 9, 8, 7, 6, 5, 4, 3, 2, 1, 0] : List (Fin 20)).map (pc arg6 harg6 arg8 harg8 x3 x5)) := by
  rw [valueRunA.sl.HS0_15.eq_1, pay_v537, list_HS0_14]
  rfl
theorem pay_v567 : valueRunA.sl.v567 c arg6 harg6 arg8 harg8 x3 x5 = k0_pay2 (arg8.view.readAt (Elt F) (Rect.unit (s := S5x4x1280) ![0, 3, 0] S1x1x1280.size inb_S5x4x1280_S1x1x1280_0_3_0).toLoadRect (harg8.unread x5)) (arg6.view.readAt (Elt F) (Rect.unit (s := S4x160x1280) ![3, 0, 0] S1x32x1280.size inb_S4x160x1280_S1x32x1280_3_0_0).toLoadRect (harg6.unread x3)) := rfl
theorem list_HS0_16 : valueRunA.sl.HS0_16 c arg6 harg6 arg8 harg8 x3 x5 = (([15, 14, 13, 12, 11, 10, 9, 8, 7, 6, 5, 4, 3, 2, 1, 0] : List (Fin 20)).map (pc arg6 harg6 arg8 harg8 x3 x5)) := by
  rw [valueRunA.sl.HS0_16.eq_1, pay_v567, list_HS0_15]
  rfl
theorem pay_v597 : valueRunA.sl.v597 c arg6 harg6 arg8 harg8 x3 x5 = k0_pay2 (arg8.view.readAt (Elt F) (Rect.unit (s := S5x4x1280) ![1, 3, 0] S1x1x1280.size inb_S5x4x1280_S1x1x1280_1_3_0).toLoadRect (harg8.unread x5)) (arg6.view.readAt (Elt F) (Rect.unit (s := S4x160x1280) ![3, 32, 0] S1x32x1280.size inb_S4x160x1280_S1x32x1280_3_32_0).toLoadRect (harg6.unread x3)) := rfl
theorem list_HS0_17 : valueRunA.sl.HS0_17 c arg6 harg6 arg8 harg8 x3 x5 = (([16, 15, 14, 13, 12, 11, 10, 9, 8, 7, 6, 5, 4, 3, 2, 1, 0] : List (Fin 20)).map (pc arg6 harg6 arg8 harg8 x3 x5)) := by
  rw [valueRunA.sl.HS0_17.eq_1, pay_v597, list_HS0_16]
  rfl
theorem pay_v627 : valueRunA.sl.v627 c arg6 harg6 arg8 harg8 x3 x5 = k0_pay2 (arg8.view.readAt (Elt F) (Rect.unit (s := S5x4x1280) ![2, 3, 0] S1x1x1280.size inb_S5x4x1280_S1x1x1280_2_3_0).toLoadRect (harg8.unread x5)) (arg6.view.readAt (Elt F) (Rect.unit (s := S4x160x1280) ![3, 64, 0] S1x32x1280.size inb_S4x160x1280_S1x32x1280_3_64_0).toLoadRect (harg6.unread x3)) := rfl
theorem list_HS0_18 : valueRunA.sl.HS0_18 c arg6 harg6 arg8 harg8 x3 x5 = (([17, 16, 15, 14, 13, 12, 11, 10, 9, 8, 7, 6, 5, 4, 3, 2, 1, 0] : List (Fin 20)).map (pc arg6 harg6 arg8 harg8 x3 x5)) := by
  rw [valueRunA.sl.HS0_18.eq_1, pay_v627, list_HS0_17]
  rfl
theorem pay_v687 : valueRunA.sl.v687 c arg6 harg6 arg8 harg8 x3 x5 = k0_pay2 (arg8.view.readAt (Elt F) (Rect.unit (s := S5x4x1280) ![4, 3, 0] S1x1x1280.size inb_S5x4x1280_S1x1x1280_4_3_0).toLoadRect (harg8.unread x5)) (arg6.view.readAt (Elt F) (Rect.unit (s := S4x160x1280) ![3, 128, 0] S1x32x1280.size inb_S4x160x1280_S1x32x1280_3_128_0).toLoadRect (harg6.unread x3)) := rfl
theorem pay_v657 : valueRunA.sl.v657 c arg6 harg6 arg8 harg8 x3 x5 = k0_pay2 (arg8.view.readAt (Elt F) (Rect.unit (s := S5x4x1280) ![3, 3, 0] S1x1x1280.size inb_S5x4x1280_S1x1x1280_3_3_0).toLoadRect (harg8.unread x5)) (arg6.view.readAt (Elt F) (Rect.unit (s := S4x160x1280) ![3, 96, 0] S1x32x1280.size inb_S4x160x1280_S1x32x1280_3_96_0).toLoadRect (harg6.unread x3)) := rfl
theorem list_HS0_20 : valueRunA.sl.HS0_20 c arg6 harg6 arg8 harg8 x3 x5 = (([19, 18, 17, 16, 15, 14, 13, 12, 11, 10, 9, 8, 7, 6, 5, 4, 3, 2, 1, 0] : List (Fin 20)).map (pc arg6 harg6 arg8 harg8 x3 x5)) := by
  rw [valueRunA.sl.HS0_20.eq_1, pay_v687, pay_v657, list_HS0_18]
  rfl
theorem pay_v132 : valueRunA.sl.v132 c arg7 harg7 arg9 harg9 x4 x6 = k0_pay2 (arg9.view.readAt (Elt F) (Rect.unit (s := S5x4x1280) ![0, 0, 0] S1x1x1280.size inb_S5x4x1280_S1x1x1280_0_0_0).toLoadRect (harg9.unread x6)) (arg7.view.readAt (Elt F) (Rect.unit (s := S4x160x1280) ![0, 0, 0] S1x32x1280.size inb_S4x160x1280_S1x32x1280_0_0_0).toLoadRect (harg7.unread x4)) := rfl
theorem list_HS1_1 : valueRunA.sl.HS1_1 c arg7 harg7 arg9 harg9 x4 x6 = (([0] : List (Fin 20)).map (pc arg7 harg7 arg9 harg9 x4 x6)) := by
  rw [valueRunA.sl.HS1_1.eq_1, pay_v132]
  rfl
theorem pay_v162 : valueRunA.sl.v162 c arg7 harg7 arg9 harg9 x4 x6 = k0_pay2 (arg9.view.readAt (Elt F) (Rect.unit (s := S5x4x1280) ![1, 0, 0] S1x1x1280.size inb_S5x4x1280_S1x1x1280_1_0_0).toLoadRect (harg9.unread x6)) (arg7.view.readAt (Elt F) (Rect.unit (s := S4x160x1280) ![0, 32, 0] S1x32x1280.size inb_S4x160x1280_S1x32x1280_0_32_0).toLoadRect (harg7.unread x4)) := rfl
theorem list_HS1_2 : valueRunA.sl.HS1_2 c arg7 harg7 arg9 harg9 x4 x6 = (([1, 0] : List (Fin 20)).map (pc arg7 harg7 arg9 harg9 x4 x6)) := by
  rw [valueRunA.sl.HS1_2.eq_1, pay_v162, list_HS1_1]
  rfl
theorem pay_v192 : valueRunA.sl.v192 c arg7 harg7 arg9 harg9 x4 x6 = k0_pay2 (arg9.view.readAt (Elt F) (Rect.unit (s := S5x4x1280) ![2, 0, 0] S1x1x1280.size inb_S5x4x1280_S1x1x1280_2_0_0).toLoadRect (harg9.unread x6)) (arg7.view.readAt (Elt F) (Rect.unit (s := S4x160x1280) ![0, 64, 0] S1x32x1280.size inb_S4x160x1280_S1x32x1280_0_64_0).toLoadRect (harg7.unread x4)) := rfl
theorem list_HS1_3 : valueRunA.sl.HS1_3 c arg7 harg7 arg9 harg9 x4 x6 = (([2, 1, 0] : List (Fin 20)).map (pc arg7 harg7 arg9 harg9 x4 x6)) := by
  rw [valueRunA.sl.HS1_3.eq_1, pay_v192, list_HS1_2]
  rfl
theorem pay_v222 : valueRunA.sl.v222 c arg7 harg7 arg9 harg9 x4 x6 = k0_pay2 (arg9.view.readAt (Elt F) (Rect.unit (s := S5x4x1280) ![3, 0, 0] S1x1x1280.size inb_S5x4x1280_S1x1x1280_3_0_0).toLoadRect (harg9.unread x6)) (arg7.view.readAt (Elt F) (Rect.unit (s := S4x160x1280) ![0, 96, 0] S1x32x1280.size inb_S4x160x1280_S1x32x1280_0_96_0).toLoadRect (harg7.unread x4)) := rfl
theorem list_HS1_4 : valueRunA.sl.HS1_4 c arg7 harg7 arg9 harg9 x4 x6 = (([3, 2, 1, 0] : List (Fin 20)).map (pc arg7 harg7 arg9 harg9 x4 x6)) := by
  rw [valueRunA.sl.HS1_4.eq_1, pay_v222, list_HS1_3]
  rfl
theorem pay_v252 : valueRunA.sl.v252 c arg7 harg7 arg9 harg9 x4 x6 = k0_pay2 (arg9.view.readAt (Elt F) (Rect.unit (s := S5x4x1280) ![4, 0, 0] S1x1x1280.size inb_S5x4x1280_S1x1x1280_4_0_0).toLoadRect (harg9.unread x6)) (arg7.view.readAt (Elt F) (Rect.unit (s := S4x160x1280) ![0, 128, 0] S1x32x1280.size inb_S4x160x1280_S1x32x1280_0_128_0).toLoadRect (harg7.unread x4)) := rfl
theorem list_HS1_5 : valueRunA.sl.HS1_5 c arg7 harg7 arg9 harg9 x4 x6 = (([4, 3, 2, 1, 0] : List (Fin 20)).map (pc arg7 harg7 arg9 harg9 x4 x6)) := by
  rw [valueRunA.sl.HS1_5.eq_1, pay_v252, list_HS1_4]
  rfl
theorem pay_v282 : valueRunA.sl.v282 c arg7 harg7 arg9 harg9 x4 x6 = k0_pay2 (arg9.view.readAt (Elt F) (Rect.unit (s := S5x4x1280) ![0, 1, 0] S1x1x1280.size inb_S5x4x1280_S1x1x1280_0_1_0).toLoadRect (harg9.unread x6)) (arg7.view.readAt (Elt F) (Rect.unit (s := S4x160x1280) ![1, 0, 0] S1x32x1280.size inb_S4x160x1280_S1x32x1280_1_0_0).toLoadRect (harg7.unread x4)) := rfl
theorem list_HS1_6 : valueRunA.sl.HS1_6 c arg7 harg7 arg9 harg9 x4 x6 = (([5, 4, 3, 2, 1, 0] : List (Fin 20)).map (pc arg7 harg7 arg9 harg9 x4 x6)) := by
  rw [valueRunA.sl.HS1_6.eq_1, pay_v282, list_HS1_5]
  rfl
theorem pay_v342 : valueRunA.sl.v342 c arg7 harg7 arg9 harg9 x4 x6 = k0_pay2 (arg9.view.readAt (Elt F) (Rect.unit (s := S5x4x1280) ![2, 1, 0] S1x1x1280.size inb_S5x4x1280_S1x1x1280_2_1_0).toLoadRect (harg9.unread x6)) (arg7.view.readAt (Elt F) (Rect.unit (s := S4x160x1280) ![1, 64, 0] S1x32x1280.size inb_S4x160x1280_S1x32x1280_1_64_0).toLoadRect (harg7.unread x4)) := rfl
theorem pay_v312 : valueRunA.sl.v312 c arg7 harg7 arg9 harg9 x4 x6 = k0_pay2 (arg9.view.readAt (Elt F) (Rect.unit (s := S5x4x1280) ![1, 1, 0] S1x1x1280.size inb_S5x4x1280_S1x1x1280_1_1_0).toLoadRect (harg9.unread x6)) (arg7.view.readAt (Elt F) (Rect.unit (s := S4x160x1280) ![1, 32, 0] S1x32x1280.size inb_S4x160x1280_S1x32x1280_1_32_0).toLoadRect (harg7.unread x4)) := rfl
theorem list_HS1_8 : valueRunA.sl.HS1_8 c arg7 harg7 arg9 harg9 x4 x6 = (([7, 6, 5, 4, 3, 2, 1, 0] : List (Fin 20)).map (pc arg7 harg7 arg9 harg9 x4 x6)) := by
  rw [valueRunA.sl.HS1_8.eq_1, pay_v342, pay_v312, list_HS1_6]
  rfl
theorem pay_v372 : valueRunA.sl.v372 c arg7 harg7 arg9 harg9 x4 x6 = k0_pay2 (arg9.view.readAt (Elt F) (Rect.unit (s := S5x4x1280) ![3, 1, 0] S1x1x1280.size inb_S5x4x1280_S1x1x1280_3_1_0).toLoadRect (harg9.unread x6)) (arg7.view.readAt (Elt F) (Rect.unit (s := S4x160x1280) ![1, 96, 0] S1x32x1280.size inb_S4x160x1280_S1x32x1280_1_96_0).toLoadRect (harg7.unread x4)) := rfl
theorem list_HS1_9 : valueRunA.sl.HS1_9 c arg7 harg7 arg9 harg9 x4 x6 = (([8, 7, 6, 5, 4, 3, 2, 1, 0] : List (Fin 20)).map (pc arg7 harg7 arg9 harg9 x4 x6)) := by
  rw [valueRunA.sl.HS1_9.eq_1, pay_v372, list_HS1_8]
  rfl
theorem pay_v402 : valueRunA.sl.v402 c arg7 harg7 arg9 harg9 x4 x6 = k0_pay2 (arg9.view.readAt (Elt F) (Rect.unit (s := S5x4x1280) ![4, 1, 0] S1x1x1280.size inb_S5x4x1280_S1x1x1280_4_1_0).toLoadRect (harg9.unread x6)) (arg7.view.readAt (Elt F) (Rect.unit (s := S4x160x1280) ![1, 128, 0] S1x32x1280.size inb_S4x160x1280_S1x32x1280_1_128_0).toLoadRect (harg7.unread x4)) := rfl
theorem list_HS1_10 : valueRunA.sl.HS1_10 c arg7 harg7 arg9 harg9 x4 x6 = (([9, 8, 7, 6, 5, 4, 3, 2, 1, 0] : List (Fin 20)).map (pc arg7 harg7 arg9 harg9 x4 x6)) := by
  rw [valueRunA.sl.HS1_10.eq_1, pay_v402, list_HS1_9]
  rfl
theorem pay_v432 : valueRunA.sl.v432 c arg7 harg7 arg9 harg9 x4 x6 = k0_pay2 (arg9.view.readAt (Elt F) (Rect.unit (s := S5x4x1280) ![0, 2, 0] S1x1x1280.size inb_S5x4x1280_S1x1x1280_0_2_0).toLoadRect (harg9.unread x6)) (arg7.view.readAt (Elt F) (Rect.unit (s := S4x160x1280) ![2, 0, 0] S1x32x1280.size inb_S4x160x1280_S1x32x1280_2_0_0).toLoadRect (harg7.unread x4)) := rfl
theorem list_HS1_11 : valueRunA.sl.HS1_11 c arg7 harg7 arg9 harg9 x4 x6 = (([10, 9, 8, 7, 6, 5, 4, 3, 2, 1, 0] : List (Fin 20)).map (pc arg7 harg7 arg9 harg9 x4 x6)) := by
  rw [valueRunA.sl.HS1_11.eq_1, pay_v432, list_HS1_10]
  rfl
theorem pay_v462 : valueRunA.sl.v462 c arg7 harg7 arg9 harg9 x4 x6 = k0_pay2 (arg9.view.readAt (Elt F) (Rect.unit (s := S5x4x1280) ![1, 2, 0] S1x1x1280.size inb_S5x4x1280_S1x1x1280_1_2_0).toLoadRect (harg9.unread x6)) (arg7.view.readAt (Elt F) (Rect.unit (s := S4x160x1280) ![2, 32, 0] S1x32x1280.size inb_S4x160x1280_S1x32x1280_2_32_0).toLoadRect (harg7.unread x4)) := rfl
theorem list_HS1_12 : valueRunA.sl.HS1_12 c arg7 harg7 arg9 harg9 x4 x6 = (([11, 10, 9, 8, 7, 6, 5, 4, 3, 2, 1, 0] : List (Fin 20)).map (pc arg7 harg7 arg9 harg9 x4 x6)) := by
  rw [valueRunA.sl.HS1_12.eq_1, pay_v462, list_HS1_11]
  rfl
theorem pay_v492 : valueRunA.sl.v492 c arg7 harg7 arg9 harg9 x4 x6 = k0_pay2 (arg9.view.readAt (Elt F) (Rect.unit (s := S5x4x1280) ![2, 2, 0] S1x1x1280.size inb_S5x4x1280_S1x1x1280_2_2_0).toLoadRect (harg9.unread x6)) (arg7.view.readAt (Elt F) (Rect.unit (s := S4x160x1280) ![2, 64, 0] S1x32x1280.size inb_S4x160x1280_S1x32x1280_2_64_0).toLoadRect (harg7.unread x4)) := rfl
theorem list_HS1_13 : valueRunA.sl.HS1_13 c arg7 harg7 arg9 harg9 x4 x6 = (([12, 11, 10, 9, 8, 7, 6, 5, 4, 3, 2, 1, 0] : List (Fin 20)).map (pc arg7 harg7 arg9 harg9 x4 x6)) := by
  rw [valueRunA.sl.HS1_13.eq_1, pay_v492, list_HS1_12]
  rfl
theorem pay_v552 : valueRunA.sl.v552 c arg7 harg7 arg9 harg9 x4 x6 = k0_pay2 (arg9.view.readAt (Elt F) (Rect.unit (s := S5x4x1280) ![4, 2, 0] S1x1x1280.size inb_S5x4x1280_S1x1x1280_4_2_0).toLoadRect (harg9.unread x6)) (arg7.view.readAt (Elt F) (Rect.unit (s := S4x160x1280) ![2, 128, 0] S1x32x1280.size inb_S4x160x1280_S1x32x1280_2_128_0).toLoadRect (harg7.unread x4)) := rfl
theorem pay_v522 : valueRunA.sl.v522 c arg7 harg7 arg9 harg9 x4 x6 = k0_pay2 (arg9.view.readAt (Elt F) (Rect.unit (s := S5x4x1280) ![3, 2, 0] S1x1x1280.size inb_S5x4x1280_S1x1x1280_3_2_0).toLoadRect (harg9.unread x6)) (arg7.view.readAt (Elt F) (Rect.unit (s := S4x160x1280) ![2, 96, 0] S1x32x1280.size inb_S4x160x1280_S1x32x1280_2_96_0).toLoadRect (harg7.unread x4)) := rfl
theorem list_HS1_15 : valueRunA.sl.HS1_15 c arg7 harg7 arg9 harg9 x4 x6 = (([14, 13, 12, 11, 10, 9, 8, 7, 6, 5, 4, 3, 2, 1, 0] : List (Fin 20)).map (pc arg7 harg7 arg9 harg9 x4 x6)) := by
  rw [valueRunA.sl.HS1_15.eq_1, pay_v552, pay_v522, list_HS1_13]
  rfl
theorem pay_v582 : valueRunA.sl.v582 c arg7 harg7 arg9 harg9 x4 x6 = k0_pay2 (arg9.view.readAt (Elt F) (Rect.unit (s := S5x4x1280) ![0, 3, 0] S1x1x1280.size inb_S5x4x1280_S1x1x1280_0_3_0).toLoadRect (harg9.unread x6)) (arg7.view.readAt (Elt F) (Rect.unit (s := S4x160x1280) ![3, 0, 0] S1x32x1280.size inb_S4x160x1280_S1x32x1280_3_0_0).toLoadRect (harg7.unread x4)) := rfl
theorem list_HS1_16 : valueRunA.sl.HS1_16 c arg7 harg7 arg9 harg9 x4 x6 = (([15, 14, 13, 12, 11, 10, 9, 8, 7, 6, 5, 4, 3, 2, 1, 0] : List (Fin 20)).map (pc arg7 harg7 arg9 harg9 x4 x6)) := by
  rw [valueRunA.sl.HS1_16.eq_1, pay_v582, list_HS1_15]
  rfl
theorem pay_v612 : valueRunA.sl.v612 c arg7 harg7 arg9 harg9 x4 x6 = k0_pay2 (arg9.view.readAt (Elt F) (Rect.unit (s := S5x4x1280) ![1, 3, 0] S1x1x1280.size inb_S5x4x1280_S1x1x1280_1_3_0).toLoadRect (harg9.unread x6)) (arg7.view.readAt (Elt F) (Rect.unit (s := S4x160x1280) ![3, 32, 0] S1x32x1280.size inb_S4x160x1280_S1x32x1280_3_32_0).toLoadRect (harg7.unread x4)) := rfl
theorem list_HS1_17 : valueRunA.sl.HS1_17 c arg7 harg7 arg9 harg9 x4 x6 = (([16, 15, 14, 13, 12, 11, 10, 9, 8, 7, 6, 5, 4, 3, 2, 1, 0] : List (Fin 20)).map (pc arg7 harg7 arg9 harg9 x4 x6)) := by
  rw [valueRunA.sl.HS1_17.eq_1, pay_v612, list_HS1_16]
  rfl
theorem pay_v642 : valueRunA.sl.v642 c arg7 harg7 arg9 harg9 x4 x6 = k0_pay2 (arg9.view.readAt (Elt F) (Rect.unit (s := S5x4x1280) ![2, 3, 0] S1x1x1280.size inb_S5x4x1280_S1x1x1280_2_3_0).toLoadRect (harg9.unread x6)) (arg7.view.readAt (Elt F) (Rect.unit (s := S4x160x1280) ![3, 64, 0] S1x32x1280.size inb_S4x160x1280_S1x32x1280_3_64_0).toLoadRect (harg7.unread x4)) := rfl
theorem list_HS1_18 : valueRunA.sl.HS1_18 c arg7 harg7 arg9 harg9 x4 x6 = (([17, 16, 15, 14, 13, 12, 11, 10, 9, 8, 7, 6, 5, 4, 3, 2, 1, 0] : List (Fin 20)).map (pc arg7 harg7 arg9 harg9 x4 x6)) := by
  rw [valueRunA.sl.HS1_18.eq_1, pay_v642, list_HS1_17]
  rfl
theorem pay_lastHS1 : k0_pay85 (valueRunA.sl.v690 c arg9 harg9 x6) (arg7.view.readAt (Elt F) (Rect.unit (s := S4x160x1280) ![3, 128, 0] S1x32x1280.size inb_S4x160x1280_S1x32x1280_3_128_0).toLoadRect (harg7.unread x4)) = k0_pay2 (arg9.view.readAt (Elt F) (Rect.unit (s := S5x4x1280) ![4, 3, 0] S1x1x1280.size inb_S5x4x1280_S1x1x1280_4_3_0).toLoadRect (harg9.unread x6)) (arg7.view.readAt (Elt F) (Rect.unit (s := S4x160x1280) ![3, 128, 0] S1x32x1280.size inb_S4x160x1280_S1x32x1280_3_128_0).toLoadRect (harg7.unread x4)) := rfl
theorem pay_v672 : valueRunA.sl.v672 c arg7 harg7 arg9 harg9 x4 x6 = k0_pay2 (arg9.view.readAt (Elt F) (Rect.unit (s := S5x4x1280) ![3, 3, 0] S1x1x1280.size inb_S5x4x1280_S1x1x1280_3_3_0).toLoadRect (harg9.unread x6)) (arg7.view.readAt (Elt F) (Rect.unit (s := S4x160x1280) ![3, 96, 0] S1x32x1280.size inb_S4x160x1280_S1x32x1280_3_96_0).toLoadRect (harg7.unread x4)) := rfl
theorem list_HS1_20 : valueRunA.sl.HS1_20 c arg7 harg7 arg9 harg9 x4 x6 = (([19, 18, 17, 16, 15, 14, 13, 12, 11, 10, 9, 8, 7, 6, 5, 4, 3, 2, 1, 0] : List (Fin 20)).map (pc arg7 harg7 arg9 harg9 x4 x6)) := by
  rw [valueRunA.sl.HS1_20.eq_1, pay_lastHS1, pay_v672, list_HS1_18]
  rfl

end Steps

end Cert.KernelIdeal.Gen

end
-- ==== Proof.Value.OutA.lean ====
/- What the first point leaves: the prepared prefix, and the output block computed from it. -/
module

public import proofs.«01_k».proof.Proof.Value.RunA
public import proofs.«01_k».proof.Proof.Value.Out
public import proofs.«01_k».proof.Proof.Value.Pref
public import proofs.«01_k».proof.Proof.Value.BufTr
public import proofs.«01_k».proof.Proof.Value.Pay
public import Idealize.ShloMosaic.Lib.WritesUnit
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000

variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : cond0_0 i)
    (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
    (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty)

/-- The prepared prefix of the keys is left in its buffer. -/
theorem valueRunA_K0 :
    (valueRunA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 G14 G15 G16 G17 G18 G19 G20 G21 G22 G23 G24).1 = pref arg6 harg6 arg8 harg8 arg15 x3 x5 := by
  rw [valueRunA.eq_1]
  dsimp only
  rw [list_HS0_20 c arg6 harg6 arg8 harg8 x3 x5, pref.eq_1]

/-- The prepared prefix of the values is left in its buffer. -/
theorem valueRunA_K1 :
    (valueRunA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 G14 G15 G16 G17 G18 G19 G20 G21 G22 G23 G24).2.1 = pref arg7 harg7 arg9 harg9 arg16 x4 x6 := by
  rw [valueRunA.eq_1]
  dsimp only
  rw [list_HS1_20 c arg7 harg7 arg9 harg9 x4 x6, pref.eq_1]

/-- The output block is read off the accumulator. -/
theorem valueRunA_out :
    (valueRunA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 G14 G15 G16 G17 G18 G19 G20 G21 G22 G23 G24).2.2.1
      = arg14.view.read (Elt F) (arg14.view.writes (Elt F) G14 [⟨Rect.unit (s := S128x1920) ![0, 0] S128x1920.size inb_S128x1920_S128x1920_0_0, outRows arg18 (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 (pref arg6 harg6 arg8 harg8 arg15 x3 x5) (pref arg7 harg7 arg9 harg9 arg16 x4 x6) (arg17.view.writes (Elt F) arg17.view.junk [⟨Rect.unit (s := S2x2176x128) ![0, 0, 0] S2x2176x128.size inb_S2x2176x128_S2x2176x128_0_0_0, k0_pay86⟩]) G18 G19 G20 G21 G22 G23 G24)⟩]) := by
  rw [valueRunA.eq_1]
  dsimp only
  rw [valueRunA.sl.v31.eq_1, valueRunA.sl.v34.eq_1, valueRunA.sl.v37.eq_1, valueRunA.sl.v40.eq_1, valueRunA.sl.v43.eq_1, valueRunA.sl.v46.eq_1, valueRunA.sl.v49.eq_1, valueRunA.sl.v52.eq_1, valueRunA.sl.v55.eq_1, valueRunA.sl.v58.eq_1, valueRunA.sl.v61.eq_1, valueRunA.sl.v64.eq_1, valueRunA.sl.v67.eq_1, valueRunA.sl.v70.eq_1, valueRunA.sl.v73.eq_1, valueRunA.sl.v76.eq_1, valueRunA.sl.v79.eq_1, valueRunA.sl.v82.eq_1, valueRunA.sl.v85.eq_1,
    valueRunA.sl.v30.eq_1, valueRunA.sl.v33.eq_1, valueRunA.sl.v36.eq_1, valueRunA.sl.v39.eq_1, valueRunA.sl.v42.eq_1, valueRunA.sl.v45.eq_1, valueRunA.sl.v48.eq_1, valueRunA.sl.v51.eq_1, valueRunA.sl.v54.eq_1, valueRunA.sl.v57.eq_1, valueRunA.sl.v60.eq_1, valueRunA.sl.v63.eq_1, valueRunA.sl.v66.eq_1, valueRunA.sl.v69.eq_1, valueRunA.sl.v72.eq_1, valueRunA.sl.v75.eq_1, valueRunA.sl.v78.eq_1, valueRunA.sl.v81.eq_1, valueRunA.sl.v84.eq_1,
    valueRunA.sl.v29.eq_1, valueRunA.sl.v32.eq_1, valueRunA.sl.v35.eq_1, valueRunA.sl.v38.eq_1, valueRunA.sl.v41.eq_1, valueRunA.sl.v44.eq_1, valueRunA.sl.v47.eq_1, valueRunA.sl.v50.eq_1, valueRunA.sl.v53.eq_1, valueRunA.sl.v56.eq_1, valueRunA.sl.v59.eq_1, valueRunA.sl.v62.eq_1, valueRunA.sl.v65.eq_1, valueRunA.sl.v68.eq_1, valueRunA.sl.v71.eq_1, valueRunA.sl.v74.eq_1, valueRunA.sl.v77.eq_1, valueRunA.sl.v80.eq_1, valueRunA.sl.v83.eq_1, valueRunA.sl.v86.eq_1, valueRunA.sl.v89.eq_1, valueRunA.sl.v92.eq_1, valueRunA.sl.v95.eq_1, valueRunA.sl.v98.eq_1,
    bufSq.eq_1, bufQ.eq_1, ← View.writes_append, list_HS0_20, list_HS1_20, pref.eq_1, pref.eq_1, outRows]
  rfl

end Cert.KernelIdeal.Gen

end
-- ==== Proof.Value.SeqRead.lean ====
/- The sequence loop read place by place: a row of the accumulator is written by the one trip whose sequence it belongs to,
   from what the loop found there. -/
module

public import proofs.«01_k».proof.Proof.Value.Seq
public import Idealize.ShloMosaic.Lib.WritesUnit
public import Idealize.ShloMosaic.Lib.Pointwise

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A read at a place of the newest of a list of writes, the place told by coordinates. -/
theorem hitR {κ : Kind} {sp : Space} (v : View sig κ sp S2x2176x128 .f32) (f : v.ty.Contents (Elt F)) (r : Rect S2x2176x128)
    (w : r.shape.Idx → Elt F .f32) (L : List (View.Piece (Elt F) S2x2176x128 .f32)) (A : Fin 2) (B : Fin 2176) (C : Fin 128)
    (x : r.shape.Idx) (h0 : A.val = r.off (0 : Fin 3) + r.stride (0 : Fin 3) * (x (0 : Fin 3)).val) (h1 : B.val = r.off (1 : Fin 3) + r.stride (1 : Fin 3) * (x (1 : Fin 3)).val)
    (h2 : C.val = r.off (2 : Fin 3) + r.stride (2 : Fin 3) * (x (2 : Fin 3)).val) :
    v.read (Elt F) (v.writes (Elt F) f (⟨r, w⟩ :: L)) (ix3 A B C) = w x := by
  refine View.read_writes_cons_hit_of_coords v f r w L x (ix3 A B C) ?_
  intro a
  match a with
  | ⟨0, _⟩ => exact h0
  | ⟨1, _⟩ => exact h1
  | ⟨2, _⟩ => exact h2

/-- The same, for writes to every 136th row. -/
theorem hitS {κ : Kind} {sp : Space} (v : View sig κ sp S2x2176x128 .f32) (f : v.ty.Contents (Elt F)) (off : Fin 3 → ℕ)
    (inb) (hsp) (w : S1x16x128.Idx → Elt F .f32) (L : List (View.Piece (Elt F) S2x2176x128 .f32)) (A : Fin 2) (B : Fin 2176) (C : Fin 128)
    (g : Fin 16) (h0 : off 0 = A.val) (h1 : off 1 + 136 * g.val = B.val) (h2 : off 2 = 0) :
    v.read (Elt F) (v.writes (Elt F) f ((⟨(⟨(⟨off, S1x16x128.size, ![1, 136, 1], inb⟩ : LoadRect S2x2176x128), hsp⟩ : Rect S2x2176x128), w⟩ : View.Piece (Elt F) S2x2176x128 .f32) :: L)) (ix3 A B C)
      = w (ix3 (0 : Fin 1) g C) :=
  hitR v f (⟨(⟨off, S1x16x128.size, ![1, 136, 1], inb⟩ : LoadRect S2x2176x128), hsp⟩ : Rect S2x2176x128) w L A B C (ix3 (0 : Fin 1) g C) h0.symm h1.symm (by show C.val = off 2 + 1 * C.val; rw [h2]; omega)
/-- A write to the second slab is not seen in the first. -/
theorem missS {κ : Kind} {sp : Space} (v : View sig κ sp S2x2176x128 .f32) (f : v.ty.Contents (Elt F)) (r : Rect S2x2176x128)
    (w : r.shape.Idx → Elt F .f32) (L : List (View.Piece (Elt F) S2x2176x128 .f32)) (B : Fin 2176) (C : Fin 128)
    (h0 : r.off (0 : Fin 3) = 1) :
    v.read (Elt F) (v.writes (Elt F) f (⟨r, w⟩ :: L)) (ix3 (0 : Fin 2) B C) = v.read (Elt F) (v.writes (Elt F) f L) (ix3 (0 : Fin 2) B C) :=
  View.read_writes_cons_miss v f ⟨r, w⟩ L _ fun hm => by
    obtain ⟨j, -, hj⟩ := r.mem_set.mp hm (0 : Fin 3)
    rw [h0] at hj
    have h' : (0 : ℕ) = 1 + r.stride (0 : Fin 3) * j := hj
    omega

section State

variable (i : grid0.Coords) (arg2 : Memref sig .tc .smem S2048 .i32) (arg17 : Memref sig .tc .vmem S2x2176x128 .f32) (arg18 : Memref sig .tc .vmem S2x2176x128 .f32)
  (arg19 : Memref sig .tc .vmem S2176x128 .f32) (arg20 : Memref sig .tc .vmem S2176x128 .f32) (arg21 : Memref sig .tc .vmem S2x128x160x128 .fp8e4m3)
  (arg22 : Memref sig .tc .vmem S2x128x160x128 .fp8e4m3) (arg23 : Memref sig .tc .vmem S128x256 .f32) (arg24 : Memref sig .tc .vmem S128x256 .f32)
  (c : Dev nD) (X2 : Buf (Elt F) (arg2.view.loc (c : Thread nD τ))) (X17 : BufTy.Contents (Elt F) arg17.view.ty) (X19 : BufTy.Contents (Elt F) arg19.view.ty)
  (X20 : BufTy.Contents (Elt F) arg20.view.ty) (X21 : BufTy.Contents (Elt F) arg21.view.ty) (X22 : BufTy.Contents (Elt F) arg22.view.ty)
  (X23 : BufTy.Contents (Elt F) arg23.view.ty) (X24 : BufTy.Contents (Elt F) arg24.view.ty) (v27 : IVec S1x256 32) (G : BufTy.Contents (Elt F) arg18.view.ty)

/-- A row of another sequence is not among the rows of trip `k`. -/
theorem row_not_mem (r : Rect S2x2176x128) (k : ℕ) (hk : k < 128) (ho : r.off (1 : Fin 3) = k) (hst : r.stride (1 : Fin 3) = 136)
    (g b : ℕ) (hb : b < 128) (hne : k ≠ b) (y : S2x2176x128.Idx) (hy : (y (1 : Fin 3)).val = 136 * g + b) : y ∉ r.set := fun hm => by
  obtain ⟨j, -, hj⟩ := r.mem_set.mp hm (1 : Fin 3)
  rw [ho, hst, hy] at hj
  omega

theorem seqPieces_miss (k : Fin k0_t4_loop.trips) (f f' : BufTy.Contents (Elt F) arg18.view.ty) (g b : ℕ) (hb : b < 128) (hne : k.val ≠ b)
    (y : S2x2176x128.Idx) (hy : (y (1 : Fin 3)).val = 136 * g + b) :
    arg18.view.read (Elt F) (arg18.view.writes (Elt F) f' (seqPieces i arg2 arg17 arg18 arg19 arg20 arg21 arg22 arg23 arg24 c X2 X17 X19 X20 X21 X22 X23 X24 v27 k f)) y = arg18.view.read (Elt F) f' y := by
  have hk : k.val < 128 := Nat.lt_of_lt_of_le k.isLt k0_t4_abs.2.1
  unfold seqPieces
  rw [View.read_writes_cons_miss _ _ _ _ _ (row_not_mem _ k.val hk (congrFun (k0_off22_eq k) 1) rfl g b hb hne y hy),
    View.read_writes_cons_miss _ _ _ _ _ (row_not_mem _ k.val hk (congrFun (k0_off16_eq k) 1) rfl g b hb hne y hy)]
  rfl

/-- Before its trip a row holds what the loop found. -/
theorem seqSt_before (n : ℕ) (hn : n ≤ k0_t4_loop.trips) (g b : ℕ) (hb : b < 128) (hnb : n ≤ b)
    (y : S2x2176x128.Idx) (hy : (y (1 : Fin 3)).val = 136 * g + b) :
    arg18.view.read (Elt F) (seqSt i arg2 arg17 arg18 arg19 arg20 arg21 arg22 arg23 arg24 c X2 X17 X19 X20 X21 X22 X23 X24 v27 G n) y = arg18.view.read (Elt F) G y := by
  induction n with
  | zero => rfl
  | succ n ih =>
    rw [seqSt_succ i arg2 arg17 arg18 arg19 arg20 arg21 arg22 arg23 arg24 c X2 X17 X19 X20 X21 X22 X23 X24 v27 G (⟨n, hn⟩ : Fin k0_t4_loop.trips), seqPieces_miss i arg2 arg17 arg18 arg19 arg20 arg21 arg22 arg23 arg24 c X2 X17 X19 X20 X21 X22 X23 X24 v27 ⟨n, hn⟩ _ _ g b hb (by show n ≠ b; omega) y hy]
    exact ih (by omega) (by omega)

/-- After its trip a row stays. -/
theorem seqSt_after (n : ℕ) (hn : n ≤ k0_t4_loop.trips) (g b : ℕ) (hb : b < 128) (hbn : b < n)
    (y : S2x2176x128.Idx) (hy : (y (1 : Fin 3)).val = 136 * g + b) :
    arg18.view.read (Elt F) (seqSt i arg2 arg17 arg18 arg19 arg20 arg21 arg22 arg23 arg24 c X2 X17 X19 X20 X21 X22 X23 X24 v27 G n) y = arg18.view.read (Elt F) (seqSt i arg2 arg17 arg18 arg19 arg20 arg21 arg22 arg23 arg24 c X2 X17 X19 X20 X21 X22 X23 X24 v27 G (b + 1)) y := by
  induction n with
  | zero => exact absurd hbn (Nat.not_lt_zero _)
  | succ n ih =>
    by_cases h : n = b
    · subst h; rfl
    · rw [seqSt_succ i arg2 arg17 arg18 arg19 arg20 arg21 arg22 arg23 arg24 c X2 X17 X19 X20 X21 X22 X23 X24 v27 G (⟨n, hn⟩ : Fin k0_t4_loop.trips), seqPieces_miss i arg2 arg17 arg18 arg19 arg20 arg21 arg22 arg23 arg24 c X2 X17 X19 X20 X21 X22 X23 X24 v27 ⟨n, hn⟩ _ _ g b hb (by show n ≠ b; exact h) y hy]
      exact ih (by omega) (by omega)

/-- What trip `k` loads of the accumulator is what the loop found. -/
theorem seqSt_load0 (k : Fin k0_t4_loop.trips) : arg18.view.readAt (Elt F) (⟨k0_off16 k, S1x16x128.size, ![1, 136, 1], (k0_off16_inb k)⟩ : LoadRect S2x2176x128) (seqSt i arg2 arg17 arg18 arg19 arg20 arg21 arg22 arg23 arg24 c X2 X17 X19 X20 X21 X22 X23 X24 v27 G k.val) = arg18.view.readAt (Elt F) (⟨k0_off16 k, S1x16x128.size, ![1, 136, 1], (k0_off16_inb k)⟩ : LoadRect S2x2176x128) G := by
  have hk : k.val < 128 := Nat.lt_of_lt_of_le k.isLt k0_t4_abs.2.1
  funext x
  rw [View.readAt_apply, View.readAt_apply]
  refine seqSt_before i arg2 arg17 arg18 arg19 arg20 arg21 arg22 arg23 arg24 c X2 X17 X19 X20 X21 X22 X23 X24 v27 G k.val k.isLt.le (x (1 : Fin 3)).val k.val hk le_rfl _ ?_
  show k0_off16 k (1 : Fin 3) + 136 * (x (1 : Fin 3)).val = _
  rw [show k0_off16 k (1 : Fin 3) = k.val from congrFun (k0_off16_eq k) 1]
  omega

/-- What trip `k` loads of the accumulator is what the loop found. -/
theorem seqSt_load1 (k : Fin k0_t4_loop.trips) : arg18.view.readAt (Elt F) (⟨k0_off22 k, S1x16x128.size, ![1, 136, 1], (k0_off22_inb k)⟩ : LoadRect S2x2176x128) (seqSt i arg2 arg17 arg18 arg19 arg20 arg21 arg22 arg23 arg24 c X2 X17 X19 X20 X21 X22 X23 X24 v27 G k.val) = arg18.view.readAt (Elt F) (⟨k0_off22 k, S1x16x128.size, ![1, 136, 1], (k0_off22_inb k)⟩ : LoadRect S2x2176x128) G := by
  have hk : k.val < 128 := Nat.lt_of_lt_of_le k.isLt k0_t4_abs.2.1
  funext x
  rw [View.readAt_apply, View.readAt_apply]
  refine seqSt_before i arg2 arg17 arg18 arg19 arg20 arg21 arg22 arg23 arg24 c X2 X17 X19 X20 X21 X22 X23 X24 v27 G k.val k.isLt.le (x (1 : Fin 3)).val k.val hk le_rfl _ ?_
  show k0_off22 k (1 : Fin 3) + 136 * (x (1 : Fin 3)).val = _
  rw [show k0_off22 k (1 : Fin 3) = k.val from congrFun (k0_off22_eq k) 1]
  omega

/-- The accumulator after the loop. -/
theorem seqSt_read0 (k : Fin k0_t4_loop.trips) (g : Fin 16) (l : Fin 128) :
    arg18.view.read (Elt F) (seqSt i arg2 arg17 arg18 arg19 arg20 arg21 arg22 arg23 arg24 c X2 X17 X19 X20 X21 X22 X23 X24 v27 G k0_t4_loop.trips) (ix3 (0 : Fin 2) (⟨136 * g.val + k.val, by have := g.isLt; have h : k.val < 128 := Nat.lt_of_lt_of_le k.isLt k0_t4_abs.2.1; omega⟩ : Fin 2176) l)
      = (k0_pay83 (seqVals (F := F) arg22 X22 k) (seqValid (F := F) i arg2 c X2 v27 k) (seqScores i arg2 arg17 arg21 arg23 c X2 X17 X21 X23 v27 k) (arg19.view.readAt (Elt F) (⟨k0_off21 k, S16x128.size, ![136, 1], (k0_off21_inb k)⟩ : LoadRect S2176x128) X19) (arg20.view.readAt (Elt F) (⟨k0_off21 k, S16x128.size, ![136, 1], (k0_off21_inb k)⟩ : LoadRect S2176x128) X20) (arg24.view.readAt (Elt F) (Rect.unit (s := S128x256) (k0_off20 k) S1x256.size (k0_off20_inb k)).toLoadRect X24)
      (arg18.view.readAt (Elt F) (⟨k0_off16 k, S1x16x128.size, ![1, 136, 1], (k0_off16_inb k)⟩ : LoadRect S2x2176x128) G) : FVec F S1x16x128 .f32) (ix3 (0 : Fin 1) g l) := by
  have hk : k.val < 128 := Nat.lt_of_lt_of_le k.isLt k0_t4_abs.2.1
  rw [seqSt_after i arg2 arg17 arg18 arg19 arg20 arg21 arg22 arg23 arg24 c X2 X17 X19 X20 X21 X22 X23 X24 v27 G k0_t4_loop.trips le_rfl g.val k.val hk k.isLt _ rfl, seqSt_succ i arg2 arg17 arg18 arg19 arg20 arg21 arg22 arg23 arg24 c X2 X17 X19 X20 X21 X22 X23 X24 v27 G k]
  unfold seqPieces
  rw [missS _ _ _ _ _ _ _ (congrFun (k0_off22_eq k) 0)]
  rw [← seqSt_load0 i arg2 arg17 arg18 arg19 arg20 arg21 arg22 arg23 arg24 c X2 X17 X19 X20 X21 X22 X23 X24 v27 G k]
  exact hitS _ _ _ _ _ _ _ _ _ _ g (congrFun (k0_off16_eq k) 0) (by rw [show k0_off16 k (1 : Fin 3) = k.val from congrFun (k0_off16_eq k) 1]; exact Nat.add_comm _ _) (congrFun (k0_off16_eq k) 2)

/-- The accumulator after the loop. -/
theorem seqSt_read1 (k : Fin k0_t4_loop.trips) (g : Fin 16) (l : Fin 128) :
    arg18.view.read (Elt F) (seqSt i arg2 arg17 arg18 arg19 arg20 arg21 arg22 arg23 arg24 c X2 X17 X19 X20 X21 X22 X23 X24 v27 G k0_t4_loop.trips) (ix3 (1 : Fin 2) (⟨136 * g.val + k.val, by have := g.isLt; have h : k.val < 128 := Nat.lt_of_lt_of_le k.isLt k0_t4_abs.2.1; omega⟩ : Fin 2176) l)
      = (k0_pay94 (k0_pay80 (seqScores i arg2 arg17 arg21 arg23 c X2 X17 X21 X23 v27 k) (arg19.view.readAt (Elt F) (⟨k0_off21 k, S16x128.size, ![136, 1], (k0_off21_inb k)⟩ : LoadRect S2176x128) X19))
      (k0_pay81 (seqVals (F := F) arg22 X22 k) (seqValid (F := F) i arg2 c X2 v27 k) (seqScores i arg2 arg17 arg21 arg23 c X2 X17 X21 X23 v27 k) (arg19.view.readAt (Elt F) (⟨k0_off21 k, S16x128.size, ![136, 1], (k0_off21_inb k)⟩ : LoadRect S2176x128) X19) (arg24.view.readAt (Elt F) (Rect.unit (s := S128x256) (k0_off20 k) S1x256.size (k0_off20_inb k)).toLoadRect X24))
      (k0_pay82 (seqScores i arg2 arg17 arg21 arg23 c X2 X17 X21 X23 v27 k) (arg19.view.readAt (Elt F) (⟨k0_off21 k, S16x128.size, ![136, 1], (k0_off21_inb k)⟩ : LoadRect S2176x128) X19) (arg20.view.readAt (Elt F) (⟨k0_off21 k, S16x128.size, ![136, 1], (k0_off21_inb k)⟩ : LoadRect S2176x128) X20)) (k0_pay84 (arg18.view.readAt (Elt F) (⟨k0_off22 k, S1x16x128.size, ![1, 136, 1], (k0_off22_inb k)⟩ : LoadRect S2x2176x128) G)) : FVec F S1x16x128 .f32) (ix3 (0 : Fin 1) g l) := by
  have hk : k.val < 128 := Nat.lt_of_lt_of_le k.isLt k0_t4_abs.2.1
  rw [seqSt_after i arg2 arg17 arg18 arg19 arg20 arg21 arg22 arg23 arg24 c X2 X17 X19 X20 X21 X22 X23 X24 v27 G k0_t4_loop.trips le_rfl g.val k.val hk k.isLt _ rfl, seqSt_succ i arg2 arg17 arg18 arg19 arg20 arg21 arg22 arg23 arg24 c X2 X17 X19 X20 X21 X22 X23 X24 v27 G k]
  unfold seqPieces
  rw [← seqSt_load1 i arg2 arg17 arg18 arg19 arg20 arg21 arg22 arg23 arg24 c X2 X17 X19 X20 X21 X22 X23 X24 v27 G k]
  exact hitS _ _ _ _ _ _ _ _ _ _ g (congrFun (k0_off22_eq k) 0) (by rw [show k0_off22 k (1 : Fin 3) = k.val from congrFun (k0_off22_eq k) 1]; exact Nat.add_comm _ _) (congrFun (k0_off22_eq k) 2)

end State

end Cert.KernelIdeal.Gen

end
-- ==== Proof.Value.Row.lean ====
/- One row of the body's result: what the loop over the sequences leaves at a place of the accumulator, from what its buffers hold. -/
module

public import proofs.«01_k».proof.Proof.Value.SeqRead
public import proofs.«01_k».proof.Proof.Value.Pay

@[expose] public section

set_option maxRecDepth 8192
set_option maxHeartbeats 400000

noncomputable section

namespace Cert.KernelIdeal.Gen

open Idealize.ShloMosaic Idealize.ShloMosaic.TcCoe Cert.Softmax

/-- A load at a place is a read at the place's image. -/
theorem at2 {κ : Kind} {sp : Space} {F : FTy → Type} {n0 n1 : ℕ} {e : EltTy} (v : View sig κ sp (⟨2, ![n0, n1]⟩ : Shape) e)
    (r : LoadRect (⟨2, ![n0, n1]⟩ : Shape)) (f : v.ty.Contents (Elt F)) (x : r.shape.Idx) (A : Fin n0) (B : Fin n1)
    (h0 : r.off (0 : Fin 2) + r.stride (0 : Fin 2) * (x (0 : Fin 2)).val = A.val) (h1 : r.off (1 : Fin 2) + r.stride (1 : Fin 2) * (x (1 : Fin 2)).val = B.val) :
    v.readAt (Elt F) r f x = v.read (Elt F) f (ix2 A B) := by
  refine (View.readAt_apply _ _ _).trans (congrArg _ (funext fun a => ?_))
  match a with
  | ⟨0, _⟩ => exact Fin.ext h0
  | ⟨1, _⟩ => exact Fin.ext h1

/-- A load at a place is a read at the place's image. -/
theorem at3 {κ : Kind} {sp : Space} {F : FTy → Type} {n0 n1 n2 : ℕ} {e : EltTy} (v : View sig κ sp (⟨3, ![n0, n1, n2]⟩ : Shape) e)
    (r : LoadRect (⟨3, ![n0, n1, n2]⟩ : Shape)) (f : v.ty.Contents (Elt F)) (x : r.shape.Idx) (A : Fin n0) (B : Fin n1) (C : Fin n2)
    (h0 : r.off (0 : Fin 3) + r.stride (0 : Fin 3) * (x (0 : Fin 3)).val = A.val) (h1 : r.off (1 : Fin 3) + r.stride (1 : Fin 3) * (x (1 : Fin 3)).val = B.val)
    (h2 : r.off (2 : Fin 3) + r.stride (2 : Fin 3) * (x (2 : Fin 3)).val = C.val) :
    v.readAt (Elt F) r f x = v.read (Elt F) f (ix3 A B C) := by
  refine (View.readAt_apply _ _ _).trans (congrArg _ (funext fun a => ?_))
  match a with
  | ⟨0, _⟩ => exact Fin.ext h0
  | ⟨1, _⟩ => exact Fin.ext h1
  | ⟨2, _⟩ => exact Fin.ext h2

/-- A load at a place is a read at the place's image. -/
theorem at4 {κ : Kind} {sp : Space} {F : FTy → Type} {n0 n1 n2 n3 : ℕ} {e : EltTy} (v : View sig κ sp (⟨4, ![n0, n1, n2, n3]⟩ : Shape) e)
    (r : LoadRect (⟨4, ![n0, n1, n2, n3]⟩ : Shape)) (f : v.ty.Contents (Elt F)) (x : r.shape.Idx) (A : Fin n0) (B : Fin n1) (C : Fin n2) (D : Fin n3)
    (h0 : r.off (0 : Fin 4) + r.stride (0 : Fin 4) * (x (0 : Fin 4)).val = A.val) (h1 : r.off (1 : Fin 4) + r.stride (1 : Fin 4) * (x (1 : Fin 4)).val = B.val)
    (h2 : r.off (2 : Fin 4) + r.stride (2 : Fin 4) * (x (2 : Fin 4)).val = C.val) (h3 : r.off (3 : Fin 4) + r.stride (3 : Fin 4) * (x (3 : Fin 4)).val = D.val) :
    v.readAt (Elt F) r f x = v.read (Elt F) f (ix4 A B C D) := by
  refine (View.readAt_apply _ _ _).trans (congrArg _ (funext fun a => ?_))
  match a with
  | ⟨0, _⟩ => exact Fin.ext h0
  | ⟨1, _⟩ => exact Fin.ext h1
  | ⟨2, _⟩ => exact Fin.ext h2
  | ⟨3, _⟩ => exact Fin.ext h3

/-- A row after the tail, from the maximum, the sum and the weighted values before it. -/
def seqRow (m0 l0 o : EReal) (st : Fin 256 → EReal) (vs vt : Fin 256 → EReal) (ok : Fin 256 → Prop) [DecidablePred ok] : EReal :=
  (o * Ideal.exp2 (m0 - max m0 (top st)) + ∑ t, (if ok t then Ideal.exp2 (st t - max m0 (top st)) * vs t else 0) * vt t)
    * Ideal.div 1 (l0 * Ideal.exp2 (m0 - max m0 (top st)) + ∑ t, Ideal.exp2 (st t - max m0 (top st)))

section Row
variable (i : grid0.Coords) (arg2 : Memref sig .tc .smem S2048 .i32) (arg17 : Memref sig .tc .vmem S2x2176x128 .f32) (arg18 : Memref sig .tc .vmem S2x2176x128 .f32)
  (arg19 : Memref sig .tc .vmem S2176x128 .f32) (arg20 : Memref sig .tc .vmem S2176x128 .f32) (arg21 : Memref sig .tc .vmem S2x128x160x128 .fp8e4m3)
  (arg22 : Memref sig .tc .vmem S2x128x160x128 .fp8e4m3) (arg23 : Memref sig .tc .vmem S128x256 .f32) (arg24 : Memref sig .tc .vmem S128x256 .f32)
  (c : Dev nD) (X2 : Buf (Elt Ideal) (arg2.view.loc (c : Thread nD τ))) (X17 : BufTy.Contents (Elt Ideal) arg17.view.ty) (X19 : BufTy.Contents (Elt Ideal) arg19.view.ty)
  (X20 : BufTy.Contents (Elt Ideal) arg20.view.ty) (X21 : BufTy.Contents (Elt Ideal) arg21.view.ty) (X22 : BufTy.Contents (Elt Ideal) arg22.view.ty)
  (X23 : BufTy.Contents (Elt Ideal) arg23.view.ty) (X24 : BufTy.Contents (Elt Ideal) arg24.view.ty)
  (k : Fin k0_t4_loop.trips) (b : Fin 128) (hb : k.val = b.val) (g : Fin 12)
  (q : Fin 160 → EReal) (kt vt : Fin 160 → Fin 256 → EReal)

include hb in
theorem q_read
    (hq0 : ∀ l : Fin 128, arg17.view.read (Elt Ideal) X17 (ix3 (0 : Fin 2) (⟨136 * g.val + b.val, by omega⟩ : Fin 2176) l) = q (⟨l.val, by omega⟩ : Fin 160))
    (hq1 : ∀ l : Fin 32, arg17.view.read (Elt Ideal) X17 (ix3 (1 : Fin 2) (⟨136 * g.val + b.val, by omega⟩ : Fin 2176) (l.castLE (by norm_num) : Fin 128)) = q (⟨128 + l.val, by omega⟩ : Fin 160))
    (d : Fin 160) :
    qOf (arg17.view.readAt (Elt Ideal) (⟨k0_off16 k, S1x16x128.size, ![1, 136, 1], (k0_off16_inb k)⟩ : LoadRect S2x2176x128) X17)
      (arg17.view.readAt (Elt Ideal) (⟨k0_off17 k, S1x16x32.size, ![1, 136, 1], (k0_off17_inb k)⟩ : LoadRect S2x2176x128) X17) (g.castLE (by norm_num) : Fin 16) d = q d := by
  have e0 := congrFun (k0_off16_eq k)
  have e1 := congrFun (k0_off17_eq k)
  unfold qOf
  split
  · rename_i h
    refine (at3 arg17.view _ X17 _ (0 : Fin 2) (⟨136 * g.val + b.val, by omega⟩ : Fin 2176) (⟨d.val, h⟩ : Fin 128) ?_ ?_ ?_).trans (hq0 ⟨d.val, h⟩)
    · show k0_off16 k 0 + 1 * 0 = 0
      rw [e0]; rfl
    · show k0_off16 k 1 + 136 * g.val = 136 * g.val + b.val
      rw [e0]; show k.val + _ = _; omega
    · show k0_off16 k 2 + 1 * d.val = d.val
      rw [e0]; show 0 + _ = _; omega
  · rename_i h
    refine (at3 arg17.view _ X17 _ (1 : Fin 2) (⟨136 * g.val + b.val, by omega⟩ : Fin 2176) (⟨d.val - 128, by omega⟩ : Fin 128) ?_ ?_ ?_).trans ((hq1 ⟨d.val - 128, by omega⟩).trans (congrArg q (Fin.ext (by show 128 + (d.val - 128) = d.val; omega))))
    · show k0_off17 k 0 + 1 * 0 = 1
      rw [e1]; rfl
    · show k0_off17 k 1 + 136 * g.val = 136 * g.val + b.val
      rw [e1]; show k.val + _ = _; omega
    · show k0_off17 k 2 + 1 * (d.val - 128) = d.val - 128
      rw [e1]; show 0 + _ = _; omega

include hb in
theorem kv_read (arg : Memref sig .tc .vmem S2x128x160x128 .fp8e4m3) (X : BufTy.Contents (Elt Ideal) arg.view.ty)
    (h0 : ∀ (d : Fin 160) (t : Fin 128), arg.view.read (Elt Ideal) X (ix4 (0 : Fin 2) b d t) = kt d (t.castLE (by norm_num)))
    (h1 : ∀ (d : Fin 160) (t : Fin 128), arg.view.read (Elt Ideal) X (ix4 (1 : Fin 2) b d t) = kt d ⟨128 + t.val, by omega⟩)
    (d : Fin 160) (t : Fin 256) :
    k0_pay74 (F := Ideal) (arg.view.readAt (Elt Ideal) (Rect.unit (s := S2x128x160x128) (k0_off18 k) S1x1x160x128.size (k0_off18_inb k)).toLoadRect X)
      (arg.view.readAt (Elt Ideal) (Rect.unit (s := S2x128x160x128) (k0_off19 k) S1x1x160x128.size (k0_off19_inb k)).toLoadRect X) (ix2 d t) = kt d t := by
  have e0 := congrFun (k0_off18_eq k)
  have e1 := congrFun (k0_off19_eq k)
  by_cases ht : t.val < 128
  · refine (pay74_apply0 _ _ d (⟨t.val, ht⟩ : Fin 128)).trans ?_
    refine (at4 arg.view _ X _ (0 : Fin 2) b d (⟨t.val, ht⟩ : Fin 128) ?_ ?_ ?_ ?_).trans (h0 d ⟨t.val, ht⟩)
    · show k0_off18 k 0 + 1 * 0 = 0
      rw [e0]; rfl
    · show k0_off18 k 1 + 1 * 0 = b.val
      rw [e0]; exact hb
    · show k0_off18 k 2 + 1 * d.val = d.val
      rw [e0]; show 0 + _ = _; omega
    · show k0_off18 k 3 + 1 * t.val = t.val
      rw [e0]; show 0 + _ = _; omega
  · have et : t = (⟨128 + (t.val - 128), by omega⟩ : Fin 256) := Fin.ext (by show t.val = 128 + (t.val - 128); omega)
    refine (congrArg (fun t' : Fin 256 => k0_pay74 (F := Ideal) _ _ (ix2 d t')) et).trans ((pay74_apply1 _ _ d (⟨t.val - 128, by omega⟩ : Fin 128)).trans ?_)
    refine (at4 arg.view _ X _ (1 : Fin 2) b d (⟨t.val - 128, by omega⟩ : Fin 128) ?_ ?_ ?_ ?_).trans ((h1 d ⟨t.val - 128, by omega⟩).trans (congrArg (kt d) et.symm))
    · show k0_off19 k 0 + 1 * 0 = 1
      rw [e1]; rfl
    · show k0_off19 k 1 + 1 * 0 = b.val
      rw [e1]; exact hb
    · show k0_off19 k 2 + 1 * d.val = d.val
      rw [e1]; show 0 + _ = _; omega
    · show k0_off19 k 3 + 1 * (t.val - 128) = t.val - 128
      rw [e1]; show 0 + _ = _; omega

include hb in
theorem lane_read (arg : Memref sig .tc .vmem S128x256 .f32) (X : BufTy.Contents (Elt Ideal) arg.view.ty) (t : Fin 256) :
    (arg.view.readAt (Elt Ideal) (Rect.unit (s := S128x256) (k0_off20 k) S1x256.size (k0_off20_inb k)).toLoadRect X : Vec Ideal S1x256 .f32) (ix2 (0 : Fin 1) t)
      = arg.view.read (Elt Ideal) X (ix2 b t) := by
  have e0 := congrFun (k0_off20_eq k)
  refine at2 arg.view _ X _ b t ?_ ?_
  · show k0_off20 k 0 + 1 * 0 = b.val
    rw [e0]; exact hb
  · show k0_off20 k 1 + 1 * t.val = t.val
    rw [e0]; show 0 + _ = _; omega

include hb in
theorem ml_read (arg : Memref sig .tc .vmem S2176x128 .f32) (X : BufTy.Contents (Elt Ideal) arg.view.ty) (l : Fin 128) :
    (arg.view.readAt (Elt Ideal) (⟨k0_off21 k, S16x128.size, ![136, 1], (k0_off21_inb k)⟩ : LoadRect S2176x128) X : Vec Ideal S16x128 .f32) (ix2 (g.castLE (by norm_num) : Fin 16) l)
      = arg.view.read (Elt Ideal) X (ix2 (⟨136 * g.val + b.val, by omega⟩ : Fin 2176) l) := by
  have e0 := congrFun (k0_off21_eq k)
  refine at2 arg.view _ X _ (⟨136 * g.val + b.val, by omega⟩ : Fin 2176) l ?_ ?_
  · show k0_off21 k 0 + 136 * g.val = 136 * g.val + b.val
    rw [e0]; show k.val + _ = _; omega
  · show k0_off21 k 1 + 1 * l.val = l.val
    rw [e0]; show 0 + _ = _; omega

include hb in
theorem o_read0 (G : BufTy.Contents (Elt Ideal) arg18.view.ty) (l : Fin 128) :
    (arg18.view.readAt (Elt Ideal) (⟨k0_off16 k, S1x16x128.size, ![1, 136, 1], (k0_off16_inb k)⟩ : LoadRect S2x2176x128) G : Vec Ideal S1x16x128 .f32) (ix3 (0 : Fin 1) (g.castLE (by norm_num) : Fin 16) l)
      = arg18.view.read (Elt Ideal) G (ix3 (0 : Fin 2) (⟨136 * g.val + b.val, by omega⟩ : Fin 2176) l) := by
  have e0 := congrFun (k0_off16_eq k)
  refine at3 arg18.view _ G _ (0 : Fin 2) (⟨136 * g.val + b.val, by omega⟩ : Fin 2176) l ?_ ?_ ?_
  · show k0_off16 k 0 + 1 * 0 = 0
    rw [e0]; rfl
  · show k0_off16 k 1 + 136 * g.val = 136 * g.val + b.val
    rw [e0]; show k.val + _ = _; omega
  · show k0_off16 k 2 + 1 * l.val = l.val
    rw [e0]; show 0 + _ = _; omega

include hb in
theorem o_read1 (G : BufTy.Contents (Elt Ideal) arg18.view.ty) (l : Fin 128) :
    (arg18.view.readAt (Elt Ideal) (⟨k0_off22 k, S1x16x128.size, ![1, 136, 1], (k0_off22_inb k)⟩ : LoadRect S2x2176x128) G : Vec Ideal S1x16x128 .f32) (ix3 (0 : Fin 1) (g.castLE (by norm_num) : Fin 16) l)
      = arg18.view.read (Elt Ideal) G (ix3 (1 : Fin 2) (⟨136 * g.val + b.val, by omega⟩ : Fin 2176) l) := by
  have e0 := congrFun (k0_off22_eq k)
  refine at3 arg18.view _ G _ (1 : Fin 2) (⟨136 * g.val + b.val, by omega⟩ : Fin 2176) l ?_ ?_ ?_
  · show k0_off22 k 0 + 1 * 0 = 1
    rw [e0]; rfl
  · show k0_off22 k 1 + 136 * g.val = 136 * g.val + b.val
    rw [e0]; show k.val + _ = _; omega
  · show k0_off22 k 2 + 1 * l.val = l.val
    rw [e0]; show 0 + _ = _; omega

variable
  (hq0 : ∀ l : Fin 128, arg17.view.read (Elt Ideal) X17 (ix3 (0 : Fin 2) (⟨136 * g.val + b.val, by omega⟩ : Fin 2176) l) = q (⟨l.val, by omega⟩ : Fin 160))
  (hq1 : ∀ l : Fin 32, arg17.view.read (Elt Ideal) X17 (ix3 (1 : Fin 2) (⟨136 * g.val + b.val, by omega⟩ : Fin 2176) (l.castLE (by norm_num) : Fin 128)) = q (⟨128 + l.val, by omega⟩ : Fin 160))
  (hk0 : ∀ (d : Fin 160) (t : Fin 128), arg21.view.read (Elt Ideal) X21 (ix4 (0 : Fin 2) b d t) = kt d (t.castLE (by norm_num)))
  (hk1 : ∀ (d : Fin 160) (t : Fin 128), arg21.view.read (Elt Ideal) X21 (ix4 (1 : Fin 2) b d t) = kt d ⟨128 + t.val, by omega⟩)
  (hv0 : ∀ (d : Fin 160) (t : Fin 128), arg22.view.read (Elt Ideal) X22 (ix4 (0 : Fin 2) b d t) = vt d (t.castLE (by norm_num)))
  (hv1 : ∀ (d : Fin 160) (t : Fin 128), arg22.view.read (Elt Ideal) X22 (ix4 (1 : Fin 2) b d t) = vt d ⟨128 + t.val, by omega⟩)

/-- A tail score of the row. -/
def stOf (n : BitVec 32) (q : Fin 160 → EReal) (kt : Fin 160 → Fin 256 → EReal) (sk : Fin 256 → EReal) (t : Fin 256) : EReal :=
  if (t.val : ℤ) < n.toInt then (∑ d, q d * kt d t) * sk t else ⊥

include hb hq0 hq1 hk0 hk1 in
theorem scores_read (t : Fin 256) :
    seqScores i arg2 arg17 arg21 arg23 c X2 X17 X21 X23 (iota .tc S1x256 32 [1] iota_S1x256_d1_w32) k (ix2 (g.castLE (by norm_num) : Fin 16) t)
      = stOf (seqLen (F := Ideal) i arg2 c X2 k) q kt (fun t => arg23.view.read (Elt Ideal) X23 (ix2 b t)) t := by
  unfold seqScores stOf
  refine (pay76_apply _ _ _ _ _ _ _ _).trans (if_congr Iff.rfl (congrArg₂ (fun u v : EReal => u * v) (Finset.sum_congr rfl fun d _ => congrArg₂ (fun u v : EReal => u * v) ?_ ?_) ?_) rfl)
  · exact q_read arg17 X17 k b hb g q hq0 hq1 d
  · exact kv_read k b hb kt arg21 X21 hk0 hk1 d t
  · exact lane_read k b hb arg23 X23 t

variable (m0 l0 : EReal) (o : Fin 160 → EReal) (G : BufTy.Contents (Elt Ideal) arg18.view.ty)
  (hm : ∀ l : Fin 128, arg19.view.read (Elt Ideal) X19 (ix2 (⟨136 * g.val + b.val, by omega⟩ : Fin 2176) l) = m0)
  (hl : ∀ l : Fin 128, arg20.view.read (Elt Ideal) X20 (ix2 (⟨136 * g.val + b.val, by omega⟩ : Fin 2176) l) = l0)
  (ho0 : ∀ l : Fin 128, arg18.view.read (Elt Ideal) G (ix3 (0 : Fin 2) (⟨136 * g.val + b.val, by omega⟩ : Fin 2176) l) = o (⟨l.val, by omega⟩ : Fin 160))
  (ho1 : ∀ l : Fin 32, arg18.view.read (Elt Ideal) G (ix3 (1 : Fin 2) (⟨136 * g.val + b.val, by omega⟩ : Fin 2176) (l.castLE (by norm_num) : Fin 128)) = o (⟨128 + l.val, by omega⟩ : Fin 160))

theorem seqRow_of (V : FVec Ideal S160x256 .fp8e4m3) (n : BitVec 32) (S : FVec Ideal S16x256 .f32) (M L : Vec Ideal S16x128 .f32)
    (sv : Vec Ideal S1x256 .f32) (g : Fin 16) (d : Fin 160) (m0 l0 o : EReal) (st vs vt : Fin 256 → EReal)
    (hS : ∀ t, S (ix2 g t) = st t) (hM : M (ix2 g (0 : Fin 128)) = m0) (hL : L (ix2 g (0 : Fin 128)) = l0)
    (hs : ∀ t, sv (ix2 (0 : Fin 1) t) = vs t) (hV : ∀ t, V (ix2 d t) = vt t) :
    (o * k0_pay80 (F := Ideal) S M (ix2 g (0 : Fin 1)) + k0_pay81 (F := Ideal) V (k0_pay75 (F := Ideal) (iota .tc S1x256 32 [1] iota_S1x256_d1_w32) n) S M sv (ix2 g d))
        * k0_pay82 (F := Ideal) S M L (ix2 g (0 : Fin 1))
      = seqRow m0 l0 o st vs vt (fun t => (t.val : ℤ) < n.toInt) := by
  rw [pay80_apply, pay81_apply, pay82_apply, hM, hL, show (fun t => S (ix2 g t)) = st from funext hS]
  unfold seqRow
  simp only [hS, hs, hV]
  refine congrArg₂ (fun u v : EReal => u * v) (congrArg₂ (fun u v : EReal => u + v) rfl (Finset.sum_congr rfl fun t _ => congrArg₂ (fun u v : EReal => u * v) (if_congr ?_ rfl rfl) rfl)) rfl
  rw [pay75_apply]
  exact WordCmp.ofBool_decide_eq_one_iff _

include hb hq0 hq1 hk0 hk1 hv0 hv1 hm hl ho0 in
theorem row0 (l : Fin 128) :
    arg18.view.read (Elt Ideal) (seqSt i arg2 arg17 arg18 arg19 arg20 arg21 arg22 arg23 arg24 c X2 X17 X19 X20 X21 X22 X23 X24 (iota .tc S1x256 32 [1] iota_S1x256_d1_w32) G k0_t4_loop.trips)
        (ix3 (0 : Fin 2) (⟨136 * g.val + b.val, by omega⟩ : Fin 2176) l)
      = seqRow m0 l0 (o ⟨l.val, by omega⟩) (stOf (seqLen (F := Ideal) i arg2 c X2 k) q kt (fun t => arg23.view.read (Elt Ideal) X23 (ix2 b t)))
          (fun t => arg24.view.read (Elt Ideal) X24 (ix2 b t)) (vt ⟨l.val, by omega⟩) (fun t => (t.val : ℤ) < (seqLen (F := Ideal) i arg2 c X2 k).toInt) := by
  have hi : (ix3 (0 : Fin 2) (⟨136 * g.val + b.val, by omega⟩ : Fin 2176) l : S2x2176x128.Idx) = ix3 (0 : Fin 2) (⟨136 * (g.castLE (by norm_num) : Fin 16).val + k.val, by show 136 * g.val + k.val < 2176; omega⟩ : Fin 2176) l := by
    rw [show (⟨136 * g.val + b.val, by omega⟩ : Fin 2176) = ⟨136 * (g.castLE (by norm_num) : Fin 16).val + k.val, by show 136 * g.val + k.val < 2176; omega⟩ from Fin.ext (by show 136 * g.val + b.val = 136 * g.val + k.val; omega)]
  rw [hi, seqSt_read0 i arg2 arg17 arg18 arg19 arg20 arg21 arg22 arg23 arg24 c X2 X17 X19 X20 X21 X22 X23 X24 (iota .tc S1x256 32 [1] iota_S1x256_d1_w32) G k (g.castLE (by norm_num) : Fin 16) l]
  refine (pay83_apply _ _ _ _ _ _ _ _ _).trans ?_
  rw [o_read0 arg18 k b hb g G l, ho0]
  exact seqRow_of _ _ _ _ _ _ _ _ m0 l0 _ _ _ _
    (scores_read i arg2 arg17 arg21 arg23 c X2 X17 X21 X23 k b hb g q kt hq0 hq1 hk0 hk1)
    ((ml_read k b hb g arg19 X19 0).trans (hm 0)) ((ml_read k b hb g arg20 X20 0).trans (hl 0))
    (lane_read k b hb arg24 X24) (kv_read k b hb vt arg22 X22 hv0 hv1 _)

include hb hq0 hq1 hk0 hk1 hv0 hv1 hm hl ho1 in
theorem row1 (l : Fin 32) :
    arg18.view.read (Elt Ideal) (seqSt i arg2 arg17 arg18 arg19 arg20 arg21 arg22 arg23 arg24 c X2 X17 X19 X20 X21 X22 X23 X24 (iota .tc S1x256 32 [1] iota_S1x256_d1_w32) G k0_t4_loop.trips)
        (ix3 (1 : Fin 2) (⟨136 * g.val + b.val, by omega⟩ : Fin 2176) (l.castLE (by norm_num) : Fin 128))
      = seqRow m0 l0 (o ⟨128 + l.val, by omega⟩) (stOf (seqLen (F := Ideal) i arg2 c X2 k) q kt (fun t => arg23.view.read (Elt Ideal) X23 (ix2 b t)))
          (fun t => arg24.view.read (Elt Ideal) X24 (ix2 b t)) (vt ⟨128 + l.val, by omega⟩) (fun t => (t.val : ℤ) < (seqLen (F := Ideal) i arg2 c X2 k).toInt) := by
  have hi : (ix3 (1 : Fin 2) (⟨136 * g.val + b.val, by omega⟩ : Fin 2176) (l.castLE (by norm_num) : Fin 128) : S2x2176x128.Idx) = ix3 (1 : Fin 2) (⟨136 * (g.castLE (by norm_num) : Fin 16).val + k.val, by show 136 * g.val + k.val < 2176; omega⟩ : Fin 2176) (l.castLE (by norm_num) : Fin 128) := by
    rw [show (⟨136 * g.val + b.val, by omega⟩ : Fin 2176) = ⟨136 * (g.castLE (by norm_num) : Fin 16).val + k.val, by show 136 * g.val + k.val < 2176; omega⟩ from Fin.ext (by show 136 * g.val + b.val = 136 * g.val + k.val; omega)]
  rw [hi, seqSt_read1 i arg2 arg17 arg18 arg19 arg20 arg21 arg22 arg23 arg24 c X2 X17 X19 X20 X21 X22 X23 X24 (iota .tc S1x256 32 [1] iota_S1x256_d1_w32) G k (g.castLE (by norm_num) : Fin 16) (l.castLE (by norm_num) : Fin 128)]
  refine (pay94_apply _ _ _ _ _ _ _ _ _).trans ?_
  rw [o_read1 arg18 k b hb g G _, ho1]
  exact seqRow_of _ _ _ _ _ _ _ _ m0 l0 _ _ _ _
    (scores_read i arg2 arg17 arg21 arg23 c X2 X17 X21 X23 k b hb g q kt hq0 hq1 hk0 hk1)
    ((ml_read k b hb g arg19 X19 0).trans (hm 0)) ((ml_read k b hb g arg20 X20 0).trans (hl 0))
    (lane_read k b hb arg24 X24) (kv_read k b hb vt arg22 X22 hv0 hv1 _)

end Row

end Cert.KernelIdeal.Gen

end
-- ==== Proof.Value.Rows.lean ====
/- The rows of the output block, and the places of the prepared prefix. -/
module

public import proofs.«01_k».proof.Proof.Value.Out
public import proofs.«01_k».proof.Proof.Value.Pref
public import proofs.«01_k».proof.Proof.Value.Pay
public import proofs.«01_k».proof.Proof.Value.BufTr
public import Idealize.ShloMosaic.Lib.WritesUnit
public import Idealize.ShloMosaic.Lib.Pointwise

@[expose] public section

set_option maxRecDepth 8192
set_option maxHeartbeats 400000

noncomputable section

namespace Cert.KernelIdeal.Gen

open Idealize.ShloMosaic Idealize.ShloMosaic.TcCoe Cert.Softmax

/-- The shapes of the pieces of a row of the output block: for each of the twelve heads, 128 lanes and 32 lanes. -/
def pieces : List Shape :=
  [S128x128, S128x32, S128x128, S128x32, S128x128, S128x32, S128x128, S128x32, S128x128, S128x32, S128x128, S128x32,
    S128x128, S128x32, S128x128, S128x32, S128x128, S128x32, S128x128, S128x32, S128x128, S128x32, S128x128, S128x32]

theorem before_lo : ∀ g : Fin 12, ((pieces.take (2 * g.val)).map fun s =>
    if h : s.rank = S128x1920.rank then s.size ((1 : Fin S128x1920.rank).cast h.symm) else 0).sum = 160 * g.val := by decide +kernel

theorem before_hi : ∀ g : Fin 12, ((pieces.take (2 * g.val + 1)).map fun s =>
    if h : s.rank = S128x1920.rank then s.size ((1 : Fin S128x1920.rank).cast h.symm) else 0).sum = 160 * g.val + 128 := by decide +kernel

theorem length_of_pieces (xs : List ((s : Shape) × (s.Idx → EReal))) (hs : xs.map (·.1) = pieces) : xs.length = 24 := by
  rw [← List.length_map (f := (·.1)), hs]
  rfl

/-- A place of the first 128 lanes of a head. -/
theorem cat_lo (xs : List ((s : Shape) × (s.Idx → EReal))) (hs : xs.map (·.1) = pieces)
    (h : Shape.Concatenates (xs.map (·.1)) S128x1920 1) (g : Fin 12) (x : S128x128.Idx → EReal)
    (hx : xs[2 * g.val]'(by have := length_of_pieces xs hs; omega) = ⟨S128x128, x⟩) (b : Fin 128) (l : Fin 128) :
    concatenate S128x1920 1 xs h (ix2 b (⟨160 * g.val + l.val, by omega⟩ : Fin 1920)) = x (ix2 b l) := by
  refine concatenate_apply_piece (t := S128x1920) 1 xs h _ (2 * g.val) _ S128x128 x hx rfl (160 * g.val)
    (by rw [List.map_take, hs]; exact before_lo g) (ix2 b l) ?_ ?_
  · intro a ha
    fin_cases a
    · rfl
    · exact absurd rfl ha
  · rfl

/-- A place of the last 32 lanes of a head. -/
theorem cat_hi (xs : List ((s : Shape) × (s.Idx → EReal))) (hs : xs.map (·.1) = pieces)
    (h : Shape.Concatenates (xs.map (·.1)) S128x1920 1) (g : Fin 12) (x : S128x32.Idx → EReal)
    (hx : xs[2 * g.val + 1]'(by have := length_of_pieces xs hs; omega) = ⟨S128x32, x⟩) (b : Fin 128) (l : Fin 32) :
    concatenate S128x1920 1 xs h (ix2 b (⟨160 * g.val + (128 + l.val), by omega⟩ : Fin 1920)) = x (ix2 b l) := by
  refine concatenate_apply_piece (t := S128x1920) 1 xs h _ (2 * g.val + 1) _ S128x32 x hx rfl (160 * g.val + 128)
    (by rw [List.map_take, hs]; exact before_hi g) (ix2 b l) ?_ ?_
  · intro a ha
    fin_cases a
    · rfl
    · exact absurd rfl ha
  · exact Nat.add_assoc _ _ _

theorem cast_lo (v : FVec Ideal S1x128x128 .f32) (b : Fin 128) (l : Fin 128) :
    truncf (F := Ideal) .bf16 (shapeCast S128x128 v shapeCasts_S1x128x128_S128x128) bitsLt_bf16_f32 (ix2 b l) = v (ix3 (0 : Fin 1) b l) := by
  pointwise []

/-- A load of 128 lanes of the accumulator's first plane. -/
theorem load_lo (arg18 : Memref sig .tc .vmem S2x2176x128 .f32) (SQ : BufTy.Contents (Elt Ideal) arg18.view.ty) (o : Nat)
    (ho : o + 128 ≤ 2176) (hi : ∀ a : Fin 3, ![0, o, 0] a + S1x128x128.size a ≤ S2x2176x128.size a) (b : Fin 128) (l : Fin 128) :
    truncf (F := Ideal) .bf16 (shapeCast S128x128 (arg18.view.readAt (Elt Ideal)
        (Rect.unit (s := S2x2176x128) ![0, o, 0] S1x128x128.size hi).toLoadRect SQ) shapeCasts_S1x128x128_S128x128) bitsLt_bf16_f32 (ix2 b l)
      = arg18.view.read (Elt Ideal) SQ (ix3 (0 : Fin 2) (⟨o + b.val, by omega⟩ : Fin 2176) l) := by
  refine (cast_lo _ b l).trans ((View.readAt_apply _ _ _).trans (congrArg _ ?_))
  funext a
  fin_cases a
  · rfl
  · exact Fin.ext (by show o + 1 * b.val = o + b.val; omega)
  · exact Fin.ext (by show 0 + 1 * l.val = l.val; omega)

theorem cast_hi (v : FVec Ideal S1x128x32 .f32) (b : Fin 128) (l : Fin 32) :
    truncf (F := Ideal) .bf16 (shapeCast S128x32 v shapeCasts_S1x128x32_S128x32) bitsLt_bf16_f32 (ix2 b l) = v (ix3 (0 : Fin 1) b l) := by
  pointwise []

/-- A load of 32 lanes of the accumulator's second plane. -/
theorem load_hi (arg18 : Memref sig .tc .vmem S2x2176x128 .f32) (SQ : BufTy.Contents (Elt Ideal) arg18.view.ty) (o : Nat)
    (ho : o + 128 ≤ 2176) (hi : ∀ a : Fin 3, ![1, o, 0] a + S1x128x32.size a ≤ S2x2176x128.size a) (b : Fin 128) (l : Fin 32) :
    truncf (F := Ideal) .bf16 (shapeCast S128x32 (arg18.view.readAt (Elt Ideal)
        (Rect.unit (s := S2x2176x128) ![1, o, 0] S1x128x32.size hi).toLoadRect SQ) shapeCasts_S1x128x32_S128x32) bitsLt_bf16_f32 (ix2 b l)
      = arg18.view.read (Elt Ideal) SQ (ix3 (1 : Fin 2) (⟨o + b.val, by omega⟩ : Fin 2176) (l.castLE (by norm_num) : Fin 128)) := by
  refine (cast_hi _ b l).trans ((View.readAt_apply _ _ _).trans (congrArg _ ?_))
  funext a
  fin_cases a
  · rfl
  · exact Fin.ext (by show o + 1 * b.val = o + b.val; omega)
  · exact Fin.ext (by show 0 + 1 * l.val = l.val; omega)

/-- A row of the output block, off the accumulator. -/
theorem rows_lo (arg18 : Memref sig .tc .vmem S2x2176x128 .f32) (SQ : BufTy.Contents (Elt Ideal) arg18.view.ty) (b : Fin 128) (g : Fin 12) (l : Fin 128) :
    outRows (F := Ideal) arg18 SQ (ix2 b (⟨160 * g.val + l.val, by omega⟩ : Fin 1920)) = arg18.view.read (Elt Ideal) SQ (ix3 (0 : Fin 2) (⟨136 * g.val + b.val, by omega⟩ : Fin 2176) l) := by
  unfold outRows k0_pay1
  refine (cat_lo _ rfl _ g (fun j => truncf (F := Ideal) .bf16 (shapeCast S128x128 (arg18.view.readAt (Elt Ideal)
        (Rect.unit (s := S2x2176x128) ![0, 136 * g.val, 0] S1x128x128.size ?_).toLoadRect SQ) shapeCasts_S1x128x128_S128x128) bitsLt_bf16_f32 j)
    ?_ b l).trans (load_lo arg18 SQ (136 * g.val) (by omega) _ b l)
  · intro a
    fin_cases a
    · exact Nat.le_add_left 1 1
    · show 136 * g.val + 128 ≤ 2176
      omega
    · exact Nat.le_refl 128
  · fin_cases g <;> rfl

/-- A row of the output block, off the accumulator. -/
theorem rows_hi (arg18 : Memref sig .tc .vmem S2x2176x128 .f32) (SQ : BufTy.Contents (Elt Ideal) arg18.view.ty) (b : Fin 128) (g : Fin 12) (l : Fin 32) :
    outRows (F := Ideal) arg18 SQ (ix2 b (⟨160 * g.val + (128 + l.val), by omega⟩ : Fin 1920)) = arg18.view.read (Elt Ideal) SQ (ix3 (1 : Fin 2) (⟨136 * g.val + b.val, by omega⟩ : Fin 2176) (l.castLE (by norm_num) : Fin 128)) := by
  unfold outRows k0_pay1
  refine (cat_hi _ rfl _ g (fun j => truncf (F := Ideal) .bf16 (shapeCast S128x32 (arg18.view.readAt (Elt Ideal)
        (Rect.unit (s := S2x2176x128) ![1, 136 * g.val, 0] S1x128x32.size ?_).toLoadRect SQ) shapeCasts_S1x128x32_S128x32) bitsLt_bf16_f32 j)
    ?_ b l).trans (load_hi arg18 SQ (136 * g.val) (by omega) _ b l)
  · intro a
    fin_cases a
    · exact Nat.le_refl 2
    · show 136 * g.val + 128 ≤ 2176
      omega
    · show 0 + 32 ≤ 128
      omega
  · fin_cases g <;> rfl

theorem pref_list (ax : Memref sig .tc .vmem S4x160x1280 .fp8e4m3) (hax : ax.IsWhole) (ac : Memref sig .tc .vmem S5x4x1280 .i8) (hac : ac.IsWhole)
    (a : Memref sig .tc .vmem S4x160x1280 .bf16) (x : Vec Ideal S4x160x1280 .fp8e4m3) (xs : Vec Ideal S5x4x1280 .i8) (kv : Fin 4) (r : Fin 160) (p : Fin 1280)
    (L : List (Fin 20)) (h : (⟨5 * kv.val + r.val / 32, by omega⟩ : Fin 20) ∈ L) :
    a.view.read (Elt Ideal) (a.view.writes (Elt Ideal) a.view.junk (L.map (pc (F := Ideal) ax hax ac hac x xs))) (ix3 kv r p)
      = x (ix3 kv r p) * sc8 (xs (ix3 (⟨r.val / 32, by omega⟩ : Fin 5) kv p)) := by
  induction L with
  | nil => exact absurd h List.not_mem_nil
  | cons n L ih =>
    by_cases hn : (⟨5 * kv.val + r.val / 32, by omega⟩ : Fin 20) = n
    · subst hn
      rw [List.map_cons, pc]
      refine (hit3 a.view _ _ _ _ (0 : Fin 1) (⟨r.val % 32, by omega⟩ : Fin 32) p kv r p rfl ?_ ?_ ?_).trans ?_
      · show kv.val = (5 * kv.val + r.val / 32) / 5 + 0
        omega
      · show r.val = 32 * ((5 * kv.val + r.val / 32) % 5) + r.val % 32
        omega
      · show p.val = 0 + p.val
        omega
      · refine (pay2_apply _ _ _ _).trans (congrArg₂ (fun u v : EReal => u * v) ?_ ?_)
        · refine (View.readAt_apply _ _ _).trans ((congrFun (hax.read_unread _) _).trans (congrArg x ?_))
          funext k
          fin_cases k
          · exact Fin.ext (by show (5 * kv.val + r.val / 32) / 5 + 1 * 0 = kv.val; omega)
          · exact Fin.ext (by show 32 * ((5 * kv.val + r.val / 32) % 5) + 1 * (r.val % 32) = r.val; omega)
          · exact Fin.ext (by show 0 + 1 * p.val = p.val; omega)
        · refine congrArg sc8 ((View.readAt_apply _ _ _).trans ((congrFun (hac.read_unread _) _).trans (congrArg xs ?_)))
          funext k
          fin_cases k
          · exact Fin.ext (by show (5 * kv.val + r.val / 32) % 5 + 1 * 0 = r.val / 32; omega)
          · exact Fin.ext (by show (5 * kv.val + r.val / 32) / 5 + 1 * 0 = kv.val; omega)
          · exact Fin.ext (by show 0 + 1 * p.val = p.val; omega)
    · have hL : (⟨5 * kv.val + r.val / 32, by omega⟩ : Fin 20) ∈ L := (List.mem_cons.mp h).resolve_left hn
      rw [List.map_cons]
      refine (View.read_writes_cons_miss a.view _ _ _ _ fun hm => hn ?_).trans (ih hL)
      have h0 := (pc (F := Ideal) ax hax ac hac x xs n).1.mem_set.mp hm (0 : Fin 3)
      have h1 := (pc (F := Ideal) ax hax ac hac x xs n).1.mem_set.mp hm (1 : Fin 3)
      obtain ⟨j0, hj0, e0⟩ := h0
      obtain ⟨j1, hj1, e1⟩ := h1
      have hj0' : j0 < 1 := hj0
      have hj1' : j1 < 32 := hj1
      have e0' : kv.val = n.val / 5 + 1 * j0 := e0
      have e1' : r.val = 32 * (n.val % 5) + 1 * j1 := e1
      exact Fin.ext (by show 5 * kv.val + r.val / 32 = n.val; omega)

/-- A place of the prepared prefix: the quantized number at its scale. -/
theorem pref_read (ax : Memref sig .tc .vmem S4x160x1280 .fp8e4m3) (hax : ax.IsWhole) (ac : Memref sig .tc .vmem S5x4x1280 .i8) (hac : ac.IsWhole)
    (a : Memref sig .tc .vmem S4x160x1280 .bf16) (x : Vec Ideal S4x160x1280 .fp8e4m3) (xs : Vec Ideal S5x4x1280 .i8) (kv : Fin 4) (r : Fin 160) (p : Fin 1280) :
    a.view.read (Elt Ideal) (pref (F := Ideal) ax hax ac hac a x xs) (ix3 kv r p)
      = x (ix3 kv r p) * sc8 (xs (ix3 (⟨r.val / 32, by omega⟩ : Fin 5) kv p)) := by
  rw [pref.eq_1]
  refine pref_list ax hax ac hac a x xs kv r p _ ?_
  have := kv.isLt
  have := r.isLt
  generalize (⟨5 * kv.val + r.val / 32, _⟩ : Fin 20) = n
  revert n
  decide

end Cert.KernelIdeal.Gen

end
-- ==== Proof.Value.Buf.lean ====
/- What the scratch buffers hold after the loops that fill them, place by place. -/
module

public import proofs.«01_k».proof.Proof.Value.BufTr

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

section Out

variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole)
  (x0 : Vec F S12x160x128 .bf16) (x1 : Vec F S1x160x128 .bf16) (x2 : Vec F S1x160x128 .bf16) (x3 : Vec F S4x160x1280 .fp8e4m3) (x4 : Vec F S4x160x1280 .fp8e4m3) (x5 : Vec F S5x4x1280 .i8) (x6 : Vec F S5x4x1280 .i8) (x7 : Vec F S224x1x160x128 .fp8e4m3) (x8 : Vec F S224x1x160x128 .fp8e4m3) (x9 : Vec F S224x4x128 .f32) (x10 : Vec F S224x4x128 .f32) (xt0 : TbBuf0 (F := F) c tbM0_0)
  (X15 : BufTy.Contents (Elt F) arg15.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty)

/-- The query rows, the first 128 columns. -/
theorem bufQ_read0 (g : Fin 12) (b l : Fin 128) :
    arg17.view.read (Elt F) (bufQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G17) (ix3 (0 : Fin 2) (⟨136 * g.val + b.val, by have := g.isLt; have := b.isLt; omega⟩ : Fin 2176) l)
      = k0_pay61 (arg3.view.readAt (Elt F) (Rect.unit (s := S12x160x128) (k0_off1 (Fin.cast (by rfl) g)) S1x160x128.size (k0_off1_inb _)).toLoadRect (harg3.unread x0)) (ix3 (0 : Fin 1) b l) := by
  unfold bufQ
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).1) (bufQTr arg3 harg3 x0) rfl (fun k => bufQ_succ (k := k) ..) _ (Fin.cast (by rfl) g : Fin k0_t1_loop.trips) _ (fun f => ?_) (fun k hk f => ?_)
  · unfold bufQTr
    rw [View.read_writes_cons_unit_of_not_mem _ _ _ _ _ _ (k0_off3_eq _) 0 (by show 0 < 1 ∨ _; omega)]
    exact hit3 (m0 := 1) (m1 := 128) (m2 := 128) _ _ _ _ _ 0 b l _ _ _ (k0_off2_eq _) rfl rfl (Nat.zero_add _).symm
  · have hne : k.val ≠ g.val := fun h => hk (Fin.ext h)
    unfold bufQTr
    rw [View.read_writes_cons_unit_of_not_mem _ _ _ _ _ _ (k0_off3_eq k) 1 (by show 136 * g.val + b.val < 136 * k.val ∨ 136 * k.val + 128 ≤ 136 * g.val + b.val; omega)]
    rw [View.read_writes_cons_unit_of_not_mem _ _ _ _ _ _ (k0_off2_eq k) 1 (by show 136 * g.val + b.val < 136 * k.val ∨ 136 * k.val + 128 ≤ 136 * g.val + b.val; omega)]
    rfl

/-- The query rows, the last 32 columns. -/
theorem bufQ_read1 (g : Fin 12) (b : Fin 128) (l : Fin 32) :
    arg17.view.read (Elt F) (bufQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G17) (ix3 (1 : Fin 2) (⟨136 * g.val + b.val, by have := g.isLt; have := b.isLt; omega⟩ : Fin 2176) (l.castLE (by norm_num) : Fin 128))
      = k0_pay62 (arg3.view.readAt (Elt F) (Rect.unit (s := S12x160x128) (k0_off1 (Fin.cast (by rfl) g)) S1x160x128.size (k0_off1_inb _)).toLoadRect (harg3.unread x0)) (ix3 (0 : Fin 1) b l) := by
  unfold bufQ
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).1) (bufQTr arg3 harg3 x0) rfl (fun k => bufQ_succ (k := k) ..) _ (Fin.cast (by rfl) g : Fin k0_t1_loop.trips) _ (fun f => ?_) (fun k hk f => ?_)
  · unfold bufQTr
    exact hit3 (m0 := 1) (m1 := 128) (m2 := 32) _ _ _ _ _ 0 b l _ _ _ (k0_off3_eq _) rfl rfl (Nat.zero_add _).symm
  · have hne : k.val ≠ g.val := fun h => hk (Fin.ext h)
    unfold bufQTr
    rw [View.read_writes_cons_unit_of_not_mem _ _ _ _ _ _ (k0_off3_eq k) 1 (by show 136 * g.val + b.val < 136 * k.val ∨ 136 * k.val + 128 ≤ 136 * g.val + b.val; omega)]
    rw [View.read_writes_cons_unit_of_not_mem _ _ _ _ _ _ (k0_off2_eq k) 1 (by show 136 * g.val + b.val < 136 * k.val ∨ 136 * k.val + 128 ≤ 136 * g.val + b.val; omega)]
    rfl

/-- The accumulator rows, the first 128 columns. -/
theorem bufO_read0 (g : Fin 12) (b l : Fin 128) :
    arg18.view.read (Elt F) (bufO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G18) (ix3 (0 : Fin 2) (⟨136 * g.val + b.val, by have := g.isLt; have := b.isLt; omega⟩ : Fin 2176) l)
      = k0_pay72 (k0_pay64 k0_pay87 (arg3.view.readAt (Elt F) (Rect.unit (s := S12x160x128) (k0_off1 (Fin.cast (by rfl) g)) S1x160x128.size (k0_off1_inb _)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (arg16.view.readAt (Elt F) (Rect.unit (s := S4x160x1280) (k0_off4 i) S1x160x1280.size (k0_off4_inb i)).toLoadRect X16) (arg5.view.readAt (Elt F) (Rect.unit (s := S1x160x128) (![0, 0, 0]) S1x160x128.size (inb_S1x160x128_S1x160x128_0_0_0)).toLoadRect (harg5.unread x2)) (ix3 (0 : Fin 1) b l) := by
  unfold bufO
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).2.1) (bufOTr i arg3 harg3 arg4 harg4 arg5 harg5 arg15 arg16 x0 x1 x2 X15 X16) rfl (fun k => bufO_succ (k := k) ..) _ (Fin.cast (by rfl) g : Fin k0_t1_loop.trips) _ (fun f => ?_) (fun k hk f => ?_)
  · unfold bufOTr
    rw [View.read_writes_cons_unit_of_not_mem _ _ _ _ _ _ (k0_off3_eq _) 0 (by show 0 < 1 ∨ _; omega)]
    exact hit3 (m0 := 1) (m1 := 128) (m2 := 128) _ _ _ _ _ 0 b l _ _ _ (k0_off2_eq _) rfl rfl (Nat.zero_add _).symm
  · have hne : k.val ≠ g.val := fun h => hk (Fin.ext h)
    unfold bufOTr
    rw [View.read_writes_cons_unit_of_not_mem _ _ _ _ _ _ (k0_off3_eq k) 1 (by show 136 * g.val + b.val < 136 * k.val ∨ 136 * k.val + 128 ≤ 136 * g.val + b.val; omega)]
    rw [View.read_writes_cons_unit_of_not_mem _ _ _ _ _ _ (k0_off2_eq k) 1 (by show 136 * g.val + b.val < 136 * k.val ∨ 136 * k.val + 128 ≤ 136 * g.val + b.val; omega)]
    rfl

/-- The accumulator rows, the last 32 columns. -/
theorem bufO_read1 (g : Fin 12) (b : Fin 128) (l : Fin 32) :
    arg18.view.read (Elt F) (bufO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G18) (ix3 (1 : Fin 2) (⟨136 * g.val + b.val, by have := g.isLt; have := b.isLt; omega⟩ : Fin 2176) (l.castLE (by norm_num) : Fin 128))
      = k0_pay73 (k0_pay64 k0_pay87 (arg3.view.readAt (Elt F) (Rect.unit (s := S12x160x128) (k0_off1 (Fin.cast (by rfl) g)) S1x160x128.size (k0_off1_inb _)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (arg16.view.readAt (Elt F) (Rect.unit (s := S4x160x1280) (k0_off4 i) S1x160x1280.size (k0_off4_inb i)).toLoadRect X16) (arg5.view.readAt (Elt F) (Rect.unit (s := S1x160x128) (![0, 0, 0]) S1x160x128.size (inb_S1x160x128_S1x160x128_0_0_0)).toLoadRect (harg5.unread x2)) (ix3 (0 : Fin 1) b l) := by
  unfold bufO
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).2.1) (bufOTr i arg3 harg3 arg4 harg4 arg5 harg5 arg15 arg16 x0 x1 x2 X15 X16) rfl (fun k => bufO_succ (k := k) ..) _ (Fin.cast (by rfl) g : Fin k0_t1_loop.trips) _ (fun f => ?_) (fun k hk f => ?_)
  · unfold bufOTr
    exact hit3 (m0 := 1) (m1 := 128) (m2 := 32) _ _ _ _ _ 0 b l _ _ _ (k0_off3_eq _) rfl rfl (Nat.zero_add _).symm
  · have hne : k.val ≠ g.val := fun h => hk (Fin.ext h)
    unfold bufOTr
    rw [View.read_writes_cons_unit_of_not_mem _ _ _ _ _ _ (k0_off3_eq k) 1 (by show 136 * g.val + b.val < 136 * k.val ∨ 136 * k.val + 128 ≤ 136 * g.val + b.val; omega)]
    rw [View.read_writes_cons_unit_of_not_mem _ _ _ _ _ _ (k0_off2_eq k) 1 (by show 136 * g.val + b.val < 136 * k.val ∨ 136 * k.val + 128 ≤ 136 * g.val + b.val; omega)]
    rfl

/-- The maxima. -/
theorem bufM_read (g : Fin 12) (b l : Fin 128) :
    arg19.view.read (Elt F) (bufM c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G19) (ix2 (⟨136 * g.val + b.val, by have := g.isLt; have := b.isLt; omega⟩ : Fin 2176) l)
      = k0_pay70 (k0_pay65 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (ix2 b l) := by
  unfold bufM
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).2.2.1) (bufMTr i arg3 harg3 arg4 harg4 arg15 x0 x1 X15) rfl (fun k => bufM_succ (k := k) ..) _ (Fin.cast (by rfl) g : Fin k0_t1_loop.trips) _ (fun f => ?_) (fun k hk f => ?_)
  · unfold bufMTr
    exact hit2 (m0 := 128) (m1 := 128) _ _ _ _ _ b l _ _ (k0_off5_eq _) rfl (Nat.zero_add _).symm
  · have hne : k.val ≠ g.val := fun h => hk (Fin.ext h)
    unfold bufMTr
    rw [View.read_writes_cons_unit_of_not_mem _ _ _ _ _ _ (k0_off5_eq k) 0 (by show 136 * g.val + b.val < 136 * k.val ∨ 136 * k.val + 128 ≤ 136 * g.val + b.val; omega)]
    rfl

/-- The sums. -/
theorem bufL_read (g : Fin 12) (b l : Fin 128) :
    arg20.view.read (Elt F) (bufL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G20) (ix2 (⟨136 * g.val + b.val, by have := g.isLt; have := b.isLt; omega⟩ : Fin 2176) l)
      = k0_pay71 (k0_pay64 k0_pay87 (arg3.view.readAt (Elt F) (Rect.unit (s := S12x160x128) (k0_off1 (Fin.cast (by rfl) g)) S1x160x128.size (k0_off1_inb _)).toLoadRect (harg3.unread x0)) (arg4.view.readAt (Elt F) (Rect.unit (s := S1x160x128) (![0, 0, 0]) S1x160x128.size (inb_S1x160x128_S1x160x128_0_0_0)).toLoadRect (harg4.unread x1))) (k0_pay65 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (k0_pay66 k0_pay87 (arg3.view.readAt (Elt F) (Rect.unit (s := S12x160x128) (k0_off1 (Fin.cast (by rfl) g)) S1x160x128.size (k0_off1_inb _)).toLoadRect (harg3.unread x0)) (arg15.view.readAt (Elt F) (Rect.unit (s := S4x160x1280) (k0_off4 i) S1x160x1280.size (k0_off4_inb i)).toLoadRect X15) (arg4.view.readAt (Elt F) (Rect.unit (s := S1x160x128) (![0, 0, 0]) S1x160x128.size (inb_S1x160x128_S1x160x128_0_0_0)).toLoadRect (harg4.unread x1))) (ix2 b l) := by
  unfold bufL
  refine loop_read _ _ (T := k0_t1_loop.trips) (fun n => (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (BitVec.ofNat 32 (i 1).val) (harg3.unread x0) (harg4.unread x1) (harg5.unread x2) X15 X16 n).2.2.2) (bufLTr i arg3 harg3 arg4 harg4 arg15 x0 x1 X15) rfl (fun k => bufL_succ (k := k) ..) _ (Fin.cast (by rfl) g : Fin k0_t1_loop.trips) _ (fun f => ?_) (fun k hk f => ?_)
  · unfold bufLTr
    exact hit2 (m0 := 128) (m1 := 128) _ _ _ _ _ b l _ _ (k0_off5_eq _) rfl (Nat.zero_add _).symm
  · have hne : k.val ≠ g.val := fun h => hk (Fin.ext h)
    unfold bufLTr
    rw [View.read_writes_cons_unit_of_not_mem _ _ _ _ _ _ (k0_off5_eq k) 0 (by show 136 * g.val + b.val < 136 * k.val ∨ 136 * k.val + 128 ≤ 136 * g.val + b.val; omega)]
    rfl

/-- The transposed codes, positions 0 to 127. -/
theorem bufKt_read0 (g : Fin 5) (b : Fin 128) (d : Fin 32) (t : Fin 128) :
    arg21.view.read (Elt F) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (0 : Fin 2) b (⟨32 * g.val + d.val, by have := g.isLt; have := d.isLt; omega⟩ : Fin 160) t)
      = k0_pay88 (arg10.view.readAt (Elt F) (Rect.unit (s := S224x1x160x128) (k0_off6 (Fin.cast (by rfl) g)) S128x1x32x128.size (k0_off6_inb _)).toLoadRect (harg10.unread x7)) (ix4 (0 : Fin 1) b d t) := by
  unfold bufKt
  refine loop_read _ _ (T := k0_t2_loop.trips) (fun n => (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg10.unread x7) n)) (bufKtTr arg10 harg10 x7) rfl (fun k => bufKt_succ (k := k) ..) _ (Fin.cast (by rfl) g : Fin k0_t2_loop.trips) _ (fun f => ?_) (fun k hk f => ?_)
  · unfold bufKtTr
    rw [View.read_writes_cons_unit_of_not_mem _ _ _ _ _ _ (k0_off9_eq _) 0 (by show 0 < 1 ∨ _; omega)]
    exact hit4 (m0 := 1) (m1 := 128) (m2 := 32) (m3 := 128) _ _ _ _ _ 0 b d t _ _ _ _ (k0_off8_eq _) rfl (Nat.zero_add _).symm rfl (Nat.zero_add _).symm
  · have hne : k.val ≠ g.val := fun h => hk (Fin.ext h)
    unfold bufKtTr
    rw [View.read_writes_cons_unit_of_not_mem _ _ _ _ _ _ (k0_off9_eq k) 2 (by show 32 * g.val + d.val < 32 * k.val ∨ 32 * k.val + 32 ≤ 32 * g.val + d.val; omega)]
    rw [View.read_writes_cons_unit_of_not_mem _ _ _ _ _ _ (k0_off8_eq k) 2 (by show 32 * g.val + d.val < 32 * k.val ∨ 32 * k.val + 32 ≤ 32 * g.val + d.val; omega)]
    rfl

/-- The transposed codes, positions 128 to 255. -/
theorem bufKt_read1 (g : Fin 5) (b : Fin 128) (d : Fin 32) (t : Fin 128) :
    arg21.view.read (Elt F) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (1 : Fin 2) b (⟨32 * g.val + d.val, by have := g.isLt; have := d.isLt; omega⟩ : Fin 160) t)
      = k0_pay89 (arg10.view.readAt (Elt F) (Rect.unit (s := S224x1x160x128) (k0_off7 (Fin.cast (by rfl) g)) S96x1x32x128.size (k0_off7_inb _)).toLoadRect (harg10.unread x7)) (ix4 (0 : Fin 1) b d t) := by
  unfold bufKt
  refine loop_read _ _ (T := k0_t2_loop.trips) (fun n => (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg10.unread x7) n)) (bufKtTr arg10 harg10 x7) rfl (fun k => bufKt_succ (k := k) ..) _ (Fin.cast (by rfl) g : Fin k0_t2_loop.trips) _ (fun f => ?_) (fun k hk f => ?_)
  · unfold bufKtTr
    exact hit4 (m0 := 1) (m1 := 128) (m2 := 32) (m3 := 128) _ _ _ _ _ 0 b d t _ _ _ _ (k0_off9_eq _) rfl (Nat.zero_add _).symm rfl (Nat.zero_add _).symm
  · have hne : k.val ≠ g.val := fun h => hk (Fin.ext h)
    unfold bufKtTr
    rw [View.read_writes_cons_unit_of_not_mem _ _ _ _ _ _ (k0_off9_eq k) 2 (by show 32 * g.val + d.val < 32 * k.val ∨ 32 * k.val + 32 ≤ 32 * g.val + d.val; omega)]
    rw [View.read_writes_cons_unit_of_not_mem _ _ _ _ _ _ (k0_off8_eq k) 2 (by show 32 * g.val + d.val < 32 * k.val ∨ 32 * k.val + 32 ≤ 32 * g.val + d.val; omega)]
    rfl

/-- The transposed codes, positions 0 to 127. -/
theorem bufVt_read0 (g : Fin 5) (b : Fin 128) (d : Fin 32) (t : Fin 128) :
    arg22.view.read (Elt F) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (0 : Fin 2) b (⟨32 * g.val + d.val, by have := g.isLt; have := d.isLt; omega⟩ : Fin 160) t)
      = k0_pay90 (arg11.view.readAt (Elt F) (Rect.unit (s := S224x1x160x128) (k0_off10 (Fin.cast (by rfl) g)) S128x1x32x128.size (k0_off10_inb _)).toLoadRect (harg11.unread x8)) (ix4 (0 : Fin 1) b d t) := by
  unfold bufVt
  refine loop_read _ _ (T := k0_t3_loop.trips) (fun n => (pb_k0_t3 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg11.unread x8) n)) (bufVtTr arg11 harg11 x8) rfl (fun k => bufVt_succ (k := k) ..) _ (Fin.cast (by rfl) g : Fin k0_t3_loop.trips) _ (fun f => ?_) (fun k hk f => ?_)
  · unfold bufVtTr
    rw [View.read_writes_cons_unit_of_not_mem _ _ _ _ _ _ (k0_off13_eq _) 0 (by show 0 < 1 ∨ _; omega)]
    exact hit4 (m0 := 1) (m1 := 128) (m2 := 32) (m3 := 128) _ _ _ _ _ 0 b d t _ _ _ _ (k0_off12_eq _) rfl (Nat.zero_add _).symm rfl (Nat.zero_add _).symm
  · have hne : k.val ≠ g.val := fun h => hk (Fin.ext h)
    unfold bufVtTr
    rw [View.read_writes_cons_unit_of_not_mem _ _ _ _ _ _ (k0_off13_eq k) 2 (by show 32 * g.val + d.val < 32 * k.val ∨ 32 * k.val + 32 ≤ 32 * g.val + d.val; omega)]
    rw [View.read_writes_cons_unit_of_not_mem _ _ _ _ _ _ (k0_off12_eq k) 2 (by show 32 * g.val + d.val < 32 * k.val ∨ 32 * k.val + 32 ≤ 32 * g.val + d.val; omega)]
    rfl

/-- The transposed codes, positions 128 to 255. -/
theorem bufVt_read1 (g : Fin 5) (b : Fin 128) (d : Fin 32) (t : Fin 128) :
    arg22.view.read (Elt F) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (1 : Fin 2) b (⟨32 * g.val + d.val, by have := g.isLt; have := d.isLt; omega⟩ : Fin 160) t)
      = k0_pay91 (arg11.view.readAt (Elt F) (Rect.unit (s := S224x1x160x128) (k0_off11 (Fin.cast (by rfl) g)) S96x1x32x128.size (k0_off11_inb _)).toLoadRect (harg11.unread x8)) (ix4 (0 : Fin 1) b d t) := by
  unfold bufVt
  refine loop_read _ _ (T := k0_t3_loop.trips) (fun n => (pb_k0_t3 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg11.unread x8) n)) (bufVtTr arg11 harg11 x8) rfl (fun k => bufVt_succ (k := k) ..) _ (Fin.cast (by rfl) g : Fin k0_t3_loop.trips) _ (fun f => ?_) (fun k hk f => ?_)
  · unfold bufVtTr
    exact hit4 (m0 := 1) (m1 := 128) (m2 := 32) (m3 := 128) _ _ _ _ _ 0 b d t _ _ _ _ (k0_off13_eq _) rfl (Nat.zero_add _).symm rfl (Nat.zero_add _).symm
  · have hne : k.val ≠ g.val := fun h => hk (Fin.ext h)
    unfold bufVtTr
    rw [View.read_writes_cons_unit_of_not_mem _ _ _ _ _ _ (k0_off13_eq k) 2 (by show 32 * g.val + d.val < 32 * k.val ∨ 32 * k.val + 32 ≤ 32 * g.val + d.val; omega)]
    rw [View.read_writes_cons_unit_of_not_mem _ _ _ _ _ _ (k0_off12_eq k) 2 (by show 32 * g.val + d.val < 32 * k.val ∨ 32 * k.val + 32 ≤ 32 * g.val + d.val; omega)]
    rfl

/-- The transposed scales. -/
theorem bufKs_read (b : Fin 128) (t : Fin 224) :
    arg23.view.read (Elt F) (bufKs i arg12 harg12 arg23 x9 G23) (ix2 b (t.castLE (by norm_num) : Fin 256))
      = k0_pay92 (arg12.view.readAt (Elt F) (Rect.unit (s := S224x4x128) (k0_off14 i) S224x1x128.size (k0_off14_inb i)).toLoadRect (harg12.unread x9)) (ix2 b t) := by
  unfold bufKs
  exact hit2 (m0 := 128) (m1 := 224) _ _ _ _ _ b t _ _ rfl (Nat.zero_add _).symm (Nat.zero_add _).symm

/-- The transposed scales. -/
theorem bufVs_read (b : Fin 128) (t : Fin 224) :
    arg24.view.read (Elt F) (bufVs i arg13 harg13 arg24 x10 G24) (ix2 b (t.castLE (by norm_num) : Fin 256))
      = k0_pay93 (arg13.view.readAt (Elt F) (Rect.unit (s := S224x4x128) (k0_off14 i) S224x1x128.size (k0_off14_inb i)).toLoadRect (harg13.unread x10)) (ix2 b t) := by
  unfold bufVs
  exact hit2 (m0 := 128) (m1 := 224) _ _ _ _ _ b t _ _ rfl (Nat.zero_add _).symm (Nat.zero_add _).symm

end Out

end Cert.KernelIdeal.Gen

end
-- ==== Proof.Value.Block.lean ====
/- The output block of the body, a row at a time, from what its windows hold and what the prepared prefix holds. -/
module

public import proofs.«01_k».proof.Proof.Value.Row
public import proofs.«01_k».proof.Proof.Value.Rows
public import proofs.«01_k».proof.Proof.Value.Buf

@[expose] public section

set_option maxRecDepth 8192
set_option maxHeartbeats 400000

noncomputable section

namespace Cert.KernelIdeal.Gen

open Idealize.ShloMosaic Idealize.ShloMosaic.TcCoe Cert.Softmax

/-- A tail code, on 256 lanes. -/
def tail4 (x : Vec Ideal S224x1x160x128 .fp8e4m3) (b : Fin 128) (d : Fin 160) (t : Fin 256) : EReal :=
  if h : t.val < 224 then x (ix4 (⟨t.val, h⟩ : Fin 224) (0 : Fin 1) d b) else 0

/-- A tail scale, on 256 lanes. -/
def tail3 (x : Vec Ideal S224x4x128 .f32) (kv : Fin 4) (b : Fin 128) (t : Fin 256) : EReal :=
  if h : t.val < 224 then x (ix3 (⟨t.val, h⟩ : Fin 224) kv b) else 0

/-- One place of the output block. -/
def blkRow (x0 : Vec Ideal S12x160x128 .bf16) (x1 x2 : Vec Ideal S1x160x128 .bf16) (KP VP : Vec Ideal S4x160x1280 .bf16)
    (x7 x8 : Vec Ideal S224x1x160x128 .fp8e4m3) (x9 x10 : Vec Ideal S224x4x128 .f32) (n : BitVec 32) (kv : Fin 4) (b : Fin 128) (g : Fin 12) (d : Fin 160) : EReal :=
  kRow (fun p => (∑ d' : Fin 160, x0 (ix3 g d' b) * KP (ix3 kv d' p)) * sl2) ((∑ d' : Fin 160, x0 (ix3 g d' b) * x1 (ix3 (0 : Fin 1) d' b)) * sl2)
    (stOf n (fun d' => x0 (ix3 g d' b)) (tail4 x7 b) (fun t => tail3 x9 kv b t * sl2)) (fun p => VP (ix3 kv d p)) (x2 (ix3 (0 : Fin 1) d b))
    (tail3 x10 kv b) (tail4 x8 b d) (fun t => (t.val : ℤ) < n.toInt)

theorem blkRow_eq (x0 : Vec Ideal S12x160x128 .bf16) (x1 x2 : Vec Ideal S1x160x128 .bf16) (KP VP : Vec Ideal S4x160x1280 .bf16)
    (x7 x8 : Vec Ideal S224x1x160x128 .fp8e4m3) (x9 x10 : Vec Ideal S224x4x128 .f32) (n : BitVec 32) (hn : n.toInt ≤ 224) (kv : Fin 4) (b : Fin 128) (g : Fin 12) (d : Fin 160)
    (m0 l0 o : EReal) (sk sv : Fin 256 → EReal)
    (hm : m0 = max (top fun p => (∑ d' : Fin 160, x0 (ix3 g d' b) * KP (ix3 kv d' p)) * sl2) ((∑ d' : Fin 160, x0 (ix3 g d' b) * x1 (ix3 (0 : Fin 1) d' b)) * sl2))
    (hl : l0 = ∑ p, Ideal.exp2 ((∑ d' : Fin 160, x0 (ix3 g d' b) * KP (ix3 kv d' p)) * sl2 - m0) + Ideal.exp2 ((∑ d' : Fin 160, x0 (ix3 g d' b) * x1 (ix3 (0 : Fin 1) d' b)) * sl2 - m0))
    (ho : o = ∑ p, Ideal.exp2 ((∑ d' : Fin 160, x0 (ix3 g d' b) * KP (ix3 kv d' p)) * sl2 - m0) * VP (ix3 kv d p) + Ideal.exp2 ((∑ d' : Fin 160, x0 (ix3 g d' b) * x1 (ix3 (0 : Fin 1) d' b)) * sl2 - m0) * x2 (ix3 (0 : Fin 1) d b))
    (hk : ∀ t : Fin 256, t.val < 224 → sk t = tail3 x9 kv b t * sl2) (hv : ∀ t : Fin 256, t.val < 224 → sv t = tail3 x10 kv b t) :
    seqRow m0 l0 o (stOf n (fun d' => x0 (ix3 g d' b)) (tail4 x7 b) sk) sv (tail4 x8 b d) (fun t => (t.val : ℤ) < n.toInt)
      = blkRow x0 x1 x2 KP VP x7 x8 x9 x10 n kv b g d := by
  have e : stOf n (fun d' => x0 (ix3 g d' b)) (tail4 x7 b) sk = stOf n (fun d' => x0 (ix3 g d' b)) (tail4 x7 b) (fun t => tail3 x9 kv b t * sl2) := by
    funext t
    unfold stOf
    split
    · rename_i h
      rw [hk t (by omega)]
    · rfl
  rw [e, hl, ho, hm]
  unfold blkRow kRow seqRow
  refine congrArg₂ (fun u v : EReal => u * v) (congrArg₂ (fun u v : EReal => u + v) rfl (Finset.sum_congr rfl fun t _ => congrArg₂ (fun u v : EReal => u * v) ?_ rfl)) rfl
  split
  · rename_i h
    rw [hv t (by omega)]
  · rfl

/-- The output block, from the windows and the prepared prefix. -/
def blk (i : grid0.Coords) (x0 : Vec Ideal S12x160x128 .bf16) (x1 x2 : Vec Ideal S1x160x128 .bf16) (KP VP : Vec Ideal S4x160x1280 .bf16)
    (x7 x8 : Vec Ideal S224x1x160x128 .fp8e4m3) (x9 x10 : Vec Ideal S224x4x128 .f32) (n : Fin 128 → BitVec 32) : Vec Ideal S128x1920 .bf16 :=
  fun y => blkRow x0 x1 x2 KP VP x7 x8 x9 x10 (n (y (0 : Fin 2))) (⟨(i 1).val, (i 1).isLt⟩ : Fin 4) (y (0 : Fin 2))
    (⟨(y (1 : Fin 2)).val / 160, by have h : (y (1 : Fin 2)).val < 1920 := (y (1 : Fin 2)).isLt; omega⟩ : Fin 12) (⟨(y (1 : Fin 2)).val % 160, by omega⟩ : Fin 160)

section Block
variable (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole)
  (x0 : Vec Ideal S12x160x128 .bf16) (x1 : Vec Ideal S1x160x128 .bf16) (x2 : Vec Ideal S1x160x128 .bf16) (x3 : Vec Ideal S4x160x1280 .fp8e4m3) (x4 : Vec Ideal S4x160x1280 .fp8e4m3) (x5 : Vec Ideal S5x4x1280 .i8) (x6 : Vec Ideal S5x4x1280 .i8) (x7 : Vec Ideal S224x1x160x128 .fp8e4m3) (x8 : Vec Ideal S224x1x160x128 .fp8e4m3) (x9 : Vec Ideal S224x4x128 .f32) (x10 : Vec Ideal S224x4x128 .f32) (xt0 : TbBuf0 (F := Ideal) c tbM0_0)
  (X15 : BufTy.Contents (Elt Ideal) arg15.view.ty) (X16 : BufTy.Contents (Elt Ideal) arg16.view.ty) (G17 : BufTy.Contents (Elt Ideal) arg17.view.ty) (G18 : BufTy.Contents (Elt Ideal) arg18.view.ty) (G19 : BufTy.Contents (Elt Ideal) arg19.view.ty) (G20 : BufTy.Contents (Elt Ideal) arg20.view.ty) (G21 : BufTy.Contents (Elt Ideal) arg21.view.ty) (G22 : BufTy.Contents (Elt Ideal) arg22.view.ty) (G23 : BufTy.Contents (Elt Ideal) arg23.view.ty) (G24 : BufTy.Contents (Elt Ideal) arg24.view.ty) (G14 : BufTy.Contents (Elt Ideal) arg14.view.ty)
  (KP VP : Vec Ideal S4x160x1280 .bf16) (hKP : ∀ (d : Fin 160) (p : Fin 1280), arg15.view.read (Elt Ideal) X15 (ix3 (⟨(i 1).val, (i 1).isLt⟩ : Fin 4) d p) = KP (ix3 (⟨(i 1).val, (i 1).isLt⟩ : Fin 4) d p))
  (hVP : ∀ (d : Fin 160) (p : Fin 1280), arg16.view.read (Elt Ideal) X16 (ix3 (⟨(i 1).val, (i 1).isLt⟩ : Fin 4) d p) = VP (ix3 (⟨(i 1).val, (i 1).isLt⟩ : Fin 4) d p))
  (b : Fin 128) (g : Fin 12)

/-- The query block of one head. -/
abbrev qLd : Vec Ideal S1x160x128 .bf16 := arg3.view.readAt (Elt Ideal) (Rect.unit (s := S12x160x128) (k0_off1 (Fin.cast (by rfl) g)) S1x160x128.size (k0_off1_inb _)).toLoadRect (harg3.unread x0)
/-- The prefix of this point's head. -/
abbrev pLd (a : Memref sig .tc .vmem S4x160x1280 .bf16) (X : BufTy.Contents (Elt Ideal) a.view.ty) : Vec Ideal S1x160x1280 .bf16 := a.view.readAt (Elt Ideal) (Rect.unit (s := S4x160x1280) (k0_off4 i) S1x160x1280.size (k0_off4_inb i)).toLoadRect X
/-- The new position's block. -/
abbrev nLd (a : Memref sig .tc .vmem S1x160x128 .bf16) (ha : a.IsWhole) (x : Vec Ideal S1x160x128 .bf16) : Vec Ideal S1x160x128 .bf16 := a.view.readAt (Elt Ideal) (Rect.unit (s := S1x160x128) (![0, 0, 0]) S1x160x128.size (inb_S1x160x128_S1x160x128_0_0_0)).toLoadRect (ha.unread x)

theorem qLd_read (d : Fin 160) : qLd arg3 harg3 x0 g (ix3 (0 : Fin 1) d b) = x0 (ix3 g d b) := by
  have e0 := congrFun (k0_off1_eq (Fin.cast (by rfl) g))
  refine (at3 arg3.view _ _ _ g d b ?_ ?_ ?_).trans (congrFun (harg3.read_unread x0) _)
  · show k0_off1 (Fin.cast (by rfl) g) 0 + 1 * 0 = g.val
    rw [e0]; rfl
  · show k0_off1 (Fin.cast (by rfl) g) 1 + 1 * d.val = d.val
    rw [e0]; show 0 + _ = _; omega
  · show k0_off1 (Fin.cast (by rfl) g) 2 + 1 * b.val = b.val
    rw [e0]; show 0 + _ = _; omega

theorem pLd_read (a : Memref sig .tc .vmem S4x160x1280 .bf16) (X : BufTy.Contents (Elt Ideal) a.view.ty) (d : Fin 160) (p : Fin 1280) :
    pLd i a X (ix3 (0 : Fin 1) d p) = a.view.read (Elt Ideal) X (ix3 (⟨(i 1).val, (i 1).isLt⟩ : Fin 4) d p) := by
  have e0 := congrFun (k0_off4_eq i)
  refine at3 a.view _ _ _ (⟨(i 1).val, (i 1).isLt⟩ : Fin 4) d p ?_ ?_ ?_
  · show k0_off4 i 0 + 1 * 0 = (i 1).val
    rw [e0]; rfl
  · show k0_off4 i 1 + 1 * d.val = d.val
    rw [e0]; show 0 + _ = _; omega
  · show k0_off4 i 2 + 1 * p.val = p.val
    rw [e0]; show 0 + _ = _; omega

theorem nLd_read (a : Memref sig .tc .vmem S1x160x128 .bf16) (ha : a.IsWhole) (x : Vec Ideal S1x160x128 .bf16) (d : Fin 160) (b : Fin 128) :
    nLd a ha x (ix3 (0 : Fin 1) d b) = x (ix3 (0 : Fin 1) d b) := by
  refine (at3 a.view _ _ _ (0 : Fin 1) d b ?_ ?_ ?_).trans (congrFun (ha.read_unread x) _)
  · rfl
  · show 0 + 1 * d.val = d.val; omega
  · show 0 + 1 * b.val = b.val; omega

include hKP in
theorem sp_read : spOf (qLd arg3 harg3 x0 g) (pLd i arg15 X15) b = fun p => (∑ d' : Fin 160, x0 (ix3 g d' b) * KP (ix3 (⟨(i 1).val, (i 1).isLt⟩ : Fin 4) d' p)) * sl2 := by
  funext p
  unfold spOf
  refine congrArg₂ (fun u v : EReal => u * v) (Finset.sum_congr rfl fun d _ => congrArg₂ (fun u v : EReal => u * v) (qLd_read arg3 harg3 x0 b g d) ((pLd_read i arg15 X15 d p).trans (hKP d p))) rfl

theorem sn_read : snOf (qLd arg3 harg3 x0 g) (nLd arg4 harg4 x1) b = (∑ d' : Fin 160, x0 (ix3 g d' b) * x1 (ix3 (0 : Fin 1) d' b)) * sl2 := by
  unfold snOf
  refine congrArg₂ (fun u v : EReal => u * v) (Finset.sum_congr rfl fun d _ => congrArg₂ (fun u v : EReal => u * v) (qLd_read arg3 harg3 x0 b g d) (nLd_read arg4 harg4 x1 d b)) rfl

theorem kt_read0 (d : Fin 160) (t : Fin 128) : arg21.view.read (Elt Ideal) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (0 : Fin 2) b d t) = tail4 x7 b d (t.castLE (by norm_num)) := by
  have hd : d = (⟨32 * (⟨d.val / 32, by omega⟩ : Fin 5).val + (⟨d.val % 32, by omega⟩ : Fin 32).val, by show 32 * (d.val / 32) + d.val % 32 < 160; omega⟩ : Fin 160) := Fin.ext (by show d.val = 32 * (d.val / 32) + d.val % 32; omega)
  refine (congrArg (fun d' : Fin 160 => arg21.view.read (Elt Ideal) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (0 : Fin 2) b d' t)) hd).trans ((bufKt_read0 (g := (⟨d.val / 32, by omega⟩ : Fin 5)) (d := (⟨d.val % 32, by omega⟩ : Fin 32)) ..).trans ((pay88_apply _ _ _ _).trans ?_))
  have e0 := congrFun (k0_off6_eq (Fin.cast (by rfl) (⟨d.val / 32, by omega⟩ : Fin 5)))
  refine Eq.trans ?_ (dif_pos (show (t.castLE (by norm_num) : Fin 256).val < 224 from by show t.val < 224; omega)).symm
  refine (at4 arg10.view _ _ _ (⟨t.val, by omega⟩ : Fin 224) (0 : Fin 1) d b ?_ ?_ ?_ ?_).trans (congrFun (harg10.read_unread x7) _)
  · show k0_off6 (Fin.cast (by rfl) (⟨d.val / 32, by omega⟩ : Fin 5)) 0 + 1 * t.val = t.val
    rw [e0]; show 0 + _ = _; omega
  · show k0_off6 (Fin.cast (by rfl) (⟨d.val / 32, by omega⟩ : Fin 5)) 1 + 1 * 0 = 0
    rw [e0]; rfl
  · show k0_off6 (Fin.cast (by rfl) (⟨d.val / 32, by omega⟩ : Fin 5)) 2 + 1 * (d.val % 32) = d.val
    rw [e0]; show 32 * (d.val / 32) + _ = _; omega
  · show k0_off6 (Fin.cast (by rfl) (⟨d.val / 32, by omega⟩ : Fin 5)) 3 + 1 * b.val = b.val
    rw [e0]; show 0 + _ = _; omega

theorem kt_read1 (d : Fin 160) (t : Fin 128) : arg21.view.read (Elt Ideal) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (1 : Fin 2) b d t) = tail4 x7 b d ⟨128 + t.val, by omega⟩ := by
  have hd : d = (⟨32 * (⟨d.val / 32, by omega⟩ : Fin 5).val + (⟨d.val % 32, by omega⟩ : Fin 32).val, by show 32 * (d.val / 32) + d.val % 32 < 160; omega⟩ : Fin 160) := Fin.ext (by show d.val = 32 * (d.val / 32) + d.val % 32; omega)
  refine (congrArg (fun d' : Fin 160 => arg21.view.read (Elt Ideal) (bufKt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 G21) (ix4 (1 : Fin 2) b d' t)) hd).trans ((bufKt_read1 (g := (⟨d.val / 32, by omega⟩ : Fin 5)) (d := (⟨d.val % 32, by omega⟩ : Fin 32)) ..).trans ((pay89_apply _ _ _ _).trans ?_))
  have e0 := congrFun (k0_off7_eq (Fin.cast (by rfl) (⟨d.val / 32, by omega⟩ : Fin 5)))
  by_cases ht : t.val < 96
  · refine (dif_pos ht).trans (Eq.trans ?_ (dif_pos (show 128 + t.val < 224 from by omega)).symm)
    refine (at4 arg10.view _ _ _ (⟨128 + t.val, by omega⟩ : Fin 224) (0 : Fin 1) d b ?_ ?_ ?_ ?_).trans (congrFun (harg10.read_unread x7) _)
    · show k0_off7 (Fin.cast (by rfl) (⟨d.val / 32, by omega⟩ : Fin 5)) 0 + 1 * t.val = 128 + t.val
      rw [e0]; show 128 + _ = _; omega
    · show k0_off7 (Fin.cast (by rfl) (⟨d.val / 32, by omega⟩ : Fin 5)) 1 + 1 * 0 = 0
      rw [e0]; rfl
    · show k0_off7 (Fin.cast (by rfl) (⟨d.val / 32, by omega⟩ : Fin 5)) 2 + 1 * (d.val % 32) = d.val
      rw [e0]; show 32 * (d.val / 32) + _ = _; omega
    · show k0_off7 (Fin.cast (by rfl) (⟨d.val / 32, by omega⟩ : Fin 5)) 3 + 1 * b.val = b.val
      rw [e0]; show 0 + _ = _; omega
  · exact (dif_neg ht).trans (show tail4 x7 b d ⟨128 + t.val, by omega⟩ = 0 from dif_neg (show ¬128 + t.val < 224 from by omega)).symm

theorem vt_read0 (d : Fin 160) (t : Fin 128) : arg22.view.read (Elt Ideal) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (0 : Fin 2) b d t) = tail4 x8 b d (t.castLE (by norm_num)) := by
  have hd : d = (⟨32 * (⟨d.val / 32, by omega⟩ : Fin 5).val + (⟨d.val % 32, by omega⟩ : Fin 32).val, by show 32 * (d.val / 32) + d.val % 32 < 160; omega⟩ : Fin 160) := Fin.ext (by show d.val = 32 * (d.val / 32) + d.val % 32; omega)
  refine (congrArg (fun d' : Fin 160 => arg22.view.read (Elt Ideal) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (0 : Fin 2) b d' t)) hd).trans ((bufVt_read0 (g := (⟨d.val / 32, by omega⟩ : Fin 5)) (d := (⟨d.val % 32, by omega⟩ : Fin 32)) ..).trans ((pay90_apply _ _ _ _).trans ?_))
  have e0 := congrFun (k0_off10_eq (Fin.cast (by rfl) (⟨d.val / 32, by omega⟩ : Fin 5)))
  refine Eq.trans ?_ (dif_pos (show (t.castLE (by norm_num) : Fin 256).val < 224 from by show t.val < 224; omega)).symm
  refine (at4 arg11.view _ _ _ (⟨t.val, by omega⟩ : Fin 224) (0 : Fin 1) d b ?_ ?_ ?_ ?_).trans (congrFun (harg11.read_unread x8) _)
  · show k0_off10 (Fin.cast (by rfl) (⟨d.val / 32, by omega⟩ : Fin 5)) 0 + 1 * t.val = t.val
    rw [e0]; show 0 + _ = _; omega
  · show k0_off10 (Fin.cast (by rfl) (⟨d.val / 32, by omega⟩ : Fin 5)) 1 + 1 * 0 = 0
    rw [e0]; rfl
  · show k0_off10 (Fin.cast (by rfl) (⟨d.val / 32, by omega⟩ : Fin 5)) 2 + 1 * (d.val % 32) = d.val
    rw [e0]; show 32 * (d.val / 32) + _ = _; omega
  · show k0_off10 (Fin.cast (by rfl) (⟨d.val / 32, by omega⟩ : Fin 5)) 3 + 1 * b.val = b.val
    rw [e0]; show 0 + _ = _; omega

theorem vt_read1 (d : Fin 160) (t : Fin 128) : arg22.view.read (Elt Ideal) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (1 : Fin 2) b d t) = tail4 x8 b d ⟨128 + t.val, by omega⟩ := by
  have hd : d = (⟨32 * (⟨d.val / 32, by omega⟩ : Fin 5).val + (⟨d.val % 32, by omega⟩ : Fin 32).val, by show 32 * (d.val / 32) + d.val % 32 < 160; omega⟩ : Fin 160) := Fin.ext (by show d.val = 32 * (d.val / 32) + d.val % 32; omega)
  refine (congrArg (fun d' : Fin 160 => arg22.view.read (Elt Ideal) (bufVt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x8 G22) (ix4 (1 : Fin 2) b d' t)) hd).trans ((bufVt_read1 (g := (⟨d.val / 32, by omega⟩ : Fin 5)) (d := (⟨d.val % 32, by omega⟩ : Fin 32)) ..).trans ((pay91_apply _ _ _ _).trans ?_))
  have e0 := congrFun (k0_off11_eq (Fin.cast (by rfl) (⟨d.val / 32, by omega⟩ : Fin 5)))
  by_cases ht : t.val < 96
  · refine (dif_pos ht).trans (Eq.trans ?_ (dif_pos (show 128 + t.val < 224 from by omega)).symm)
    refine (at4 arg11.view _ _ _ (⟨128 + t.val, by omega⟩ : Fin 224) (0 : Fin 1) d b ?_ ?_ ?_ ?_).trans (congrFun (harg11.read_unread x8) _)
    · show k0_off11 (Fin.cast (by rfl) (⟨d.val / 32, by omega⟩ : Fin 5)) 0 + 1 * t.val = 128 + t.val
      rw [e0]; show 128 + _ = _; omega
    · show k0_off11 (Fin.cast (by rfl) (⟨d.val / 32, by omega⟩ : Fin 5)) 1 + 1 * 0 = 0
      rw [e0]; rfl
    · show k0_off11 (Fin.cast (by rfl) (⟨d.val / 32, by omega⟩ : Fin 5)) 2 + 1 * (d.val % 32) = d.val
      rw [e0]; show 32 * (d.val / 32) + _ = _; omega
    · show k0_off11 (Fin.cast (by rfl) (⟨d.val / 32, by omega⟩ : Fin 5)) 3 + 1 * b.val = b.val
      rw [e0]; show 0 + _ = _; omega
  · exact (dif_neg ht).trans (show tail4 x8 b d ⟨128 + t.val, by omega⟩ = 0 from dif_neg (show ¬128 + t.val < 224 from by omega)).symm

theorem ks_read (t : Fin 256) (ht : t.val < 224) : arg23.view.read (Elt Ideal) (bufKs i arg12 harg12 arg23 x9 G23) (ix2 b t) = tail3 x9 (⟨(i 1).val, (i 1).isLt⟩ : Fin 4) b t * sl2 := by
  have e0 := congrFun (k0_off14_eq i)
  refine (bufKs_read (b := b) (t := (⟨t.val, ht⟩ : Fin 224)) ..).trans ((pay92_apply _ _ _).trans (congrArg₂ (fun u v : EReal => u * v) (Eq.trans ?_ (dif_pos ht).symm) rfl))
  refine (at3 arg12.view _ _ _ (⟨t.val, ht⟩ : Fin 224) (⟨(i 1).val, (i 1).isLt⟩ : Fin 4) b ?_ ?_ ?_).trans (congrFun (harg12.read_unread x9) _)
  · show k0_off14 i 0 + 1 * t.val = t.val
    rw [e0]; show 0 + _ = _; omega
  · show k0_off14 i 1 + 1 * 0 = (i 1).val
    rw [e0]; rfl
  · show k0_off14 i 2 + 1 * b.val = b.val
    rw [e0]; show 0 + _ = _; omega

theorem vs_read (t : Fin 256) (ht : t.val < 224) : arg24.view.read (Elt Ideal) (bufVs i arg13 harg13 arg24 x10 G24) (ix2 b t) = tail3 x10 (⟨(i 1).val, (i 1).isLt⟩ : Fin 4) b t := by
  have e0 := congrFun (k0_off14_eq i)
  refine (bufVs_read (b := b) (t := (⟨t.val, ht⟩ : Fin 224)) ..).trans ((pay93_apply _ _ _).trans (Eq.trans ?_ (dif_pos ht).symm))
  refine (at3 arg13.view _ _ _ (⟨t.val, ht⟩ : Fin 224) (⟨(i 1).val, (i 1).isLt⟩ : Fin 4) b ?_ ?_ ?_).trans (congrFun (harg13.read_unread x10) _)
  · show k0_off14 i 0 + 1 * t.val = t.val
    rw [e0]; show 0 + _ = _; omega
  · show k0_off14 i 1 + 1 * 0 = (i 1).val
    rw [e0]; rfl
  · show k0_off14 i 2 + 1 * b.val = b.val
    rw [e0]; show 0 + _ = _; omega

theorem q_read0 (l : Fin 128) : arg17.view.read (Elt Ideal) (bufQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G17) (ix3 (0 : Fin 2) (⟨136 * g.val + b.val, by omega⟩ : Fin 2176) l) = x0 (ix3 g (⟨l.val, by omega⟩ : Fin 160) b) :=
  (bufQ_read0 (g := g) (b := b) (l := l) ..).trans ((pay61_apply _ _ _).trans (qLd_read arg3 harg3 x0 b g _))

theorem q_read1 (l : Fin 32) : arg17.view.read (Elt Ideal) (bufQ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G17) (ix3 (1 : Fin 2) (⟨136 * g.val + b.val, by omega⟩ : Fin 2176) (l.castLE (by norm_num) : Fin 128)) = x0 (ix3 g (⟨128 + l.val, by omega⟩ : Fin 160) b) :=
  (bufQ_read1 (g := g) (b := b) (l := l) ..).trans ((pay62_apply _ _ _).trans (qLd_read arg3 harg3 x0 b g _))

/-- The maximum of a row before the tail. -/
def m0Of : EReal := max (top (spOf (qLd arg3 harg3 x0 g) (pLd i arg15 X15) b)) (snOf (qLd arg3 harg3 x0 g) (nLd arg4 harg4 x1) b)

theorem m_read (l : Fin 128) : arg19.view.read (Elt Ideal) (bufM c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G19) (ix2 (⟨136 * g.val + b.val, by omega⟩ : Fin 2176) l) = m0Of i arg3 harg3 arg4 harg4 arg15 x0 x1 X15 b g :=
  (bufM_read (g := g) (b := b) (l := l) ..).trans (pay70_apply _ _ _ _ _)

theorem l_read (l : Fin 128) : arg20.view.read (Elt Ideal) (bufL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G20) (ix2 (⟨136 * g.val + b.val, by omega⟩ : Fin 2176) l) = l0Of (qLd arg3 harg3 x0 g) (pLd i arg15 X15) (nLd arg4 harg4 x1) b :=
  (bufL_read (g := g) (b := b) (l := l) ..).trans (pay71_apply _ _ _ _ _)

theorem o_rd0 (l : Fin 128) : arg18.view.read (Elt Ideal) (bufO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G18) (ix3 (0 : Fin 2) (⟨136 * g.val + b.val, by omega⟩ : Fin 2176) l) = o0Of (qLd arg3 harg3 x0 g) (pLd i arg15 X15) (nLd arg4 harg4 x1) (pLd i arg16 X16) (nLd arg5 harg5 x2) b (⟨l.val, by omega⟩ : Fin 160) :=
  (bufO_read0 (g := g) (b := b) (l := l) ..).trans (pay72_apply _ _ _ _ _ _ _)

theorem o_rd1 (l : Fin 32) : arg18.view.read (Elt Ideal) (bufO c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 X15 X16 G18) (ix3 (1 : Fin 2) (⟨136 * g.val + b.val, by omega⟩ : Fin 2176) (l.castLE (by norm_num) : Fin 128)) = o0Of (qLd arg3 harg3 x0 g) (pLd i arg15 X15) (nLd arg4 harg4 x1) (pLd i arg16 X16) (nLd arg5 harg5 x2) b (⟨128 + l.val, by omega⟩ : Fin 160) :=
  (bufO_read1 (g := g) (b := b) (l := l) ..).trans (pay73_apply _ _ _ _ _ _ _)

/-- The tail length of a sequence of this point's group. -/
def nOf : BitVec 32 := seqLen (F := Ideal) i tbM0_0 c xt0 (⟨b.val, b.isLt⟩ : Fin k0_t4_loop.trips)

variable (hn : (nOf c i xt0 b).toInt ≤ 224)

include hKP hVP hn in
theorem sq_read0 (l : Fin 128) : arg18.view.read (Elt Ideal) (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24) (ix3 (0 : Fin 2) (⟨136 * g.val + b.val, by omega⟩ : Fin 2176) l)
    = blkRow x0 x1 x2 KP VP x7 x8 x9 x10 (nOf c i xt0 b) (⟨(i 1).val, (i 1).isLt⟩ : Fin 4) b g (⟨l.val, by omega⟩ : Fin 160) := by
  rw [bufSq.eq_1]
  refine (row0 i tbM0_0 arg17 arg18 arg19 arg20 arg21 arg22 arg23 arg24 c xt0 _ _ _ _ _ _ _ (⟨b.val, b.isLt⟩ : Fin k0_t4_loop.trips) b rfl g
    (fun d' => x0 (ix3 g d' b)) (tail4 x7 b) (tail4 x8 b) (fun l => q_read0 (g := g) (b := b) (l := l) ..) (fun l => q_read1 (g := g) (b := b) (l := l) ..)
    (fun d t => kt_read0 (b := b) (d := d) (t := t) ..) (fun d t => kt_read1 (b := b) (d := d) (t := t) ..) (fun d t => vt_read0 (b := b) (d := d) (t := t) ..) (fun d t => vt_read1 (b := b) (d := d) (t := t) ..)
    (m0Of i arg3 harg3 arg4 harg4 arg15 x0 x1 X15 b g) (l0Of (qLd arg3 harg3 x0 g) (pLd i arg15 X15) (nLd arg4 harg4 x1) b)
    (fun d => o0Of (qLd arg3 harg3 x0 g) (pLd i arg15 X15) (nLd arg4 harg4 x1) (pLd i arg16 X16) (nLd arg5 harg5 x2) b d) _
    (fun l => m_read (g := g) (b := b) (l := l) ..) (fun l => l_read (g := g) (b := b) (l := l) ..) (fun l => o_rd0 (g := g) (b := b) (l := l) ..) l).trans ?_
  have hs := sp_read i arg3 harg3 arg15 x0 X15 KP hKP b g
  have hsn := sn_read arg3 harg3 arg4 harg4 x0 x1 b g
  refine blkRow_eq x0 x1 x2 KP VP x7 x8 x9 x10 _ hn _ b g _ _ _ _ _ _ ?_ ?_ ?_ (fun t ht => ks_read (b := b) (t := t) (ht := ht) ..) (fun t ht => vs_read (b := b) (t := t) (ht := ht) ..)
  · unfold m0Of
    rw [hs, hsn]
  · unfold m0Of l0Of
    rw [hs, hsn]
  · unfold m0Of o0Of
    rw [hs, hsn]
    refine congrArg₂ (fun u v : EReal => u + v) (Finset.sum_congr rfl fun p _ => congrArg₂ (fun u v : EReal => u * v) rfl ((pLd_read i arg16 X16 _ p).trans (hVP _ p))) (congrArg₂ (fun u v : EReal => u * v) rfl (nLd_read arg5 harg5 x2 _ b))

include hKP hVP hn in
theorem sq_read1 (l : Fin 32) : arg18.view.read (Elt Ideal) (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24) (ix3 (1 : Fin 2) (⟨136 * g.val + b.val, by omega⟩ : Fin 2176) (l.castLE (by norm_num) : Fin 128))
    = blkRow x0 x1 x2 KP VP x7 x8 x9 x10 (nOf c i xt0 b) (⟨(i 1).val, (i 1).isLt⟩ : Fin 4) b g (⟨128 + l.val, by omega⟩ : Fin 160) := by
  rw [bufSq.eq_1]
  refine (row1 i tbM0_0 arg17 arg18 arg19 arg20 arg21 arg22 arg23 arg24 c xt0 _ _ _ _ _ _ _ (⟨b.val, b.isLt⟩ : Fin k0_t4_loop.trips) b rfl g
    (fun d' => x0 (ix3 g d' b)) (tail4 x7 b) (tail4 x8 b) (fun l => q_read0 (g := g) (b := b) (l := l) ..) (fun l => q_read1 (g := g) (b := b) (l := l) ..)
    (fun d t => kt_read0 (b := b) (d := d) (t := t) ..) (fun d t => kt_read1 (b := b) (d := d) (t := t) ..) (fun d t => vt_read0 (b := b) (d := d) (t := t) ..) (fun d t => vt_read1 (b := b) (d := d) (t := t) ..)
    (m0Of i arg3 harg3 arg4 harg4 arg15 x0 x1 X15 b g) (l0Of (qLd arg3 harg3 x0 g) (pLd i arg15 X15) (nLd arg4 harg4 x1) b)
    (fun d => o0Of (qLd arg3 harg3 x0 g) (pLd i arg15 X15) (nLd arg4 harg4 x1) (pLd i arg16 X16) (nLd arg5 harg5 x2) b d) _
    (fun l => m_read (g := g) (b := b) (l := l) ..) (fun l => l_read (g := g) (b := b) (l := l) ..) (fun l => o_rd1 (g := g) (b := b) (l := l) ..) l).trans ?_
  have hs := sp_read i arg3 harg3 arg15 x0 X15 KP hKP b g
  have hsn := sn_read arg3 harg3 arg4 harg4 x0 x1 b g
  refine blkRow_eq x0 x1 x2 KP VP x7 x8 x9 x10 _ hn _ b g _ _ _ _ _ _ ?_ ?_ ?_ (fun t ht => ks_read (b := b) (t := t) (ht := ht) ..) (fun t ht => vs_read (b := b) (t := t) (ht := ht) ..)
  · unfold m0Of
    rw [hs, hsn]
  · unfold m0Of l0Of
    rw [hs, hsn]
  · unfold m0Of o0Of
    rw [hs, hsn]
    refine congrArg₂ (fun u v : EReal => u + v) (Finset.sum_congr rfl fun p _ => congrArg₂ (fun u v : EReal => u * v) rfl ((pLd_read i arg16 X16 _ p).trans (hVP _ p))) (congrArg₂ (fun u v : EReal => u * v) rfl (nLd_read arg5 harg5 x2 _ b))

variable (hn' : ∀ b : Fin 128, (nOf c i xt0 b).toInt ≤ 224)

include hKP hVP hn' in
theorem out_read : arg14.view.read (Elt Ideal) (arg14.view.writes (Elt Ideal) G14 [⟨Rect.unit (s := S128x1920) ![0, 0] S128x1920.size inb_S128x1920_S128x1920_0_0, outRows arg18 (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24)⟩])
    = blk i x0 x1 x2 KP VP x7 x8 x9 x10 (nOf c i xt0) := by
  funext y
  obtain ⟨b, j, rfl⟩ : ∃ (b : Fin 128) (j : Fin 1920), y = ix2 b j := ⟨y (0 : Fin 2), y (1 : Fin 2), by funext a; match a with | ⟨0, _⟩ => rfl | ⟨1, _⟩ => rfl⟩
  refine (hit2 (m0 := 128) (m1 := 1920) arg14.view G14 _ _ [] b j b j rfl (Nat.zero_add _).symm (Nat.zero_add _).symm).trans ?_
  show _ = blkRow x0 x1 x2 KP VP x7 x8 x9 x10 (nOf c i xt0 b) (⟨(i 1).val, (i 1).isLt⟩ : Fin 4) b (⟨j.val / 160, by omega⟩ : Fin 12) (⟨j.val % 160, by omega⟩ : Fin 160)
  by_cases hj : j.val % 160 < 128
  · have ej : j = (⟨160 * (⟨j.val / 160, by omega⟩ : Fin 12).val + (⟨j.val % 160, hj⟩ : Fin 128).val, by show 160 * (j.val / 160) + j.val % 160 < 1920; omega⟩ : Fin 1920) := Fin.ext (by show j.val = 160 * (j.val / 160) + j.val % 160; omega)
    exact (congrArg (fun j' : Fin 1920 => outRows (F := Ideal) arg18 (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24) (ix2 b j')) ej).trans ((rows_lo arg18 _ b _ _).trans (sq_read0 (KP := KP) (VP := VP) (hKP := hKP) (hVP := hVP) (b := b) (g := (⟨j.val / 160, by omega⟩ : Fin 12)) (l := (⟨j.val % 160, hj⟩ : Fin 128)) (hn := hn' b) ..))
  · have ej : j = (⟨160 * (⟨j.val / 160, by omega⟩ : Fin 12).val + (128 + (⟨j.val % 160 - 128, by omega⟩ : Fin 32).val), by show 160 * (j.val / 160) + (128 + (j.val % 160 - 128)) < 1920; omega⟩ : Fin 1920) := Fin.ext (by show j.val = 160 * (j.val / 160) + (128 + (j.val % 160 - 128)); omega)
    refine (congrArg (fun j' : Fin 1920 => outRows (F := Ideal) arg18 (bufSq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 X15 X16 G17 G18 G19 G20 G21 G22 G23 G24) (ix2 b j')) ej).trans ((rows_hi arg18 _ b _ _).trans ((sq_read1 (KP := KP) (VP := VP) (hKP := hKP) (hVP := hVP) (b := b) (g := (⟨j.val / 160, by omega⟩ : Fin 12)) (l := (⟨j.val % 160 - 128, by omega⟩ : Fin 32)) (hn := hn' b) ..).trans ?_))
    exact congrArg (blkRow x0 x1 x2 KP VP x7 x8 x9 x10 (nOf c i xt0 b) (⟨(i 1).val, (i 1).isLt⟩ : Fin 4) b (⟨j.val / 160, by omega⟩ : Fin 12)) (Fin.ext (by show 128 + (j.val % 160 - 128) = j.val % 160; omega))

end Block

end Cert.KernelIdeal.Gen

end
-- ==== Proof.Value.Body.lean ====
/- One run of the body, first point or later, as a triple that names the output block and the prepared prefix. -/
module

public import proofs.«01_k».proof.Proof.Value.OutA
public import proofs.«01_k».proof.Proof.Value.Out
public import proofs.«01_k».proof.Proof.Value.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The prefix as the first point prepares it: each value times its block's power of two. -/
def prep (x : Vec Ideal S4x160x1280 .fp8e4m3) (xs : Vec Ideal S5x4x1280 .i8) : Vec Ideal S4x160x1280 .bf16 := fun y =>
  (x (ix3 (y (0 : Fin 3)) (y (1 : Fin 3)) (y (2 : Fin 3))) : EReal) * sc8 (xs (ix3 (⟨(y (1 : Fin 3)).val / 32, by have h : (y (1 : Fin 3)).val < 160 := (y (1 : Fin 3)).isLt; omega⟩ : Fin 5) (y (0 : Fin 3)) (y (2 : Fin 3))))

theorem pref_full (ax : Memref sig .tc .vmem S4x160x1280 .fp8e4m3) (hax : ax.IsWhole) (ac : Memref sig .tc .vmem S5x4x1280 .i8) (hac : ac.IsWhole)
    (a : Memref sig .tc .vmem S4x160x1280 .bf16) (x : Vec Ideal S4x160x1280 .fp8e4m3) (xs : Vec Ideal S5x4x1280 .i8) :
    a.view.read (Elt Ideal) (pref (F := Ideal) ax hax ac hac a x xs) = prep x xs := by
  funext y
  obtain ⟨kv, r, p, rfl⟩ : ∃ (kv : Fin 4) (r : Fin 160) (p : Fin 1280), y = ix3 kv r p := ⟨y (0 : Fin 3), y (1 : Fin 3), y (2 : Fin 3), by funext a; match a with | ⟨0, _⟩ => rfl | ⟨1, _⟩ => rfl | ⟨2, _⟩ => rfl⟩
  exact pref_read ax hax ac hac a x xs kv r p

theorem own_eq (c : Dev nD) (a : Memref sig .tc .vmem S128x1920 .bf16) {u v : Vec Ideal S128x1920 .bf16} (h : u = v) :
    (owns (c : Thread nD τ) a fullShare u : sProp 𝕄) ⊢ owns (c : Thread nD τ) a fullShare v := by rw [h]

section Open
variable {sp : Space} {sh : Shape} {e : EltTy} (c : Dev nD) (a : Memref sig .tc sp sh e)

theorem own_open1 {d : Vec Ideal sh e} : (owns (c : Thread nD τ) a fullShare d : sProp 𝕄)
    ⊢ iprop(∃ f, ⌜a.view.read (Elt Ideal) f = d⌝ ∗ (a.view.loc (c : Thread nD τ) ↦[a.view.set]{fullShare} f)) := by unfold owns; exact .rfl

theorem own_open : (iprop(∃ d, owns (c : Thread nD τ) a fullShare d) : sProp 𝕄)
    ⊢ iprop(∃ f, (a.view.loc (c : Thread nD τ) ↦[a.view.set]{fullShare} f)) := by
  unfold owns; iintro ⟨%d, %f, %h, H⟩; iexists f; iexact H

theorem own_close {d : Vec Ideal sh e} {f : BufTy.Contents (Elt Ideal) a.view.ty} (h : a.view.read (Elt Ideal) f = d) :
    ((a.view.loc (c : Thread nD τ) ↦[a.view.set]{fullShare} f) : sProp 𝕄) ⊢ owns (c : Thread nD τ) a fullShare d := by
  unfold owns; iintro H; iexists f; isplitr; · ipureintro; exact h
  iexact H
end Open

set_option maxHeartbeats 1600000 in
/-- The body at the first point. -/
theorem runA_blk (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : cond0_0 i)
    (x0 : Vec Ideal S12x160x128 .bf16) (x1 : Vec Ideal S1x160x128 .bf16) (x2 : Vec Ideal S1x160x128 .bf16) (x3 : Vec Ideal S4x160x1280 .fp8e4m3) (x4 : Vec Ideal S4x160x1280 .fp8e4m3) (x5 : Vec Ideal S5x4x1280 .i8) (x6 : Vec Ideal S5x4x1280 .i8) (x7 : Vec Ideal S224x1x160x128 .fp8e4m3) (x8 : Vec Ideal S224x1x160x128 .fp8e4m3) (x9 : Vec Ideal S224x4x128 .f32) (x10 : Vec Ideal S224x4x128 .f32) (xt0 : TbBuf0 (F := Ideal) c tbM0_0) (hn : ∀ b : Fin 128, (nOf c i xt0 b).toInt ≤ 224) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (blk i x0 x1 x2 (prep x3 x5) (prep x4 x6) x7 x8 x9 x10 (nOf c i xt0)) ∗ owns (c : Thread nD τ) arg15 fullShare (prep x3 x5) ∗ owns (c : Thread nD τ) arg16 fullShare (prep x4 x6) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
      ⊢ wp frame (wpE (defs₀ (F := Ideal)) Variants.none c none) E (cc0_cascade_attention (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  iintro ⟨H0, H1, H2, H3, H4, H5, H6, H7, H8, H9, H10, H14, H15, H16, H17, H18, H19, H20, H21, H22, H23, H24, HT, Hk⟩
  ihave U := (own_open c arg14) $$ H14; icases U with ⟨%f14, H14⟩
  ihave U := (own_open c arg15) $$ H15; icases U with ⟨%f15, H15⟩
  ihave U := (own_open c arg16) $$ H16; icases U with ⟨%f16, H16⟩
  ihave U := (own_open c arg17) $$ H17; icases U with ⟨%f17, H17⟩
  ihave U := (own_open c arg18) $$ H18; icases U with ⟨%f18, H18⟩
  ihave U := (own_open c arg19) $$ H19; icases U with ⟨%f19, H19⟩
  ihave U := (own_open c arg20) $$ H20; icases U with ⟨%f20, H20⟩
  ihave U := (own_open c arg21) $$ H21; icases U with ⟨%f21, H21⟩
  ihave U := (own_open c arg22) $$ H22; icases U with ⟨%f22, H22⟩
  ihave U := (own_open c arg23) $$ H23; icases U with ⟨%f23, H23⟩
  ihave U := (own_open c arg24) $$ H24; icases U with ⟨%f24, H24⟩
  have e15 := valueRunA_K0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24
  have e16 := valueRunA_K1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24
  have eo := valueRunA_out (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24
  have eo' := eo.trans (out_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 _ _ _ f18 f19 f20 f21 f22 f23 f24 f14 (prep x3 x5) (prep x4 x6) (fun d p => pref_read arg6 harg6 arg8 harg8 arg15 x3 x5 _ d p) (fun d p => pref_read arg7 harg7 arg9 harg9 arg16 x4 x6 _ d p) hn)
  iapply ((valueRunA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HT]; · iexact HT
  iintro ⟨H0, H1, H2, H3, H4, H5, H6, H7, H8, H9, H10, H14, H15, H16, H17, H18, H19, H20, H21, H22, H23, H24, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]
  · iapply (own_eq c arg14 eo'); iexact H14
  isplitl [H15]
  · iapply (own_close c arg15 ((congrArg _ e15).trans (pref_full arg6 harg6 arg8 harg8 arg15 x3 x5))); iexact H15
  isplitl [H16]
  · iapply (own_close c arg16 ((congrArg _ e16).trans (pref_full arg7 harg7 arg9 harg9 arg16 x4 x6))); iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact HT

set_option maxHeartbeats 1600000 in
/-- The body at a later point. -/
theorem runB_blk (c : Dev nD) (i : grid0.Coords) (arg3 : Memref sig .tc .vmem S12x160x128 .bf16) (harg3 : arg3.IsWhole) (arg4 : Memref sig .tc .vmem S1x160x128 .bf16) (harg4 : arg4.IsWhole) (arg5 : Memref sig .tc .vmem S1x160x128 .bf16) (harg5 : arg5.IsWhole) (arg6 : Memref sig .tc .vmem S4x160x1280 .fp8e4m3) (harg6 : arg6.IsWhole) (arg7 : Memref sig .tc .vmem S4x160x1280 .fp8e4m3) (harg7 : arg7.IsWhole) (arg8 : Memref sig .tc .vmem S5x4x1280 .i8) (harg8 : arg8.IsWhole) (arg9 : Memref sig .tc .vmem S5x4x1280 .i8) (harg9 : arg9.IsWhole) (arg10 : Memref sig .tc .vmem S224x1x160x128 .fp8e4m3) (harg10 : arg10.IsWhole) (arg11 : Memref sig .tc .vmem S224x1x160x128 .fp8e4m3) (harg11 : arg11.IsWhole) (arg12 : Memref sig .tc .vmem S224x4x128 .f32) (harg12 : arg12.IsWhole) (arg13 : Memref sig .tc .vmem S224x4x128 .f32) (harg13 : arg13.IsWhole) (arg14 : Memref sig .tc .vmem S128x1920 .bf16) (harg14 : arg14.IsWhole) (arg15 : Memref sig .tc .vmem S4x160x1280 .bf16) (harg15 : arg15.IsWhole) (arg16 : Memref sig .tc .vmem S4x160x1280 .bf16) (harg16 : arg16.IsWhole) (arg17 : Memref sig .tc .vmem S2x2176x128 .f32) (harg17 : arg17.IsWhole) (arg18 : Memref sig .tc .vmem S2x2176x128 .f32) (harg18 : arg18.IsWhole) (arg19 : Memref sig .tc .vmem S2176x128 .f32) (harg19 : arg19.IsWhole) (arg20 : Memref sig .tc .vmem S2176x128 .f32) (harg20 : arg20.IsWhole) (arg21 : Memref sig .tc .vmem S2x128x160x128 .fp8e4m3) (harg21 : arg21.IsWhole) (arg22 : Memref sig .tc .vmem S2x128x160x128 .fp8e4m3) (harg22 : arg22.IsWhole) (arg23 : Memref sig .tc .vmem S128x256 .f32) (harg23 : arg23.IsWhole) (arg24 : Memref sig .tc .vmem S128x256 .f32) (harg24 : arg24.IsWhole) (hc0 : ¬cond0_0 i)
    (x0 : Vec Ideal S12x160x128 .bf16) (x1 : Vec Ideal S1x160x128 .bf16) (x2 : Vec Ideal S1x160x128 .bf16) (x3 : Vec Ideal S4x160x1280 .fp8e4m3) (x4 : Vec Ideal S4x160x1280 .fp8e4m3) (x5 : Vec Ideal S5x4x1280 .i8) (x6 : Vec Ideal S5x4x1280 .i8) (x7 : Vec Ideal S224x1x160x128 .fp8e4m3) (x8 : Vec Ideal S224x1x160x128 .fp8e4m3) (x9 : Vec Ideal S224x4x128 .f32) (x10 : Vec Ideal S224x4x128 .f32) (xt0 : TbBuf0 (F := Ideal) c tbM0_0) (KP VP : Vec Ideal S4x160x1280 .bf16) (hn : ∀ b : Fin 128, (nOf c i xt0 b).toInt ≤ 224) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare KP ∗ owns (c : Thread nD τ) arg16 fullShare VP ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (blk i x0 x1 x2 KP VP x7 x8 x9 x10 (nOf c i xt0)) ∗ owns (c : Thread nD τ) arg15 fullShare KP ∗ owns (c : Thread nD τ) arg16 fullShare VP ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0) -∗ K ⟨⟩))
      ⊢ wp frame (wpE (defs₀ (F := Ideal)) Variants.none c none) E (cc0_cascade_attention (F := Ideal) i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  iintro ⟨H0, H1, H2, H3, H4, H5, H6, H7, H8, H9, H10, H14, H15, H16, H17, H18, H19, H20, H21, H22, H23, H24, HT, Hk⟩
  ihave U := (own_open c arg14) $$ H14; icases U with ⟨%f14, H14⟩
  ihave U := (own_open1 c arg15) $$ H15; icases U with ⟨%f15, %h15, H15⟩
  ihave U := (own_open1 c arg16) $$ H16; icases U with ⟨%f16, %h16, H16⟩
  ihave U := (own_open c arg17) $$ H17; icases U with ⟨%f17, H17⟩
  ihave U := (own_open c arg18) $$ H18; icases U with ⟨%f18, H18⟩
  ihave U := (own_open c arg19) $$ H19; icases U with ⟨%f19, H19⟩
  ihave U := (own_open c arg20) $$ H20; icases U with ⟨%f20, H20⟩
  ihave U := (own_open c arg21) $$ H21; icases U with ⟨%f21, H21⟩
  ihave U := (own_open c arg22) $$ H22; icases U with ⟨%f22, H22⟩
  ihave U := (own_open c arg23) $$ H23; icases U with ⟨%f23, H23⟩
  ihave U := (own_open c arg24) $$ H24; icases U with ⟨%f24, H24⟩
  have eo := valueRunB_eq (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24
  have eo' := eo.trans (out_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x7 x8 x9 x10 xt0 f15 f16 f17 f18 f19 f20 f21 f22 f23 f24 f14 KP VP (fun d p => congrFun h15 _) (fun d p => congrFun h16 _) hn)
  iapply ((valueRunB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 xt0 f14 f15 f16 f17 f18 f19 f20 f21 f22 f23 f24).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HT]; · iexact HT
  iintro ⟨H0, H1, H2, H3, H4, H5, H6, H7, H8, H9, H10, H14, H15, H16, H17, H18, H19, H20, H21, H22, H23, H24, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]
  · iapply (own_eq c arg14 eo'); iexact H14
  isplitl [H15]
  · iapply (own_close c arg15 h15); iexact H15
  isplitl [H16]
  · iapply (own_close c arg16 h16); iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact HT

end Cert.KernelIdeal.Gen

end
-- ==== Proof.Value.Frame.lean ====
/- The run of the idealized kernel with its output named: the pipeline's proof data says what each output block holds. -/
module

public import proofs.«01_k».proof.Proof.KernelIdeal.Kit
public import Idealize.ShloMosaic.Lib.Claim
public import proofs.«01_k».proof.Proof.Value.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

namespace Val

variable (m : (ℓ : Loc nD τ sig) → Buf (Elt Ideal) ℓ) (ρ : Dev nD → PrngReg)

/-- The first grid point. -/
def pt0 (hO : Ok m) : Fin (cfgM m hO).N := ⟨0, lt_of_lt_of_eq (by decide : 0 < 64) (show (cfgM m hO).N = 64 from N_0).symm⟩

/-- The prefix keys and values as the first point prepares them from the blocks it is handed. -/
def kPre (hO : Ok m) (c : Dev nD) : Vec Ideal S4x160x1280 .bf16 := prep (iblk m hO c 3 (pt0 m hO)) (iblk m hO c 5 (pt0 m hO))
def vPre (hO : Ok m) (c : Dev nD) : Vec Ideal S4x160x1280 .bf16 := prep (iblk m hO c 4 (pt0 m hO)) (iblk m hO c 6 (pt0 m hO))

/-- The output block of point `t`, from the blocks it is handed and the prepared prefix. -/
def oBlk (hO : Ok m) (c : Dev nD) (t : Fin (cfgM m hO).N) : Vec Ideal S128x1920 .bf16 :=
  blk (grid0.coords t) (iblk m hO c 0 t) (iblk m hO c 1 t) (iblk m hO c 2 t) (kPre m hO c) (vPre m hO c) (iblk m hO c 7 t) (iblk m hO c 8 t) (iblk m hO c 9 t) (iblk m hO c 10 t) (nOf c (grid0.coords t) (tbl m 0))

/-- The invariant after the first point: the prepared prefix in place, the rest of the scratch at some contents. -/
def Phi1 (hO : Ok m) (c : Dev nD) : sProp 𝕄 :=
  iprop(iprop(iprop(owns (c : Thread nD τ) scM0_0 fullShare (kPre m hO c) ∗ owns (c : Thread nD τ) scM0_1 fullShare (vPre m hO c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) ∗ tbPt0 c tbM0_0 (tbl m 0))

/-- The invariant at a point. -/
def Phi (hO : Ok m) (c : Dev nD) (n : Nat) : sProp 𝕄 :=
  if n = 0 then iprop(Pipeline.ΦA spec0 c ∗ Pipeline.ΦT Cert.KernelIdeal.pre0 (tbl m) c) else Phi1 m hO c

theorem Phi_zero (hO : Ok m) (c : Dev nD) {n : Nat} (h : n = 0) : Phi m hO c n = iprop(Pipeline.ΦA spec0 c ∗ Pipeline.ΦT Cert.KernelIdeal.pre0 (tbl m) c) := by
  unfold Phi; exact if_pos h
theorem Phi_pos (hO : Ok m) (c : Dev nD) {n : Nat} (h : n ≠ 0) : Phi m hO c n = Phi1 m hO c := by
  unfold Phi; exact if_neg h

/-- The proof data: inputs at their blocks, the output at `oBlk`, the invariant `Phi`. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => oBlk m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = oBlk m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 4000000 in
/-- The body's triple at every point. -/
theorem sound_body (hO : Ok m) (c : Dev nD) (hL : ∀ (i : grid0.Coords) (b : Fin 128), (nOf c i (tbl m 0) b).toInt ≤ 224) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  have hN : t.val < 64 := lt_of_lt_of_eq t.isLt (show (cfgM m hO).N = 64 from N_0)
  rw [show (dats m hO 0 c).owesAt () t.succ = (dats m hO 0 c).owesAt () t.castSucc from rfl, after0_0 m hO c t, after0_1 m hO c t, after0_2 m hO c t, after0_3 m hO c t, after0_4 m hO c t, after0_5 m hO c t, after0_6 m hO c t, after0_7 m hO c t, after0_8 m hO c t, after0_9 m hO c t, after0_10 m hO c t, after0_11 m hO c t]
  rw [show (dats m hO 0 c).Φ t.succ = Phi1 m hO c from Phi_pos m hO c (Nat.succ_ne_zero t.val)]
  by_cases h0 : t.val % 64 = 0
  · obtain rfl : t = pt0 m hO := Fin.ext (show t.val = 0 by omega)
    rw [show (dats m hO 0 c).Φ (pt0 m hO).castSucc = iprop(Pipeline.ΦA spec0 c ∗ Pipeline.ΦT Cert.KernelIdeal.pre0 (tbl m) c) from Phi_zero m hO c rfl, PhiT0_eq, PhiA0_eq]
    generalize ht : pt0 m hO = t
    unfold Phi1
    rw [show kPre m hO c = prep (iblk m hO c 3 t) (iblk m hO c 5 t) from by rw [← ht]; rfl, show vPre m hO c = prep (iblk m hO c 4 t) (iblk m hO c 6 t) from by rw [← ht]; rfl,
      show oBlk m hO c t = blk (grid0.coords t) (iblk m hO c 0 t) (iblk m hO c 1 t) (iblk m hO c 2 t) (prep (iblk m hO c 3 t) (iblk m hO c 5 t)) (prep (iblk m hO c 4 t) (iblk m hO c 6 t)) (iblk m hO c 7 t) (iblk m hO c 8 t) (iblk m hO c 9 t) (iblk m hO c 10 t) (nOf c (grid0.coords t) (tbl m 0)) from by rw [← ht]; rfl]
    rw [ht] at h0
    iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA_blk c (grid0.coords t) _ _ _ _ _ _ _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (hL _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show (dats m hO 0 c).Φ t.castSucc = Phi1 m hO c from Phi_pos m hO c (fun h => h0 (by show t.val % 64 = 0; have h' : t.val = 0 := h; rw [h']))]
    unfold Phi1 oBlk
    iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB_blk c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (kPre m hO c) (vPre m hO c) (hL _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HT0]; · iexact HT0
    iintro ⟨H0, H1, H2, H3, H4, H5, H6, H7, H8, H9, H10, H11, HS0, HS1, HS2, HS3, HS4, HS5, HS6, HS7, HS8, HS9, HT0⟩
    isplitl [HS0 HS1 HS2 HS3 HS4 HS5 HS6 HS7 HS8 HS9 Hg HT0]
    · isplitl [HS0 HS1 HS2 HS3 HS4 HS5 HS6 HS7 HS8 HS9 Hg]
      · isplitl [HS0 HS1 HS2 HS3 HS4 HS5 HS6 HS7 HS8 HS9]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          iexact HS9
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) (hL : ∀ (i : grid0.Coords) (b : Fin 128), (nOf c i (tbl m 0) b).toInt ≤ 224) : BodyObligation (dats m hO 0 c) (defs₀ (F := Ideal)) Variants.none () Set.univ := fun t => by
  rw [bigSep_W0, bigSep_W0, defs₀_row m hO]
  exact triple_restated (sound_body m hO c hL t) rfl .rfl fun _ => .rfl

theorem Phi_last (hO : Ok m) (c : Dev nD) : (dats m hO 0 c).Φ (Fin.last (cfgM m hO).N) ⊢ Pipeline.ΦA spec0 c := by
  rw [show (dats m hO 0 c).Φ (Fin.last (cfgM m hO).N) = Phi1 m hO c from Phi_pos m hO c (n := (cfgM m hO).N) (by show ¬ (cfgM m hO).N = 0; rw [show (cfgM m hO).N = 64 from N_0]; decide), PhiA0_eq]
  unfold Phi1
  iintro ⟨⟨⟨HS0, HS1, HS2, HS3, HS4, HS5, HS6, HS7, HS8, HS9⟩, Hg⟩, HT0⟩
  isplitl [HS0 HS1 HS2 HS3 HS4 HS5 HS6 HS7 HS8 HS9]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HS9
  iexact Hg

set_option backward.isDefEq.respectTransparency.types false in
/-- The run: every argument array unchanged and the output array at the blocks the points write back. -/
theorem run_main (hO : Ok m) (hL : ∀ (c : Dev nD) (i : grid0.Coords) (b : Fin 128), (nOf c i (tbl m 0) b).toInt ≤ 224) :
    θ_run defs (onTc (τ := τ) (main (F := Ideal))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO c (hL c)).loose) (hshare := fun c => (dats m hO 0 c).share_full fun _ => rfl)
    (howed := fun _ _ => rfl) (V := V m) (hmain := hmain m Variants.none) (hA := A_eq m hO) (hpf := V_pre m)
    (hin := fun c => (Phi_zero m hO c rfl) ▸ .rfl) (hout := fun c => Phi_last m hO c)

end Val

end Cert.KernelIdeal.Gen

end
-- ==== Proof.Value.Win.lean ====
/- The windows' blocks of the idealized kernel, read back to the arguments. -/
module

public import proofs.«01_k».proof.Proof.KernelIdeal.Kit
public import Idealize.ShloMosaic.Lib.Pointwise

@[expose] public section

set_option maxRecDepth 16384

noncomputable section

namespace Cert.KernelIdeal.Gen.Val

open Idealize.ShloMosaic Idealize.ShloMosaic.TcCoe Idealize.ShloMosaic.Tactic

/-- The sequence a point's block holds in a lane. -/
def sq (i : grid0.Coords) (b : Fin 128) : Fin 2048 := ⟨(i 0).val * 128 + b.val, by have h : (i 0).val < 16 := (i 0).isLt; omega⟩
/-- The point's key head. -/
def hd (i : grid0.Coords) : Fin 4 := ⟨(i 1).val, (i 1).isLt⟩
/-- A query head of a key head. -/
def qh (i : Fin 4) (g : Fin 12) : Fin 48 := ⟨i.val * 12 + g.val, by omega⟩

variable (m : (ℓ : Loc nD τ sig) → Buf (Elt Ideal) ℓ)

theorem V_v1 (c : Dev nD) : V m c main_v1 = (shapeCast S48x160x2048 (transpose S1x48x160x2048 [1, 2, 3, 0] (m ((c : Thread nD τ).loc main_arg0) : Vec Ideal S2048x1x48x160 .bf16) transposes_S2048x1x48x160_S1x48x160x2048_1_2_3_0) shapeCasts_S1x48x160x2048_S48x160x2048 : Vec Ideal S48x160x2048 .bf16) := by
  show StableHlo.after hostOps0 _ (Proc.devRef .tc main_v1) = _
  unfold hostOps0
  after_results
  try rfl

theorem iblk0 (hO : Ok m) (c : Dev nD) (t : Fin (cfgM m hO).N) (g : Fin 12) (d : Fin 160) (b : Fin 128) :
    iblk m hO c 0 t (ix3 g d b) = (m ((c : Thread nD τ).loc main_arg0) : Vec Ideal S2048x1x48x160 .bf16) (ix4 (sq (grid0.coords t) b) (0 : Fin 1) (qh (hd (grid0.coords t)) g) d) := by
  have h0 : (grid0.coords t 0).val < 16 := (grid0.coords t 0).isLt
  have h1 : (grid0.coords t 1).val < 4 := (grid0.coords t 1).isLt
  unfold iblk
  refine (View.read_apply _ _).trans ?_
  refine (congrArg (V m c main_v1) (?_ : _ = (ix3 (qh (hd (grid0.coords t)) g) d (sq (grid0.coords t) b) : S48x160x2048.Idx))).trans ?_
  · funext a
    apply Fin.ext
    match a with
    | ⟨0, _⟩ => show (BitVec.ofNat 32 (grid0.coords t 1).val).toNat * 12 + 1 * g.val = (grid0.coords t 1).val * 12 + g.val; rw [BitVec.toNat_ofNat]; omega
    | ⟨1, _⟩ => show 0 * 160 + 1 * d.val = d.val; omega
    | ⟨2, _⟩ => show (BitVec.ofNat 32 (grid0.coords t 0).val).toNat * 128 + 1 * b.val = (grid0.coords t 0).val * 128 + b.val; rw [BitVec.toNat_ofNat]; omega
  · rw [V_v1]
    pointwise []

theorem V_v3 (c : Dev nD) : V m c main_v3 = (shapeCast S4x160x2048 (transpose S1x4x160x2048 [1, 2, 3, 0] (m ((c : Thread nD τ).loc main_arg1) : Vec Ideal S2048x1x4x160 .bf16) transposes_S2048x1x4x160_S1x4x160x2048_1_2_3_0) shapeCasts_S1x4x160x2048_S4x160x2048 : Vec Ideal S4x160x2048 .bf16) := by
  show StableHlo.after hostOps0 _ (Proc.devRef .tc main_v3) = _
  unfold hostOps0
  after_results
  try rfl

theorem iblk1 (hO : Ok m) (c : Dev nD) (t : Fin (cfgM m hO).N) (d : Fin 160) (b : Fin 128) :
    iblk m hO c 1 t (ix3 (0 : Fin 1) d b) = (m ((c : Thread nD τ).loc main_arg1) : Vec Ideal S2048x1x4x160 .bf16) (ix4 (sq (grid0.coords t) b) (0 : Fin 1) (hd (grid0.coords t)) d) := by
  have h0 : (grid0.coords t 0).val < 16 := (grid0.coords t 0).isLt
  have h1 : (grid0.coords t 1).val < 4 := (grid0.coords t 1).isLt
  unfold iblk
  refine (View.read_apply _ _).trans ?_
  refine (congrArg (V m c main_v3) (?_ : _ = (ix3 (hd (grid0.coords t)) d (sq (grid0.coords t) b) : S4x160x2048.Idx))).trans ?_
  · funext a
    apply Fin.ext
    match a with
    | ⟨0, _⟩ => show (BitVec.ofNat 32 (grid0.coords t 1).val).toNat * 1 + 1 * 0 = (grid0.coords t 1).val; rw [BitVec.toNat_ofNat]; omega
    | ⟨1, _⟩ => show 0 * 160 + 1 * d.val = d.val; omega
    | ⟨2, _⟩ => show (BitVec.ofNat 32 (grid0.coords t 0).val).toNat * 128 + 1 * b.val = (grid0.coords t 0).val * 128 + b.val; rw [BitVec.toNat_ofNat]; omega
  · rw [V_v3]
    pointwise []

theorem V_v5 (c : Dev nD) : V m c main_v5 = (shapeCast S4x160x2048 (transpose S1x4x160x2048 [1, 2, 3, 0] (m ((c : Thread nD τ).loc main_arg2) : Vec Ideal S2048x1x4x160 .bf16) transposes_S2048x1x4x160_S1x4x160x2048_1_2_3_0) shapeCasts_S1x4x160x2048_S4x160x2048 : Vec Ideal S4x160x2048 .bf16) := by
  show StableHlo.after hostOps0 _ (Proc.devRef .tc main_v5) = _
  unfold hostOps0
  after_results
  try rfl

theorem iblk2 (hO : Ok m) (c : Dev nD) (t : Fin (cfgM m hO).N) (d : Fin 160) (b : Fin 128) :
    iblk m hO c 2 t (ix3 (0 : Fin 1) d b) = (m ((c : Thread nD τ).loc main_arg2) : Vec Ideal S2048x1x4x160 .bf16) (ix4 (sq (grid0.coords t) b) (0 : Fin 1) (hd (grid0.coords t)) d) := by
  have h0 : (grid0.coords t 0).val < 16 := (grid0.coords t 0).isLt
  have h1 : (grid0.coords t 1).val < 4 := (grid0.coords t 1).isLt
  unfold iblk
  refine (View.read_apply _ _).trans ?_
  refine (congrArg (V m c main_v5) (?_ : _ = (ix3 (hd (grid0.coords t)) d (sq (grid0.coords t) b) : S4x160x2048.Idx))).trans ?_
  · funext a
    apply Fin.ext
    match a with
    | ⟨0, _⟩ => show (BitVec.ofNat 32 (grid0.coords t 1).val).toNat * 1 + 1 * 0 = (grid0.coords t 1).val; rw [BitVec.toNat_ofNat]; omega
    | ⟨1, _⟩ => show 0 * 160 + 1 * d.val = d.val; omega
    | ⟨2, _⟩ => show (BitVec.ofNat 32 (grid0.coords t 0).val).toNat * 128 + 1 * b.val = (grid0.coords t 0).val * 128 + b.val; rw [BitVec.toNat_ofNat]; omega
  · rw [V_v5]
    pointwise []

theorem V_v6 (c : Dev nD) : V m c main_v6 = (transpose S4x160x1280 [1, 2, 0] (m ((c : Thread nD τ).loc main_arg3) : Vec Ideal S1280x4x160 .fp8e4m3) transposes_S1280x4x160_S4x160x1280_1_2_0) := by
  show StableHlo.after hostOps0 _ (Proc.devRef .tc main_v6) = _
  unfold hostOps0
  after_results
  try rfl

theorem iblk3 (hO : Ok m) (c : Dev nD) (t : Fin (cfgM m hO).N) (kv : Fin 4) (d : Fin 160) (p : Fin 1280) :
    iblk m hO c 3 t (ix3 kv d p) = (m ((c : Thread nD τ).loc main_arg3) : Vec Ideal S1280x4x160 .fp8e4m3) (ix3 p kv d) := by
  have h0 : (grid0.coords t 0).val < 16 := (grid0.coords t 0).isLt
  have h1 : (grid0.coords t 1).val < 4 := (grid0.coords t 1).isLt
  unfold iblk
  refine (View.read_apply _ _).trans ?_
  refine (congrArg (V m c main_v6) (?_ : _ = (ix3 kv d p : S4x160x1280.Idx))).trans ?_
  · funext a
    apply Fin.ext
    match a with
    | ⟨0, _⟩ => show 0 * 4 + 1 * kv.val = kv.val; omega
    | ⟨1, _⟩ => show 0 * 160 + 1 * d.val = d.val; omega
    | ⟨2, _⟩ => show 0 * 1280 + 1 * p.val = p.val; omega
  · rw [V_v6]
    pointwise []

theorem V_v7 (c : Dev nD) : V m c main_v7 = (transpose S4x160x1280 [1, 2, 0] (m ((c : Thread nD τ).loc main_arg4) : Vec Ideal S1280x4x160 .fp8e4m3) transposes_S1280x4x160_S4x160x1280_1_2_0) := by
  show StableHlo.after hostOps0 _ (Proc.devRef .tc main_v7) = _
  unfold hostOps0
  after_results
  try rfl

theorem iblk4 (hO : Ok m) (c : Dev nD) (t : Fin (cfgM m hO).N) (kv : Fin 4) (d : Fin 160) (p : Fin 1280) :
    iblk m hO c 4 t (ix3 kv d p) = (m ((c : Thread nD τ).loc main_arg4) : Vec Ideal S1280x4x160 .fp8e4m3) (ix3 p kv d) := by
  have h0 : (grid0.coords t 0).val < 16 := (grid0.coords t 0).isLt
  have h1 : (grid0.coords t 1).val < 4 := (grid0.coords t 1).isLt
  unfold iblk
  refine (View.read_apply _ _).trans ?_
  refine (congrArg (V m c main_v7) (?_ : _ = (ix3 kv d p : S4x160x1280.Idx))).trans ?_
  · funext a
    apply Fin.ext
    match a with
    | ⟨0, _⟩ => show 0 * 4 + 1 * kv.val = kv.val; omega
    | ⟨1, _⟩ => show 0 * 160 + 1 * d.val = d.val; omega
    | ⟨2, _⟩ => show 0 * 1280 + 1 * p.val = p.val; omega
  · rw [V_v7]
    pointwise []

theorem V_v8 (c : Dev nD) : V m c main_v8 = (transpose S5x4x1280 [2, 1, 0] (m ((c : Thread nD τ).loc main_arg5) : Vec Ideal S1280x4x5 .i8) transposes_S1280x4x5_S5x4x1280_2_1_0) := by
  show StableHlo.after hostOps0 _ (Proc.devRef .tc main_v8) = _
  unfold hostOps0
  after_results
  try rfl

theorem iblk5 (hO : Ok m) (c : Dev nD) (t : Fin (cfgM m hO).N) (e : Fin 5) (kv : Fin 4) (p : Fin 1280) :
    iblk m hO c 5 t (ix3 e kv p) = (m ((c : Thread nD τ).loc main_arg5) : Vec Ideal S1280x4x5 .i8) (ix3 p kv e) := by
  have h0 : (grid0.coords t 0).val < 16 := (grid0.coords t 0).isLt
  have h1 : (grid0.coords t 1).val < 4 := (grid0.coords t 1).isLt
  unfold iblk
  refine (View.read_apply _ _).trans ?_
  refine (congrArg (V m c main_v8) (?_ : _ = (ix3 e kv p : S5x4x1280.Idx))).trans ?_
  · funext a
    apply Fin.ext
    match a with
    | ⟨0, _⟩ => show 0 * 5 + 1 * e.val = e.val; omega
    | ⟨1, _⟩ => show 0 * 4 + 1 * kv.val = kv.val; omega
    | ⟨2, _⟩ => show 0 * 1280 + 1 * p.val = p.val; omega
  · rw [V_v8]
    pointwise []

theorem V_v9 (c : Dev nD) : V m c main_v9 = (transpose S5x4x1280 [2, 1, 0] (m ((c : Thread nD τ).loc main_arg6) : Vec Ideal S1280x4x5 .i8) transposes_S1280x4x5_S5x4x1280_2_1_0) := by
  show StableHlo.after hostOps0 _ (Proc.devRef .tc main_v9) = _
  unfold hostOps0
  after_results
  try rfl

theorem iblk6 (hO : Ok m) (c : Dev nD) (t : Fin (cfgM m hO).N) (e : Fin 5) (kv : Fin 4) (p : Fin 1280) :
    iblk m hO c 6 t (ix3 e kv p) = (m ((c : Thread nD τ).loc main_arg6) : Vec Ideal S1280x4x5 .i8) (ix3 p kv e) := by
  have h0 : (grid0.coords t 0).val < 16 := (grid0.coords t 0).isLt
  have h1 : (grid0.coords t 1).val < 4 := (grid0.coords t 1).isLt
  unfold iblk
  refine (View.read_apply _ _).trans ?_
  refine (congrArg (V m c main_v9) (?_ : _ = (ix3 e kv p : S5x4x1280.Idx))).trans ?_
  · funext a
    apply Fin.ext
    match a with
    | ⟨0, _⟩ => show 0 * 5 + 1 * e.val = e.val; omega
    | ⟨1, _⟩ => show 0 * 4 + 1 * kv.val = kv.val; omega
    | ⟨2, _⟩ => show 0 * 1280 + 1 * p.val = p.val; omega
  · rw [V_v9]
    pointwise []

theorem V_v10 (c : Dev nD) : V m c main_v10 = (transpose S224x4x160x2048 [1, 2, 3, 0] (m ((c : Thread nD τ).loc main_arg7) : Vec Ideal S2048x224x4x160 .fp8e4m3) transposes_S2048x224x4x160_S224x4x160x2048_1_2_3_0) := by
  show StableHlo.after hostOps0 _ (Proc.devRef .tc main_v10) = _
  unfold hostOps0
  after_results
  try rfl

theorem iblk7 (hO : Ok m) (c : Dev nD) (t : Fin (cfgM m hO).N) (r : Fin 224) (d : Fin 160) (b : Fin 128) :
    iblk m hO c 7 t (ix4 r (0 : Fin 1) d b) = (m ((c : Thread nD τ).loc main_arg7) : Vec Ideal S2048x224x4x160 .fp8e4m3) (ix4 (sq (grid0.coords t) b) r (hd (grid0.coords t)) d) := by
  have h0 : (grid0.coords t 0).val < 16 := (grid0.coords t 0).isLt
  have h1 : (grid0.coords t 1).val < 4 := (grid0.coords t 1).isLt
  unfold iblk
  refine (View.read_apply _ _).trans ?_
  refine (congrArg (V m c main_v10) (?_ : _ = (ix4 r (hd (grid0.coords t)) d (sq (grid0.coords t) b) : S224x4x160x2048.Idx))).trans ?_
  · funext a
    apply Fin.ext
    match a with
    | ⟨0, _⟩ => show 0 * 224 + 1 * r.val = r.val; omega
    | ⟨1, _⟩ => show (BitVec.ofNat 32 (grid0.coords t 1).val).toNat * 1 + 1 * 0 = (grid0.coords t 1).val; rw [BitVec.toNat_ofNat]; omega
    | ⟨2, _⟩ => show 0 * 160 + 1 * d.val = d.val; omega
    | ⟨3, _⟩ => show (BitVec.ofNat 32 (grid0.coords t 0).val).toNat * 128 + 1 * b.val = (grid0.coords t 0).val * 128 + b.val; rw [BitVec.toNat_ofNat]; omega
  · rw [V_v10]
    pointwise []

theorem V_v11 (c : Dev nD) : V m c main_v11 = (transpose S224x4x160x2048 [1, 2, 3, 0] (m ((c : Thread nD τ).loc main_arg8) : Vec Ideal S2048x224x4x160 .fp8e4m3) transposes_S2048x224x4x160_S224x4x160x2048_1_2_3_0) := by
  show StableHlo.after hostOps0 _ (Proc.devRef .tc main_v11) = _
  unfold hostOps0
  after_results
  try rfl

theorem iblk8 (hO : Ok m) (c : Dev nD) (t : Fin (cfgM m hO).N) (r : Fin 224) (d : Fin 160) (b : Fin 128) :
    iblk m hO c 8 t (ix4 r (0 : Fin 1) d b) = (m ((c : Thread nD τ).loc main_arg8) : Vec Ideal S2048x224x4x160 .fp8e4m3) (ix4 (sq (grid0.coords t) b) r (hd (grid0.coords t)) d) := by
  have h0 : (grid0.coords t 0).val < 16 := (grid0.coords t 0).isLt
  have h1 : (grid0.coords t 1).val < 4 := (grid0.coords t 1).isLt
  unfold iblk
  refine (View.read_apply _ _).trans ?_
  refine (congrArg (V m c main_v11) (?_ : _ = (ix4 r (hd (grid0.coords t)) d (sq (grid0.coords t) b) : S224x4x160x2048.Idx))).trans ?_
  · funext a
    apply Fin.ext
    match a with
    | ⟨0, _⟩ => show 0 * 224 + 1 * r.val = r.val; omega
    | ⟨1, _⟩ => show (BitVec.ofNat 32 (grid0.coords t 1).val).toNat * 1 + 1 * 0 = (grid0.coords t 1).val; rw [BitVec.toNat_ofNat]; omega
    | ⟨2, _⟩ => show 0 * 160 + 1 * d.val = d.val; omega
    | ⟨3, _⟩ => show (BitVec.ofNat 32 (grid0.coords t 0).val).toNat * 128 + 1 * b.val = (grid0.coords t 0).val * 128 + b.val; rw [BitVec.toNat_ofNat]; omega
  · rw [V_v11]
    pointwise []

theorem V_v12 (c : Dev nD) : V m c main_v12 = (transpose S224x4x2048 [1, 2, 0] (m ((c : Thread nD τ).loc main_arg9) : Vec Ideal S2048x224x4 .f32) transposes_S2048x224x4_S224x4x2048_1_2_0) := by
  show StableHlo.after hostOps0 _ (Proc.devRef .tc main_v12) = _
  unfold hostOps0
  after_results
  try rfl

theorem iblk9 (hO : Ok m) (c : Dev nD) (t : Fin (cfgM m hO).N) (r : Fin 224) (kv : Fin 4) (b : Fin 128) :
    iblk m hO c 9 t (ix3 r kv b) = (m ((c : Thread nD τ).loc main_arg9) : Vec Ideal S2048x224x4 .f32) (ix3 (sq (grid0.coords t) b) r kv) := by
  have h0 : (grid0.coords t 0).val < 16 := (grid0.coords t 0).isLt
  have h1 : (grid0.coords t 1).val < 4 := (grid0.coords t 1).isLt
  unfold iblk
  refine (View.read_apply _ _).trans ?_
  refine (congrArg (V m c main_v12) (?_ : _ = (ix3 r kv (sq (grid0.coords t) b) : S224x4x2048.Idx))).trans ?_
  · funext a
    apply Fin.ext
    match a with
    | ⟨0, _⟩ => show 0 * 224 + 1 * r.val = r.val; omega
    | ⟨1, _⟩ => show 0 * 4 + 1 * kv.val = kv.val; omega
    | ⟨2, _⟩ => show (BitVec.ofNat 32 (grid0.coords t 0).val).toNat * 128 + 1 * b.val = (grid0.coords t 0).val * 128 + b.val; rw [BitVec.toNat_ofNat]; omega
  · rw [V_v12]
    pointwise []

theorem V_v13 (c : Dev nD) : V m c main_v13 = (transpose S224x4x2048 [1, 2, 0] (m ((c : Thread nD τ).loc main_arg10) : Vec Ideal S2048x224x4 .f32) transposes_S2048x224x4_S224x4x2048_1_2_0) := by
  show StableHlo.after hostOps0 _ (Proc.devRef .tc main_v13) = _
  unfold hostOps0
  after_results
  try rfl

theorem iblk10 (hO : Ok m) (c : Dev nD) (t : Fin (cfgM m hO).N) (r : Fin 224) (kv : Fin 4) (b : Fin 128) :
    iblk m hO c 10 t (ix3 r kv b) = (m ((c : Thread nD τ).loc main_arg10) : Vec Ideal S2048x224x4 .f32) (ix3 (sq (grid0.coords t) b) r kv) := by
  have h0 : (grid0.coords t 0).val < 16 := (grid0.coords t 0).isLt
  have h1 : (grid0.coords t 1).val < 4 := (grid0.coords t 1).isLt
  unfold iblk
  refine (View.read_apply _ _).trans ?_
  refine (congrArg (V m c main_v13) (?_ : _ = (ix3 r kv (sq (grid0.coords t) b) : S224x4x2048.Idx))).trans ?_
  · funext a
    apply Fin.ext
    match a with
    | ⟨0, _⟩ => show 0 * 224 + 1 * r.val = r.val; omega
    | ⟨1, _⟩ => show 0 * 4 + 1 * kv.val = kv.val; omega
    | ⟨2, _⟩ => show (BitVec.ofNat 32 (grid0.coords t 0).val).toNat * 128 + 1 * b.val = (grid0.coords t 0).val * 128 + b.val; rw [BitVec.toNat_ofNat]; omega
  · rw [V_v13]
    pointwise []

end Cert.KernelIdeal.Gen.Val
-- ==== Proof.Value.Comb.lean ====
/- The kernel against the reference, place by place: a scale code weighs what the reference says, a point's output block holds
   the reference's rows, and the blocks cover the output array. -/
module

public import proofs.«01_k».proof.Proof.Value.RefRow
public import proofs.«01_k».proof.Proof.Value.Frame
public import proofs.«01_k».proof.Proof.Value.Win

@[expose] public section

set_option maxRecDepth 16384

noncomputable section

namespace Cert.KernelIdeal.Gen.Val

open Idealize.ShloMosaic Idealize.ShloMosaic.TcCoe Idealize.ShloMosaic.Tactic Cert.Softmax
open Cert.ReferenceIdeal.Read (wt sp sn st)

theorem code_exp : ∀ e : BitVec 8, ((e.setWidth 32) <<< (23#32)).extractLsb' 23 8 = e := by decide +kernel
theorem code_frac : ∀ e : BitVec 8, ((e.setWidth 32) <<< (23#32)).extractLsb' 0 23 = 0#23 := by decide +kernel
theorem code_sign : ∀ e : BitVec 8, (((e.setWidth 32) <<< (23#32)).extractLsb' 31 1 == 1#1) = false := by decide +kernel
theorem code_int : ∀ e : BitVec 8, (e.setWidth 32 - 127#32).toInt = (e.toNat : ℤ) - 127 := by decide +kernel

theorem sc8_eq_wt (e : BitVec 8) (h1 : 1 ≤ e.toNat) (h2 : e.toNat ≤ 254) : sc8 e = wt e := by
  have hs : IntOp.shli .vector (e.setWidth 32) 23#32 = (e.setWidth 32) <<< (23#32) := if_pos (by decide)
  unfold sc8 wt
  rw [hs, code_int]
  show Ideal.ieee 8 23 _ = (Real.rpow 2 _ : EReal)
  unfold Ideal.ieee
  simp only [code_exp, code_frac, show (8 + 23 : ℕ) = 31 from rfl, code_sign]
  rw [if_neg (by omega), if_neg (by omega)]
  refine congrArg _ ?_
  rw [show Real.rpow 2 ((((e.toNat : ℤ) - 127 : ℤ) : ℝ)) = (2 : ℝ) ^ ((e.toNat : ℤ) - 127) from Real.rpow_intCast 2 _]
  rw [show ((e.toNat : ℤ) - 127) = 23 + ((e.toNat : ℤ) - (2 ^ (8 - 1) - 1) - (23 : ℕ)) by norm_num, zpow_add₀ (by norm_num)]
  norm_num

variable (m : (ℓ : Loc nD τ sig) → Buf (Elt Ideal) ℓ)

theorem nOf_eq (c : Dev nD) (i : grid0.Coords) (b : Fin 128) : nOf c i (tbl m 0) b = (m ((c : Thread nD τ).loc main_arg11) : Vec Ideal S2048 .i32) (ix1 (sq i b)) := by
  have h0 : (i 0).val < 16 := (i 0).isLt
  obtain rfl : c = 0 := Subsingleton.elim _ _
  unfold nOf seqLen
  refine (View.readAt_apply _ _ _).trans ?_
  refine (View.read_apply _ _).trans ?_
  refine (congrArg (tbl m 0) (?_ : _ = (ix1 (sq i b) : S2048.Idx))).trans ?_
  · funext a
    apply Fin.ext
    match a with
    | ⟨0, _⟩ =>
      show (k0_off15 i (⟨b.val, b.isLt⟩ : Fin k0_t4_loop.trips)) 0 + 1 * 0 = (i 0).val * 128 + b.val
      rw [k0_off15_eq]
      show 128 * (i 0).val + b.val + 1 * 0 = _
      omega
  · exact congrFun (V_main_arg11 m 0) _

theorem tail4_lt (x : Vec Ideal S224x1x160x128 .fp8e4m3) (b : Fin 128) (d : Fin 160) (t : Fin 224) (h : 224 ≤ 256) :
    tail4 x b d (t.castLE h) = x (ix4 t (0 : Fin 1) d b) := dif_pos t.isLt

theorem tail3_lt (x : Vec Ideal S224x4x128 .f32) (kv : Fin 4) (b : Fin 128) (t : Fin 224) (h : 224 ≤ 256) :
    tail3 x kv b (t.castLE h) = x (ix3 t kv b) := dif_pos t.isLt

/-- One place of the output: the kernel's row over blocks of the arguments is the reference's row over the arguments. -/
theorem row_eq (a0 : Vec Ideal S2048x1x48x160 .bf16) (a1 a2 : Vec Ideal S2048x1x4x160 .bf16) (a3 a4 : Vec Ideal S1280x4x160 .fp8e4m3) (a5 a6 : Vec Ideal S1280x4x5 .i8)
    (a7 a8 : Vec Ideal S2048x224x4x160 .fp8e4m3) (a9 a10 : Vec Ideal S2048x224x4 .f32) (a11 : Vec Ideal S2048 .i32)
    (x0 : Vec Ideal S12x160x128 .bf16) (x1 x2 : Vec Ideal S1x160x128 .bf16) (x3 x4 : Vec Ideal S4x160x1280 .fp8e4m3) (x5 x6 : Vec Ideal S5x4x1280 .i8)
    (x7 x8 : Vec Ideal S224x1x160x128 .fp8e4m3) (x9 x10 : Vec Ideal S224x4x128 .f32) (n : BitVec 32)
    (q : Fin 2048) (kv : Fin 4) (b : Fin 128) (g : Fin 12) (d : Fin 160)
    (e0 : Vec Ideal Cert.ReferenceIdeal.S_ .f32) (he : e0 Idealize.ShloMosaic.ix0 = (((Real.sqrt 160)⁻¹ : ℝ) : EReal))
    (h5 : ∀ j, 1 ≤ (a5 j : BitVec 8).toNat ∧ (a5 j : BitVec 8).toNat ≤ 254)
    (h6 : ∀ j, 1 ≤ (a6 j : BitVec 8).toNat ∧ (a6 j : BitVec 8).toNat ≤ 254)
    (hn : n.toInt ≤ 224) (hx : n = a11 (ix1 q))
    (w0 : ∀ g d, x0 (ix3 g d b) = a0 (ix4 q (0 : Fin 1) (qh kv g) d))
    (w1 : ∀ d, x1 (ix3 (0 : Fin 1) d b) = a1 (ix4 q (0 : Fin 1) kv d)) (w2 : ∀ d, x2 (ix3 (0 : Fin 1) d b) = a2 (ix4 q (0 : Fin 1) kv d))
    (w3 : ∀ kv d p, x3 (ix3 kv d p) = a3 (ix3 p kv d)) (w4 : ∀ kv d p, x4 (ix3 kv d p) = a4 (ix3 p kv d))
    (w5 : ∀ e kv p, x5 (ix3 e kv p) = a5 (ix3 p kv e)) (w6 : ∀ e kv p, x6 (ix3 e kv p) = a6 (ix3 p kv e))
    (w7 : ∀ r d, x7 (ix4 r (0 : Fin 1) d b) = a7 (ix4 q r kv d)) (w8 : ∀ r d, x8 (ix4 r (0 : Fin 1) d b) = a8 (ix4 q r kv d))
    (w9 : ∀ r, x9 (ix3 r kv b) = a9 (ix3 q r kv)) (w10 : ∀ r, x10 (ix3 r kv b) = a10 (ix3 q r kv)) :
    blkRow x0 x1 x2 (prep x3 x5) (prep x4 x6) x7 x8 x9 x10 n kv b g d
      = rRow (sp a0 a5 (fun j => a3 j) e0 q kv g) (sn a0 a1 e0 q kv g) (st a0 a9 a11 (fun j => a7 j) e0 q kv g)
          (fun p => (a4 (ix3 p kv d) : EReal) * wt (a6 (ix3 p kv (⟨d.val / 32, by omega⟩ : Fin 5))))
          (a2 (ix4 q (0 : Fin 1) kv d)) (fun r => a10 (ix3 q r kv)) (fun r => a8 (ix4 q r kv d)) := by
  have hsl : sl2 = e0 Idealize.ShloMosaic.ix0 * (β : EReal) := by rw [he, ← EReal.coe_mul]; rfl
  have hV : (fun p => prep x4 x6 (ix3 kv d p)) = (fun p => (a4 (ix3 p kv d) : EReal) * wt (a6 (ix3 p kv (⟨d.val / 32, by omega⟩ : Fin 5)))) := by
    funext p
    exact congrArg₂ (fun u v : EReal => u * v) (w4 _ _ _) ((congrArg sc8 (w6 _ _ _)).trans (sc8_eq_wt _ (h6 _).1 (h6 _).2))
  have hK : ∀ d' p, prep x3 x5 (ix3 kv d' p) = (a3 (ix3 p kv d') : EReal) * wt (a5 (ix3 p kv (⟨d'.val / 32, by omega⟩ : Fin 5))) := by
    intro d' p
    exact congrArg₂ (fun u v : EReal => u * v) (w3 _ _ _) ((congrArg sc8 (w5 _ _ _)).trans (sc8_eq_wt _ (h5 _).1 (h5 _).2))
  unfold blkRow
  rw [hV, w2]
  refine kRow_eq_rRow _ _ _ _ _ _ _ _ _ _ _ _ _ (fun r h => by omega) ?_ ?_ ?_ ?_ ?_ ?_ ?_
  · intro p
    unfold sp
    rw [hsl, ← mul_assoc]
    refine congrArg (fun u : EReal => u * e0 Idealize.ShloMosaic.ix0 * (β : EReal)) (Finset.sum_congr rfl fun d' _ => ?_)
    rw [hK, w0]
    exact mul_comm _ _
  · unfold sn
    rw [hsl, ← mul_assoc]
    refine congrArg (fun u : EReal => u * e0 Idealize.ShloMosaic.ix0 * (β : EReal)) (Finset.sum_congr rfl fun d' _ => ?_)
    rw [w1, w0]
    exact mul_comm _ _
  · intro r
    unfold st stOf
    rw [hx]
    show (if (r.val : ℤ) < _ then _ else _) = _
    by_cases hr : (r.val : ℤ) < (a11 (ix1 q) : BitVec 32).toInt
    · rw [if_pos hr, if_pos hr]; dsimp only; rw [tail3_lt, w9, hsl, ← mul_assoc (a9 _), ← mul_assoc]
      refine congrArg (fun u : EReal => u * (a9 (ix3 q r kv) * e0 Idealize.ShloMosaic.ix0) * (β : EReal)) (Finset.sum_congr rfl fun d' _ => ?_)
      rw [tail4_lt, w7, w0]
      exact mul_comm _ _
    · rw [if_neg hr, if_neg hr]
      exact (EReal.bot_mul_coe_of_pos β_pos).symm
  · intro r h
    exact if_neg (by omega)
  · intro r _
    rw [tail3_lt, w10]
  · intro r
    rw [tail4_lt, w8]
  · intro r h
    refine if_neg ?_
    rw [← hx]
    exact h

variable (e0 : Vec Ideal Cert.ReferenceIdeal.S_ .f32)

/-- The result array the reference computes from the arguments. -/
def res (c : Dev nD) : Vec Ideal S2048x7680 .bf16 :=
  Cert.ReferenceIdeal.Read.val_main_v106 (F := Ideal) (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg9)) (m ((c : Thread nD τ).loc main_arg10)) (m ((c : Thread nD τ).loc main_arg11))
    (fun j => (m ((c : Thread nD τ).loc main_arg3) : Vec Ideal S1280x4x160 .fp8e4m3) j) (fun j => (m ((c : Thread nD τ).loc main_arg4) : Vec Ideal S1280x4x160 .fp8e4m3) j)
    (fun j => (m ((c : Thread nD τ).loc main_arg7) : Vec Ideal S2048x224x4x160 .fp8e4m3) j) (fun j => (m ((c : Thread nD τ).loc main_arg8) : Vec Ideal S2048x224x4x160 .fp8e4m3) j) e0

/-- Where a place of the output block lies in the output array. -/
def place (i : grid0.Coords) (y : S128x1920.Idx) : S2048x7680.Idx :=
  ix2 (sq i (y (0 : Fin 2))) (⟨(i 1).val * 1920 + (y (1 : Fin 2)).val, by
    have h : (y (1 : Fin 2)).val < 1920 := (y (1 : Fin 2)).isLt
    have h1 : (i 1).val < 4 := (i 1).isLt
    omega⟩ : Fin 7680)

theorem emb11 (hO : Ok m) (t : Fin (cfgM m hO).N) (y : S128x1920.Idx) :
    (((cfgM m hO).win 11).blk t).view.emb y = place (grid0.coords t) y := by
  have h0 : (grid0.coords t 0).val < 16 := (grid0.coords t 0).isLt
  have h1 : (grid0.coords t 1).val < 4 := (grid0.coords t 1).isLt
  funext a
  apply Fin.ext
  match a with
  | ⟨0, _⟩ => show (BitVec.ofNat 32 (grid0.coords t 0).val).toNat * 128 + 1 * (y (0 : Fin 2)).val = (grid0.coords t 0).val * 128 + (y (0 : Fin 2)).val; rw [BitVec.toNat_ofNat]; omega
  | ⟨1, _⟩ => show (BitVec.ofNat 32 (grid0.coords t 1).val).toNat * 1920 + 1 * (y (1 : Fin 2)).val = (grid0.coords t 1).val * 1920 + (y (1 : Fin 2)).val; rw [BitVec.toNat_ofNat]; omega

section
variable (he : e0 Idealize.ShloMosaic.ix0 = (((Real.sqrt 160)⁻¹ : ℝ) : EReal))
  (h5 : ∀ (c : Dev nD) (j : S1280x4x5.Idx), 1 ≤ ((m ((c : Thread nD τ).loc main_arg5) : Vec Ideal S1280x4x5 .i8) j : BitVec 8).toNat ∧ ((m ((c : Thread nD τ).loc main_arg5) : Vec Ideal S1280x4x5 .i8) j : BitVec 8).toNat ≤ 254)
  (h6 : ∀ (c : Dev nD) (j : S1280x4x5.Idx), 1 ≤ ((m ((c : Thread nD τ).loc main_arg6) : Vec Ideal S1280x4x5 .i8) j : BitVec 8).toNat ∧ ((m ((c : Thread nD τ).loc main_arg6) : Vec Ideal S1280x4x5 .i8) j : BitVec 8).toNat ≤ 254)
  (hn : ∀ (c : Dev nD) (j : S2048.Idx), ((m ((c : Thread nD τ).loc main_arg11) : Vec Ideal S2048 .i32) j : BitVec 32).toInt ≤ 224)

include hn in
theorem lens_le (c : Dev nD) (i : grid0.Coords) (b : Fin 128) : (nOf c i (tbl m 0) b).toInt ≤ 224 := by
  rw [nOf_eq]
  exact hn c _

include he h5 h6 hn in
/-- A point's output block is the block of the reference's result that the point writes. -/
theorem oBlk_eq (hO : Ok m) (c : Dev nD) (t : Fin (cfgM m hO).N) (y : S128x1920.Idx) :
    oBlk m hO c t y = res m e0 c (place (grid0.coords t) y) := by
  have h1 : (grid0.coords t 1).val < 4 := (grid0.coords t 1).isLt
  have hy : (y (1 : Fin 2)).val < 1920 := (y (1 : Fin 2)).isLt
  obtain ⟨g, hg⟩ : ∃ g : Fin 12, g.val = (y (1 : Fin 2)).val / 160 := ⟨⟨_, by omega⟩, rfl⟩
  obtain ⟨d, hd'⟩ : ∃ d : Fin 160, d.val = (y (1 : Fin 2)).val % 160 := ⟨⟨_, by omega⟩, rfl⟩
  have hp : place (grid0.coords t) y = ix2 (sq (grid0.coords t) (y (0 : Fin 2))) (⟨((hd (grid0.coords t)).val * 12 + g.val) * 160 + d.val, by have := (hd (grid0.coords t)).isLt; omega⟩ : Fin 7680) := by
    unfold place
    refine congrArg (ix2 (sq (grid0.coords t) (y (0 : Fin 2)))) (Fin.ext ?_)
    show (grid0.coords t 1).val * 1920 + (y (1 : Fin 2)).val = ((grid0.coords t 1).val * 12 + g.val) * 160 + d.val
    omega
  rw [hp]
  unfold res
  refine Eq.trans ?_ (Cert.ReferenceIdeal.Read.r106 _ _ _ _ _ _ _ _ _ _ _ _ e0 (sq (grid0.coords t) (y (0 : Fin 2))) (hd (grid0.coords t)) g d).symm
  refine Eq.trans ?_ (row_eq _ _ _ _ _ _ _ _ _ _ _ _ (iblk m hO c 0 t) (iblk m hO c 1 t) (iblk m hO c 2 t) (iblk m hO c 3 (pt0 m hO)) (iblk m hO c 4 (pt0 m hO)) (iblk m hO c 5 (pt0 m hO)) (iblk m hO c 6 (pt0 m hO))
    (iblk m hO c 7 t) (iblk m hO c 8 t) (iblk m hO c 9 t) (iblk m hO c 10 t) (nOf c (grid0.coords t) (tbl m 0) (y (0 : Fin 2))) (sq (grid0.coords t) (y (0 : Fin 2))) (hd (grid0.coords t)) (y (0 : Fin 2)) g d e0 he (h5 c) (h6 c)
    (lens_le m hn c _ _) (nOf_eq m c _ _) (fun g d => iblk0 m hO c t g d _) (fun d => iblk1 m hO c t d _) (fun d => iblk2 m hO c t d _) (fun kv d p => iblk3 m hO c (pt0 m hO) kv d p) (fun kv d p => iblk4 m hO c (pt0 m hO) kv d p)
    (fun e kv p => iblk5 m hO c (pt0 m hO) e kv p) (fun e kv p => iblk6 m hO c (pt0 m hO) e kv p) (fun r d => iblk7 m hO c t r d _) (fun r d => iblk8 m hO c t r d _) (fun r => iblk9 m hO c t r _ _) (fun r => iblk10 m hO c t r _ _))
  unfold oBlk blk
  rw [show (⟨(y (1 : Fin 2)).val / 160, by omega⟩ : Fin 12) = g from Fin.ext hg.symm, show (⟨(y (1 : Fin 2)).val % 160, by omega⟩ : Fin 160) = d from Fin.ext hd'.symm]
  rfl

include he h5 h6 hn in
/-- The output array after the run is the reference's result. -/
theorem arr_eq (hO : Ok m) (c : Dev nD) : (dats m hO 0 c).arrAt 11 (cfgM m hO).N = res m e0 c := by
  refine (dats m hO 0 c).arrAt_eq_of_cover 11 (res m e0 c) (fun t _ => ?_) (fun z => ?_)
  · show ((cfgM m hO).win 11).cut (grid0.coords t) ((dats m hO 0 c).after 11 t) = _
    rw [after0_11]
    funext y
    refine Eq.trans ?_ (View.read_apply _ _).symm
    refine Eq.trans ?_ (congrArg (res m e0 c) (emb11 m hO t y)).symm
    exact oBlk_eq m e0 he h5 h6 hn hO c t y
  · have hz0 : (z (0 : Fin 2)).val < 2048 := (z (0 : Fin 2)).isLt
    have hz1 : (z (1 : Fin 2)).val < 7680 := (z (1 : Fin 2)).isLt
    have hN : (cfgM m hO).N = 64 := N_0
    obtain ⟨t, ht⟩ : ∃ t : Fin (cfgM m hO).N, t.val = (z (0 : Fin 2)).val / 128 * 4 + (z (1 : Fin 2)).val / 1920 := ⟨⟨_, by omega⟩, rfl⟩
    have c0 : (grid0.coords t 0).val = t.val / 4 % 16 := Pipeline.Grid.coords_val (G := grid0) t 0 (by decide) rfl
    have c1 : (grid0.coords t 1).val = t.val / 1 % 4 := Pipeline.Grid.coords_val (G := grid0) t 1 (by decide) rfl
    refine ⟨t, flush0_11 _ t, ?_⟩
    have h := (((cfgM m hO).win 11).blk t).view.emb_mem_set (ix2 (⟨(z (0 : Fin 2)).val % 128, by omega⟩ : Fin 128) (⟨(z (1 : Fin 2)).val % 1920, by omega⟩ : Fin 1920) : S128x1920.Idx)
    rw [emb11] at h
    refine (congrArg (· ∈ (((cfgM m hO).win 11).blk t).view.set) ?_).mp h
    funext a
    apply Fin.ext
    match a with
    | ⟨0, _⟩ => show (grid0.coords t 0).val * 128 + (z (0 : Fin 2)).val % 128 = (z (0 : Fin 2)).val; omega
    | ⟨1, _⟩ => show (grid0.coords t 1).val * 1920 + (z (1 : Fin 2)).val % 1920 = (z (1 : Fin 2)).val; omega

end

end Cert.KernelIdeal.Gen.Val

end
-- ==== Proof.Value.KRun.lean ====
/- The kernel's run at the result the reference computes. -/
module

public import proofs.«01_k».proof.Proof.Value.Comb

@[expose] public section

noncomputable section

namespace Cert.KernelIdeal.Gen.Val

open Idealize.ShloMosaic Idealize.ShloMosaic.TcCoe Idealize.ShloMosaic.Tactic Idealize.SL.Sem

variable (m : (ℓ : Loc nD τ sig) → Buf (Elt Ideal) ℓ) (ρ : Dev nD → PrngReg)
variable (e0 : Vec Ideal Cert.ReferenceIdeal.S_ .f32)
variable (he : e0 Idealize.ShloMosaic.ix0 = (((Real.sqrt 160)⁻¹ : ℝ) : EReal))
  (h5 : ∀ (c : Dev nD) (j : S1280x4x5.Idx), 1 ≤ ((m ((c : Thread nD τ).loc main_arg5) : Vec Ideal S1280x4x5 .i8) j : BitVec 8).toNat ∧ ((m ((c : Thread nD τ).loc main_arg5) : Vec Ideal S1280x4x5 .i8) j : BitVec 8).toNat ≤ 254)
  (h6 : ∀ (c : Dev nD) (j : S1280x4x5.Idx), 1 ≤ ((m ((c : Thread nD τ).loc main_arg6) : Vec Ideal S1280x4x5 .i8) j : BitVec 8).toNat ∧ ((m ((c : Thread nD τ).loc main_arg6) : Vec Ideal S1280x4x5 .i8) j : BitVec 8).toNat ≤ 254)
  (hn : ∀ (c : Dev nD) (j : S2048.Idx), ((m ((c : Thread nD τ).loc main_arg11) : Vec Ideal S2048 .i32) j : BitVec 32).toInt ≤ 224)

include he h5 h6 hn in
/-- Every execution ends with the result array at the reference's result and the arguments unchanged. -/
theorem kernel_run (hO : Ok m) : θ_run defs (onTc (τ := τ) (main (F := Ideal))) ⟨m, fun _ => 0, ρ⟩ (fun r => ∀ c : Dev nD,
      r.2.mem ((c.tc : Thread nD τ).loc main_v14) = res m e0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (arr_eq m e0 he h5 h6 hn hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c)⟩) (run_main m ρ hO (fun c i b => lens_le m hn c i b))

end Cert.KernelIdeal.Gen.Val

end
-- ==== Proof.Value.Wide.lean ====
/- The reference's one kernel region widens four code arrays; over the reals it leaves each array as it found it. -/
module

public import proofs.«01_k».proof.Proof.Gen.ReferenceIdeal.Run
public import Idealize.ShloMosaic.Lib.Pipeline.Value
public import Idealize.ShloMosaic.Lib.Pointwise
public import Idealize.ShloMosaic.PureOps.Ideal

@[expose] public section

set_option maxRecDepth 16384

noncomputable section

namespace Cert.ReferenceIdeal.Wide

open Idealize.ShloMosaic Idealize.SL.Sem Cert.ReferenceIdeal
open Cert.ReferenceIdeal.Gen Idealize.ShloMosaic.TcCoe
open Idealize.ShloMosaic.Pipeline (Dat Cfg Window)

variable (m : (ℓ : Loc nD τ sig) → Buf (Elt Ideal) ℓ)

/-- The one grid point. -/
def t₀ : Fin cfg0.N := ⟨0, by decide⟩

theorem final_out4 (c : Dev nD) :
    ((cfg0.win (4 : Fin 8)).blk t₀).view.read (Elt Ideal) ((dats (F := Ideal) m 0 c).arrAt (4 : Fin 8) cfg0.N)
      = (dats (F := Ideal) m 0 c).flushed (4 : Fin 8) t₀ := by
  rw [show cfg0.N = (t₀ : Fin cfg0.N).val + 1 from rfl, (dats (F := Ideal) m 0 c).arrAt_succ (4 : Fin 8) t₀]
  rw [show (cfg0.win (4 : Fin 8)).flush t₀ = true from by decide, if_pos rfl]
  exact View.read_write_univ _ _

theorem out_eq4 (x0 x1 : Vec Ideal S1280x4x160 .fp8e4m3) (x2 x3 : Vec Ideal S2048x224x4x160 .fp8e4m3) : out0_4 (F := Ideal) x0 x1 x2 x3 = fun j => x0 j := by
  have hz : (![0, 0, 0] : Fin S1280x4x160.rank → Nat) = fun _ => 0 := funext fun a => by fin_cases a <;> rfl
  unfold out0_4
  rw [View.canon_unit_zero hz, View.ld_unit_zero hz]
  rfl

/-- The array of codes, widened: the same reals. -/
theorem reg4 (c : Dev nD) :
    Value.reg_main_v2_0 (F := Ideal) m c = fun j => (m ((c : Thread nD τ).loc main_arg3) : Vec Ideal S1280x4x160 .fp8e4m3) j := by
  unfold Value.reg_main_v2_0
  have ho := final_out4 m c
  have hz : (fun a => (win0_4.index t₀) a * main_v2_0.ty.shape.size a) = fun _ => 0 := funext fun a => by fin_cases a <;> decide
  have hr := fun f => Memref.read_access_unit_zero (Elt Ideal) main_v2_0 hz (fun a => by fin_cases a <;> decide) f
  have hz' : (fun a => (win0_0.index t₀) a * main_arg3.ty.shape.size a) = fun _ => 0 := funext fun a => by fin_cases a <;> decide
  have hr' := fun f => Memref.read_access_unit_zero (Elt Ideal) main_arg3 hz' (fun a => by fin_cases a <;> decide) f
  rw [hr] at ho
  rw [ho]
  show (cfg0.win (4 : Fin 8)).cut _ ((dats (F := Ideal) m 0 c).after 4 t₀) = _
  rw [after0_4, out_eq4]
  unfold iblk
  exact funext fun j => congrFun ((hr' (V m c main_arg3)).trans (V_main_arg3 m c)) j

theorem final_out5 (c : Dev nD) :
    ((cfg0.win (5 : Fin 8)).blk t₀).view.read (Elt Ideal) ((dats (F := Ideal) m 0 c).arrAt (5 : Fin 8) cfg0.N)
      = (dats (F := Ideal) m 0 c).flushed (5 : Fin 8) t₀ := by
  rw [show cfg0.N = (t₀ : Fin cfg0.N).val + 1 from rfl, (dats (F := Ideal) m 0 c).arrAt_succ (5 : Fin 8) t₀]
  rw [show (cfg0.win (5 : Fin 8)).flush t₀ = true from by decide, if_pos rfl]
  exact View.read_write_univ _ _

theorem out_eq5 (x0 x1 : Vec Ideal S1280x4x160 .fp8e4m3) (x2 x3 : Vec Ideal S2048x224x4x160 .fp8e4m3) : out0_5 (F := Ideal) x0 x1 x2 x3 = fun j => x1 j := by
  have hz : (![0, 0, 0] : Fin S1280x4x160.rank → Nat) = fun _ => 0 := funext fun a => by fin_cases a <;> rfl
  unfold out0_5
  rw [View.canon_unit_zero hz, View.ld_unit_zero hz]
  rfl

/-- The array of codes, widened: the same reals. -/
theorem reg5 (c : Dev nD) :
    Value.reg_main_v2_1 (F := Ideal) m c = fun j => (m ((c : Thread nD τ).loc main_arg4) : Vec Ideal S1280x4x160 .fp8e4m3) j := by
  unfold Value.reg_main_v2_1
  have ho := final_out5 m c
  have hz : (fun a => (win0_5.index t₀) a * main_v2_1.ty.shape.size a) = fun _ => 0 := funext fun a => by fin_cases a <;> decide
  have hr := fun f => Memref.read_access_unit_zero (Elt Ideal) main_v2_1 hz (fun a => by fin_cases a <;> decide) f
  have hz' : (fun a => (win0_1.index t₀) a * main_arg4.ty.shape.size a) = fun _ => 0 := funext fun a => by fin_cases a <;> decide
  have hr' := fun f => Memref.read_access_unit_zero (Elt Ideal) main_arg4 hz' (fun a => by fin_cases a <;> decide) f
  rw [hr] at ho
  rw [ho]
  show (cfg0.win (5 : Fin 8)).cut _ ((dats (F := Ideal) m 0 c).after 5 t₀) = _
  rw [after0_5, out_eq5]
  unfold iblk
  exact funext fun j => congrFun ((hr' (V m c main_arg4)).trans (V_main_arg4 m c)) j

theorem final_out6 (c : Dev nD) :
    ((cfg0.win (6 : Fin 8)).blk t₀).view.read (Elt Ideal) ((dats (F := Ideal) m 0 c).arrAt (6 : Fin 8) cfg0.N)
      = (dats (F := Ideal) m 0 c).flushed (6 : Fin 8) t₀ := by
  rw [show cfg0.N = (t₀ : Fin cfg0.N).val + 1 from rfl, (dats (F := Ideal) m 0 c).arrAt_succ (6 : Fin 8) t₀]
  rw [show (cfg0.win (6 : Fin 8)).flush t₀ = true from by decide, if_pos rfl]
  exact View.read_write_univ _ _

theorem out_eq6 (x0 x1 : Vec Ideal S1280x4x160 .fp8e4m3) (x2 x3 : Vec Ideal S2048x224x4x160 .fp8e4m3) : out0_6 (F := Ideal) x0 x1 x2 x3 = fun j => x2 j := by
  have hz : (![0, 0, 0, 0] : Fin S2048x224x4x160.rank → Nat) = fun _ => 0 := funext fun a => by fin_cases a <;> rfl
  unfold out0_6
  rw [View.canon_unit_zero hz, View.ld_unit_zero hz]
  rfl

/-- The array of codes, widened: the same reals. -/
theorem reg6 (c : Dev nD) :
    Value.reg_main_v2_2 (F := Ideal) m c = fun j => (m ((c : Thread nD τ).loc main_arg7) : Vec Ideal S2048x224x4x160 .fp8e4m3) j := by
  unfold Value.reg_main_v2_2
  have ho := final_out6 m c
  have hz : (fun a => (win0_6.index t₀) a * main_v2_2.ty.shape.size a) = fun _ => 0 := funext fun a => by fin_cases a <;> decide
  have hr := fun f => Memref.read_access_unit_zero (Elt Ideal) main_v2_2 hz (fun a => by fin_cases a <;> decide) f
  have hz' : (fun a => (win0_2.index t₀) a * main_arg7.ty.shape.size a) = fun _ => 0 := funext fun a => by fin_cases a <;> decide
  have hr' := fun f => Memref.read_access_unit_zero (Elt Ideal) main_arg7 hz' (fun a => by fin_cases a <;> decide) f
  rw [hr] at ho
  rw [ho]
  show (cfg0.win (6 : Fin 8)).cut _ ((dats (F := Ideal) m 0 c).after 6 t₀) = _
  rw [after0_6, out_eq6]
  unfold iblk
  exact funext fun j => congrFun ((hr' (V m c main_arg7)).trans (V_main_arg7 m c)) j

theorem final_out7 (c : Dev nD) :
    ((cfg0.win (7 : Fin 8)).blk t₀).view.read (Elt Ideal) ((dats (F := Ideal) m 0 c).arrAt (7 : Fin 8) cfg0.N)
      = (dats (F := Ideal) m 0 c).flushed (7 : Fin 8) t₀ := by
  rw [show cfg0.N = (t₀ : Fin cfg0.N).val + 1 from rfl, (dats (F := Ideal) m 0 c).arrAt_succ (7 : Fin 8) t₀]
  rw [show (cfg0.win (7 : Fin 8)).flush t₀ = true from by decide, if_pos rfl]
  exact View.read_write_univ _ _

theorem out_eq7 (x0 x1 : Vec Ideal S1280x4x160 .fp8e4m3) (x2 x3 : Vec Ideal S2048x224x4x160 .fp8e4m3) : out0_7 (F := Ideal) x0 x1 x2 x3 = fun j => x3 j := by
  have hz : (![0, 0, 0, 0] : Fin S2048x224x4x160.rank → Nat) = fun _ => 0 := funext fun a => by fin_cases a <;> rfl
  unfold out0_7
  rw [View.canon_unit_zero hz, View.ld_unit_zero hz]
  rfl

/-- The array of codes, widened: the same reals. -/
theorem reg7 (c : Dev nD) :
    Value.reg_main_v2_3 (F := Ideal) m c = fun j => (m ((c : Thread nD τ).loc main_arg8) : Vec Ideal S2048x224x4x160 .fp8e4m3) j := by
  unfold Value.reg_main_v2_3
  have ho := final_out7 m c
  have hz : (fun a => (win0_7.index t₀) a * main_v2_3.ty.shape.size a) = fun _ => 0 := funext fun a => by fin_cases a <;> decide
  have hr := fun f => Memref.read_access_unit_zero (Elt Ideal) main_v2_3 hz (fun a => by fin_cases a <;> decide) f
  have hz' : (fun a => (win0_3.index t₀) a * main_arg8.ty.shape.size a) = fun _ => 0 := funext fun a => by fin_cases a <;> decide
  have hr' := fun f => Memref.read_access_unit_zero (Elt Ideal) main_arg8 hz' (fun a => by fin_cases a <;> decide) f
  rw [hr] at ho
  rw [ho]
  show (cfg0.win (7 : Fin 8)).cut _ ((dats (F := Ideal) m 0 c).after 7 t₀) = _
  rw [after0_7, out_eq7]
  unfold iblk
  exact funext fun j => congrFun ((hr' (V m c main_arg8)).trans (V_main_arg8 m c)) j

end Cert.ReferenceIdeal.Wide

end
-- ==== Proof.Value.RRun.lean ====
/- The reference's run: the result array is `val_main_v106` of the arguments, the code arrays read as they are. -/
module

public import proofs.«01_k».proof.Proof.Value.Wide
public import proofs.«01_k».proof.Proof.Value.RefRow

@[expose] public section

set_option maxRecDepth 16384

noncomputable section

namespace Cert.ReferenceIdeal.Wide

open Idealize.ShloMosaic Idealize.ShloMosaic.TcCoe Idealize.SL.Sem Cert.ReferenceIdeal

/-- The score scale as the reference computes it. -/
def scale0 : Vec Ideal S_ .f32 := Host.divf (F := Ideal) (constant S_ .f32 0x3F800000#32) (Host.sqrt (constant S_ .f32 0x43200000#32))

theorem scale0_eq : scale0 ix0 = (((Real.sqrt 160)⁻¹ : ℝ) : EReal) := by
  have h2 : Ideal.ofBits .f32 0x43200000#32 = ((160 : ℝ) : EReal) := by
    show Ideal.ieee 8 23 (0x43200000#32) = _
    unfold Ideal.ieee
    rw [if_neg (by decide), if_neg (by decide)]
    simp
    rw [← EReal.coe_mul]
    norm_num
  show Ideal.div (Ideal.ofBits .f32 0x3F800000#32) (Ideal.sqrt (Ideal.ofBits .f32 0x43200000#32)) = _
  rw [Read.one, h2]
  rw [show Ideal.sqrt ((160 : ℝ) : EReal) = ((Real.sqrt 160 : ℝ) : EReal) from if_neg (by norm_num)]
  rw [Ideal.div_coe (by positivity)]
  rw [one_mul, one_div]

variable (m : (ℓ : Loc nD τ sig) → Buf (Elt Ideal) ℓ) (ρ : Dev nD → PrngReg)

def val (c : Dev nD) : Vec Ideal S2048x7680 .bf16 :=
  Read.val_main_v106 (F := Ideal) (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11))
    (fun j => (m ((c.tc : Thread nD τ).loc main_arg3) : Vec Ideal S1280x4x160 .fp8e4m3) j) (fun j => (m ((c.tc : Thread nD τ).loc main_arg4) : Vec Ideal S1280x4x160 .fp8e4m3) j)
    (fun j => (m ((c.tc : Thread nD τ).loc main_arg7) : Vec Ideal S2048x224x4x160 .fp8e4m3) j) (fun j => (m ((c.tc : Thread nD τ).loc main_arg8) : Vec Ideal S2048x224x4x160 .fp8e4m3) j) scale0

theorem exit_val (c : Dev nD) : Read.val_main_v106 (F := Ideal) ((Value.exitV m c) (Proc.devRef .tc main_arg0)) ((Value.exitV m c) (Proc.devRef .tc main_arg1)) ((Value.exitV m c) (Proc.devRef .tc main_arg2))
    ((Value.exitV m c) (Proc.devRef .tc main_arg5)) ((Value.exitV m c) (Proc.devRef .tc main_arg6)) ((Value.exitV m c) (Proc.devRef .tc main_arg9)) ((Value.exitV m c) (Proc.devRef .tc main_arg10)) ((Value.exitV m c) (Proc.devRef .tc main_arg11))
    ((Value.exitV m c) (Proc.devRef .tc main_v2_0)) ((Value.exitV m c) (Proc.devRef .tc main_v2_1)) ((Value.exitV m c) (Proc.devRef .tc main_v2_2)) ((Value.exitV m c) (Proc.devRef .tc main_v2_3)) ((Value.exitV m c) (Proc.devRef .tc main_v1)) = val m c := by
  have e0 := Value.exit_main_arg0 m c
  have e1 := Value.exit_main_arg1 m c
  have e2 := Value.exit_main_arg2 m c
  have e5 := Value.exit_main_arg5 m c
  have e6 := Value.exit_main_arg6 m c
  have e9 := Value.exit_main_arg9 m c
  have e10 := Value.exit_main_arg10 m c
  have e11 := Value.exit_main_arg11 m c
  have r0 := (Value.exit_main_v2_0 m c).trans (reg4 m c)
  have r1 := (Value.exit_main_v2_1 m c).trans (reg5 m c)
  have r2 := (Value.exit_main_v2_2 m c).trans (reg6 m c)
  have r3 := (Value.exit_main_v2_3 m c).trans (reg7 m c)
  have s := Value.exit_main_v1 m c
  exact congr (congr (congr (congr (congr (congr (congr (congr (congr (congr (congr (congr (congrArg (Read.val_main_v106 (F := Ideal)) e0) e1) e2) e5) e6) e9) e10) e11) r0) r1) r2) r3) s

/-- Every execution ends with the result array at that value and the arguments unchanged. -/
theorem ref_run : θ_run defs (onTc (τ := τ) (main (F := Ideal))) ⟨m, fun _ => 0, ρ⟩ (fun r => ∀ c : Dev nD,
      r.2.mem ((c.tc : Thread nD τ).loc main_v106) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans ((Read.val_main_v106_eq (Value.exitV m c)).trans (exit_val m c)), (h c).2⟩) (Value.run (F := Ideal) m ρ)

end Cert.ReferenceIdeal.Wide

end
-- ==== Proof.Value.Alg.lean ====
/- The value claim: under the ranges, the kernel's run and the reference's end at equal results. -/
module

public import proofs.«01_k».proof.Defs
public import proofs.«01_k».proof.Proof.Gen.Kernel
public import proofs.«01_k».proof.Proof.Gen.Pre_ranges
public import proofs.«01_k».proof.Proof.Value.KRun
public import proofs.«01_k».proof.Proof.Value.RRun

@[expose] public section

set_option maxRecDepth 16384

noncomputable section

namespace Cert.Proof

open Idealize.ShloMosaic Idealize.ShloMosaic.TcCoe Idealize.SL.Sem

theorem uge_one : ∀ x : BitVec 8, IntOp.cmpi .uge x 1#8 = 1#1 → 1 ≤ x.toNat := by decide +kernel
theorem ule_254 : ∀ x : BitVec 8, IntOp.cmpi .ule x 254#8 = 1#1 → x.toNat ≤ 254 := by decide +kernel

theorem sle_224 (x : BitVec 32) (h : IntOp.cmpi .sle x 224#32 = 1#1) : x.toInt ≤ 224 := by
  have h' : BitVec.ofBool (x.sle 224#32) = 1#1 := h
  rw [BitVec.sle] at h'
  by_cases hx : x.toInt ≤ (224#32 : BitVec 32).toInt
  · exact hx
  · rw [decide_eq_false hx] at h'
    exact absurd h' (by decide)

/-- What the precondition says, element by element. -/
theorem ranges_of (m : (ℓ : Loc Cert.KernelIdeal.nD Cert.KernelIdeal.τ Cert.KernelIdeal.sig) → Buf (Elt Ideal) ℓ)
    (h : @Cert.Pre_KernelIdeal_ranges Cert.Pre_ranges.Gen.facts m) (c : Dev Cert.KernelIdeal.nD) :
    (∀ j : Cert.KernelIdeal.S1280x4x5.Idx, 1 ≤ ((m ((c : Thread Cert.KernelIdeal.nD Cert.KernelIdeal.τ).loc Cert.KernelIdeal.main_arg5) : Vec Ideal Cert.KernelIdeal.S1280x4x5 .i8) j : BitVec 8).toNat
      ∧ ((m ((c : Thread Cert.KernelIdeal.nD Cert.KernelIdeal.τ).loc Cert.KernelIdeal.main_arg5) : Vec Ideal Cert.KernelIdeal.S1280x4x5 .i8) j : BitVec 8).toNat ≤ 254)
    ∧ (∀ j : Cert.KernelIdeal.S1280x4x5.Idx, 1 ≤ ((m ((c : Thread Cert.KernelIdeal.nD Cert.KernelIdeal.τ).loc Cert.KernelIdeal.main_arg6) : Vec Ideal Cert.KernelIdeal.S1280x4x5 .i8) j : BitVec 8).toNat
      ∧ ((m ((c : Thread Cert.KernelIdeal.nD Cert.KernelIdeal.τ).loc Cert.KernelIdeal.main_arg6) : Vec Ideal Cert.KernelIdeal.S1280x4x5 .i8) j : BitVec 8).toNat ≤ 254)
    ∧ (∀ j : Cert.KernelIdeal.S2048.Idx, ((m ((c : Thread Cert.KernelIdeal.nD Cert.KernelIdeal.τ).loc Cert.KernelIdeal.main_arg11) : Vec Ideal Cert.KernelIdeal.S2048 .i32) j : BitVec 32).toInt ≤ 224) := by
  obtain ⟨h0, h1, h2, h3, h4⟩ := h c
  simp only [Cert.Pre_ranges.fn] at h0 h1 h2 h3 h4
  exact ⟨fun j => ⟨uge_one _ (congrFun h0 j), ule_254 _ (congrFun h1 j)⟩, fun j => ⟨uge_one _ (congrFun h2 j), ule_254 _ (congrFun h3 j)⟩,
    fun j => sle_224 _ (congrFun h4 j)⟩

theorem algebraic : @Cert.algebraic_KernelIdeal_ReferenceIdeal_pre_ranges Cert.KernelIdeal.Gen.facts Cert.ReferenceIdeal.Gen.facts Cert.Pre_ranges.Gen.facts := by
  intro m g m' g' hpre hagree
  refine ⟨fun c => Cert.KernelIdeal.Gen.Val.res m Cert.ReferenceIdeal.Wide.scale0 c,
    Cert.KernelIdeal.Gen.Val.kernel_run m g _ Cert.ReferenceIdeal.Wide.scale0_eq (fun c => (ranges_of m hpre c).1) (fun c => (ranges_of m hpre c).2.1) (fun c => (ranges_of m hpre c).2.2) trivial, ?_⟩
  refine (θ_run Cert.ReferenceIdeal.defs _ _).mono (fun _ h c => ⟨(h c).1.trans ?_, (h c).2⟩) (Cert.ReferenceIdeal.Wide.ref_run m' g')
  obtain ⟨a0, a1, a2, a3, a4, a5, a6, a7, a8, a9, a10, a11⟩ := hagree c
  unfold Cert.ReferenceIdeal.Wide.val Cert.KernelIdeal.Gen.Val.res
  exact congrFun (congr (congr (congr (congr (congr (congr (congr (congr (congr (congr (congr (congrArg (Cert.ReferenceIdeal.Read.val_main_v106 (F := Ideal)) a0) a1) a2) a5) a6) a9) a10) a11)
    (funext fun j => congrFun a3 j)) (funext fun j => congrFun a4 j)) (funext fun j => congrFun a7 j)) (funext fun j => congrFun a8 j)) _

theorem preserves : Cert.preserves_Kernel_KernelIdeal :=
  IdealRules.named_const.statement Cert.KernelIdeal.κ "scale_log2e" .f32 0x3DE995B3#32 (((Real.sqrt 160)⁻¹ * (Real.log 2)⁻¹ : ℝ) : EReal) rfl

end Cert.Proof

end
-- ==== Proof.lean ====
module

public import proofs.«01_k».proof.Defs
public import proofs.«01_k».proof.Proof.Kernel.Frame
public import proofs.«01_k».proof.Proof.KernelIdeal.Frame
public import proofs.«01_k».proof.Proof.Value.Alg
public import proofs.«01_k».proof.Proof.Gen.ReferenceIdeal.Frame
public import proofs.«01_k».proof.Proof.Gen.ReferenceIdeal.Run
public import proofs.«01_k».proof.Proof.Gen.ReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_ranges.Gen.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    preserves, algebraic⟩

end Cert.Proof

end
